-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S36x1024x640 : Shape := ⟨3, ![36, 1024, 640]⟩
abbrev S640 : Shape := ⟨1, ![640]⟩
abbrev S36x640 : Shape := ⟨2, ![36, 640]⟩
abbrev S_ : Shape := ⟨0, ![]⟩

class Facts : Prop where
  bcast_S_S36x1024x640 : S_.BroadcastsInDim S36x1024x640 (![] : Fin 0 → Fin S36x1024x640.rank)
  reducesTo_S36x1024x640_S_d0_1_2 : S36x1024x640.ReducesTo [0, 1, 2] S_
  h_S_ : 0 < S_.numel
  bcast_S_S640 : S_.BroadcastsInDim S640 (![] : Fin 0 → Fin S640.rank)
  reducesTo_S640_S_d0 : S640.ReducesTo [0] S_
  bcast_S_S36x640 : S_.BroadcastsInDim S36x640 (![] : Fin 0 → Fin S36x640.rank)
  reducesTo_S36x640_S_d0_1 : S36x640.ReducesTo [0, 1] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S36x1024x640 .bf16) (main_arg1 : FVec F S640 .f32) (main_arg2 : FVec F S640 .f32) (main_arg3 : FVec F S36x640 .f32) (main_arg4 : FVec F S36x640 .f32) (main_arg5 : FVec F S36x1024x640 .fp8e5m2) (main_arg6 : FVec F S_ .f32) : IVec S_ 1 :=
  let main_v0 : FVec F S36x1024x640 .bf16 := Host.absf main_arg0
  let main_cst : FVec F S_ .bf16 := constant S_ .bf16 0x7F80#16
  let main_v1 : FVec F S36x1024x640 .bf16 := broadcastInDim S36x1024x640 ![] bcast_S_S36x1024x640 main_cst
  let main_v2 : IVec S36x1024x640 1 := cmpf .olt main_v0 main_v1
  let main_c : IVec S_ 1 := constantI S_ 1 1#1
  let main_v3 : IVec S_ 1 := (fun x v => Host.reduce IntOp.andi x v reducesTo_S36x1024x640_S_d0_1_2 h_S_) main_v2 main_c
  let main_v4 : FVec F S640 .f32 := Host.absf main_arg1
  let main_cst_0 : FVec F S_ .f32 := constant S_ .f32 0x7F800000#32
  let main_v5 : FVec F S640 .f32 := broadcastInDim S640 ![] bcast_S_S640 main_cst_0
  let main_v6 : IVec S640 1 := cmpf .olt main_v4 main_v5
  let main_c_1 : IVec S_ 1 := constantI S_ 1 1#1
  let main_v7 : IVec S_ 1 := (fun x v => Host.reduce IntOp.andi x v reducesTo_S640_S_d0 h_S_) main_v6 main_c_1
  let main_v8 : IVec S_ 1 := andi main_v3 main_v7
  let main_v9 : FVec F S36x640 .f32 := Host.absf main_arg3
  let main_cst_2 : FVec F S_ .f32 := constant S_ .f32 0x7F800000#32
  let main_v10 : FVec F S36x640 .f32 := broadcastInDim S36x640 ![] bcast_S_S36x640 main_cst_2
  let main_v11 : IVec S36x640 1 := cmpf .olt main_v9 main_v10
  let main_c_3 : IVec S_ 1 := constantI S_ 1 1#1
  let main_v12 : IVec S_ 1 := (fun x v => Host.reduce IntOp.andi x v reducesTo_S36x640_S_d0_1 h_S_) main_v11 main_c_3
  let main_v13 : IVec S_ 1 := andi main_v8 main_v12
  let main_v14 : FVec F S_ .f32 := Host.absf main_arg6
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S36x1024x640 : Shape := ⟨3, ![36, 1024, 640]⟩
abbrev S640 : Shape := ⟨1, ![640]⟩
abbrev S36x640 : Shape := ⟨2, ![36, 640]⟩
abbrev S_ : Shape := ⟨0, ![]⟩
abbrev S1 : Shape := ⟨1, ![1]⟩
abbrev S1x640 : Shape := ⟨2, ![1, 640]⟩
abbrev S16x640 : Shape := ⟨2, ![16, 640]⟩
abbrev S1x1024x640 : Shape := ⟨3, ![1, 1024, 640]⟩
abbrev S640x640 : Shape := ⟨2, ![640, 640]⟩
abbrev S1024x640 : Shape := ⟨2, ![1024, 640]⟩
abbrev S8x128 : Shape := ⟨2, ![8, 128]⟩
abbrev S1x64x128 : Shape := ⟨3, ![1, 64, 128]⟩
abbrev S64x128 : Shape := ⟨2, ![64, 128]⟩
abbrev S8x640 : Shape := ⟨2, ![8, 640]⟩
abbrev S32x640 : Shape := ⟨2, ![32, 640]⟩
abbrev S1x128 : Shape := ⟨2, ![1, 128]⟩
abbrev S16x128 : Shape := ⟨2, ![16, 128]⟩

abbrev nBuf : Space → Nat
  | .hbm => 16
  | .vmem => 17
  | .smem => 1
  | _ => 0

abbrev bufTy : (tb : Table) → Fin (tcTables nBuf tb) → BufTy
  | .hbm, ⟨0, _⟩ => ⟨S36x1024x640, .bf16⟩
  | .hbm, ⟨1, _⟩ => ⟨S640, .f32⟩
  | .hbm, ⟨2, _⟩ => ⟨S640, .f32⟩
  | .hbm, ⟨3, _⟩ => ⟨S36x640, .f32⟩
  | .hbm, ⟨4, _⟩ => ⟨S36x640, .f32⟩
  | .hbm, ⟨5, _⟩ => ⟨S36x1024x640, .fp8e5m2⟩
  | .hbm, ⟨6, _⟩ => ⟨S_, .f32⟩
  | .hbm, ⟨7, _⟩ => ⟨S1, .f32⟩
  | .hbm, ⟨8, _⟩ => ⟨S1x640, .f32⟩
  | .hbm, ⟨9, _⟩ => ⟨S1x640, .f32⟩
  | .hbm, ⟨10, _⟩ => ⟨S36x1024x640, .bf16⟩
  | .hbm, ⟨11, _⟩ => ⟨S16x640, .f32⟩
  | .hbm, ⟨12, _⟩ => ⟨S1x640, .f32⟩
  | .hbm, ⟨13, _⟩ => ⟨S1x640, .f32⟩
  | .hbm, ⟨14, _⟩ => ⟨S36x640, .f32⟩
  | .hbm, ⟨15, _⟩ => ⟨S36x640, .f32⟩
  | .local _ .vmem, ⟨0, _⟩ => ⟨S1x1024x640, .bf16⟩
  | .local _ .vmem, ⟨1, _⟩ => ⟨S1x1024x640, .bf16⟩
  | .local _ .vmem, ⟨2, _⟩ => ⟨S1x1024x640, .fp8e5m2⟩
  | .local _ .vmem, ⟨3, _⟩ => ⟨S1x1024x640, .fp8e5m2⟩
  | .local _ .vmem, ⟨4, _⟩ => ⟨S1x640, .f32⟩
  | .local _ .vmem, ⟨5, _⟩ => ⟨S1x640, .f32⟩
  | .local _ .vmem, ⟨6, _⟩ => ⟨S36x640, .f32⟩
  | .local _ .vmem, ⟨7, _⟩ => ⟨S36x640, .f32⟩
  | .local _ .vmem, ⟨8, _⟩ => ⟨S1x1024x640, .bf16⟩
  | .local _ .vmem, ⟨9, _⟩ => ⟨S1x1024x640, .bf16⟩
  | .local _ .vmem, ⟨10, _⟩ => ⟨S16x640, .f32⟩
  | .local _ .vmem, ⟨11, _⟩ => ⟨S1x640, .f32⟩
  | .local _ .vmem, ⟨12, _⟩ => ⟨S1x640, .f32⟩
  | .local _ .vmem, ⟨13, _⟩ => ⟨S36x640, .f32⟩
  | .local _ .vmem, ⟨14, _⟩ => ⟨S36x640, .f32⟩
  | .local _ .vmem, ⟨15, _⟩ => ⟨S640x640, .bf16⟩
  | .local _ .vmem, ⟨16, _⟩ => ⟨S1024x640, .f32⟩
  | .local _ .smem, ⟨0, _⟩ => ⟨S1, .f32⟩
  | _, _ => ⟨S36x1024x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![36], ![false]⟩

@[reducible] def k0_t1_loop : Scf.Loop 32 :=
  let c0_i32_3 : BitVec 32 := 0#32
  let c16_i32 : BitVec 32 := 16#32
  let v6 : BitVec 32 := Scalar.addi c0_i32_3 c16_i32
  let c1_i32 : BitVec 32 := 1#32
  ⟨c0_i32_3, v6, c1_i32⟩
def k0_mult1 (k0_t1 : Fin k0_t1_loop.trips) : BitVec 32 :=
  let c0_i32_3 : BitVec 32 := 0#32
  let c1_i32 : BitVec 32 := 1#32
  let arg16 : BitVec 32 := Scf.iv c0_i32_3 c1_i32 k0_t1
  let c64_i32 : BitVec 32 := 64#32
  let v212 : BitVec 32 := Scalar.muli arg16 c64_i32
  v212
def k0_off1 (k0_t1 : Fin k0_t1_loop.trips) : Fin 3 → Nat :=
  let c0_126 : Index := 0#32
  let c0_i32_3 : BitVec 32 := 0#32
  let c1_i32 : BitVec 32 := 1#32
  let arg16 : BitVec 32 := Scf.iv c0_i32_3 c1_i32 k0_t1
  let c64_i32 : BitVec 32 := 64#32
  let v212 : BitVec 32 := Scalar.muli arg16 c64_i32
  let v213 : BitVec 32 := v212
  let v214 : Index := Scalar.indexCast v213
  let c0_127 : Index := 0#32
  ![0, v214.toNat, 0]
@[reducible] def k0_t2_loop : Scf.Loop 32 :=
  let c0_i32_5 : BitVec 32 := 0#32
  let c16_i32_6 : BitVec 32 := 16#32
  let v8 : BitVec 32 := Scalar.addi c0_i32_5 c16_i32_6
  let c1_i32_7 : BitVec 32 := 1#32
  ⟨c0_i32_5, v8, c1_i32_7⟩
def k0_mult2 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c64_i32 : BitVec 32 := 64#32
  let v212 : BitVec 32 := Scalar.muli arg16 c64_i32
  v212
def k0_off2 (k0_t2 : Fin k0_t2_loop.trips) : Fin 3 → Nat :=
  let c0_126 : Index := 0#32
  let c0_i32_5 : BitVec 32 := 0#32
  let c1_i32_7 : BitVec 32 := 1#32
  let arg16 : BitVec 32 := Scf.iv c0_i32_5 c1_i32_7 k0_t2
  let c64_i32 : BitVec 32 := 64#32
  let v212 : BitVec 32 := Scalar.muli arg16 c64_i32
  let v213 : BitVec 32 := v212
  let v214 : Index := Scalar.indexCast v213
  let c128 : Index := 128#32
  ![0, v214.toNat, 128]
@[reducible] def k0_t3_loop : Scf.Loop 32 :=
  let c0_i32_9 : BitVec 32 := 0#32
  let c16_i32_10 : BitVec 32 := 16#32
  let v10 : BitVec 32 := Scalar.addi c0_i32_9 c16_i32_10
  let c1_i32_11 : BitVec 32 := 1#32
  ⟨c0_i32_9, v10, c1_i32_11⟩
def k0_mult3 (k0_t3 : Fin k0_t3_loop.trips) : BitVec 32 :=
  let c0_i32_9 : BitVec 32 := 0#32
  let c1_i32_11 : BitVec 32 := 1#32
  let arg16 : BitVec 32 := Scf.iv c0_i32_9 c1_i32_11 k0_t3
  let c64_i32 : BitVec 32 := 64#32
  let v212 : BitVec 32 := Scalar.muli arg16 c64_i32
  v212
def k0_off3 (k0_t3 : Fin k0_t3_loop.trips) : Fin 3 → Nat :=
  let c0_126 : Index := 0#32
  let c0_i32_9 : BitVec 32 := 0#32
  let c1_i32_11 : BitVec 32 := 1#32
  let arg16 : BitVec 32 := Scf.iv c0_i32_9 c1_i32_11 k0_t3
  let c64_i32 : BitVec 32 := 64#32
  let v212 : BitVec 32 := Scalar.muli arg16 c64_i32
  let v213 : BitVec 32 := v212
  let v214 : Index := Scalar.indexCast v213
  let c256 : Index := 256#32
  ![0, v214.toNat, 256]
@[reducible] def k0_t4_loop : Scf.Loop 32 :=
  let c0_i32_13 : BitVec 32 := 0#32
  let c16_i32_14 : BitVec 32 := 16#32
  let v12 : BitVec 32 := Scalar.addi c0_i32_13 c16_i32_14
  let c1_i32_15 : BitVec 32 := 1#32
  ⟨c0_i32_13, v12, c1_i32_15⟩
def k0_mult4 (k0_t4 : Fin k0_t4_loop.trips) : BitVec 32 :=
  let c0_i32_13 : BitVec 32 := 0#32
  let c1_i32_15 : BitVec 32 := 1#32
  let arg16 : BitVec 32 := Scf.iv c0_i32_13 c1_i32_15 k0_t4
  let c64_i32 : BitVec 32 := 64#32
  let v212 : BitVec 32 := Scalar.muli arg16 c64_i32
  v212
def k0_off4 (k0_t4 : Fin k0_t4_loop.trips) : Fin 3 → Nat :=
  let c0_126 : Index := 0#32
  let c0_i32_13 : BitVec 32 := 0#32
  let c1_i32_15 : BitVec 32 := 1#32
  let arg16 : BitVec 32 := Scf.iv c0_i32_13 c1_i32_15 k0_t4
  let c64_i32 : BitVec 32 := 64#32
  let v212 : BitVec 32 := Scalar.muli arg16 c64_i32
  let v213 : BitVec 32 := v212
  let v214 : Index := Scalar.indexCast v213
  let c384 : Index := 384#32
  ![0, v214.toNat, 384]
@[reducible] def k0_t5_loop : Scf.Loop 32 :=
  let c0_i32_17 : BitVec 32 := 0#32
  let c16_i32_18 : BitVec 32 := 16#32
  let v14 : BitVec 32 := Scalar.addi c0_i32_17 c16_i32_18
  let c1_i32_19 : BitVec 32 := 1#32
  ⟨c0_i32_17, v14, c1_i32_19⟩
def k0_mult5 (k0_t5 : Fin k0_t5_loop.trips) : BitVec 32 :=
  let c0_i32_17 : BitVec 32 := 0#32
  let c1_i32_19 : BitVec 32 := 1#32
  let arg16 : BitVec 32 := Scf.iv c0_i32_17 c1_i32_19 k0_t5
  let c64_i32 : BitVec 32 := 64#32
  let v212 : BitVec 32 := Scalar.muli arg16 c64_i32
  v212
def k0_off5 (k0_t5 : Fin k0_t5_loop.trips) : Fin 3 → Nat :=
  let c0_126 : Index := 0#32
  let c0_i32_17 : BitVec 32 := 0#32
  let c1_i32_19 : BitVec 32 := 1#32
  let arg16 : BitVec 32 := Scf.iv c0_i32_17 c1_i32_19 k0_t5
  let c64_i32 : BitVec 32 := 64#32
  let v212 : BitVec 32 := Scalar.muli arg16 c64_i32
  let v213 : BitVec 32 := v212
  let v214 : Index := Scalar.indexCast v213
  let c512 : Index := 512#32
  ![0, v214.toNat, 512]
@[reducible] def k0_t6_loop : Scf.Loop 32 :=
  let c0_i32_25 : BitVec 32 := 0#32
  let c16_i32_26 : BitVec 32 := 16#32
  let v32 : BitVec 32 := Scalar.addi c0_i32_25 c16_i32_26
  let c1_i32_27 : BitVec 32 := 1#32
  ⟨c0_i32_25, v32, c1_i32_27⟩
def k0_mult6 (k0_t6 : Fin k0_t6_loop.trips) : BitVec 32 :=
  let c0_i32_25 : BitVec 32 := 0#32
  let c1_i32_27 : BitVec 32 := 1#32
  let arg16 : BitVec 32 := Scf.iv c0_i32_25 c1_i32_27 k0_t6
  let c64_i32 : BitVec 32 := 64#32
  let v212 : BitVec 32 := Scalar.muli arg16 c64_i32
  v212
def k0_off6 (k0_t6 : Fin k0_t6_loop.trips) : Fin 3 → Nat :=
  let c0_126 : Index := 0#32
  let c0_i32_25 : BitVec 32 := 0#32
  let c1_i32_27 : BitVec 32 := 1#32
  let arg16 : BitVec 32 := Scf.iv c0_i32_25 c1_i32_27 k0_t6
  let c64_i32 : BitVec 32 := 64#32
  let v212 : BitVec 32 := Scalar.muli arg16 c64_i32
  let v213 : BitVec 32 := v212
  let v214 : Index := Scalar.indexCast v213
  let c0_127 : Index := 0#32
  ![0, v214.toNat, 0]
@[reducible] def k0_t7_loop : Scf.Loop 32 :=
  let c0_i32_29 : BitVec 32 := 0#32
  let c16_i32_30 : BitVec 32 := 16#32
  let v35 : BitVec 32 := Scalar.addi c0_i32_29 c16_i32_30
  let c1_i32_31 : BitVec 32 := 1#32
  ⟨c0_i32_29, v35, c1_i32_31⟩
def k0_mult7 (k0_t7 : Fin k0_t7_loop.trips) : BitVec 32 :=
  let c0_i32_29 : BitVec 32 := 0#32
  let c1_i32_31 : BitVec 32 := 1#32
  let arg16 : BitVec 32 := Scf.iv c0_i32_29 c1_i32_31 k0_t7
  let c64_i32 : BitVec 32 := 64#32
  let v212 : BitVec 32 := Scalar.muli arg16 c64_i32
  v212
def k0_off7 (k0_t7 : Fin k0_t7_loop.trips) : Fin 3 → Nat :=
  let c0_126 : Index := 0#32
  let c0_i32_29 : BitVec 32 := 0#32
  let c1_i32_31 : BitVec 32 := 1#32
  let arg16 : BitVec 32 := Scf.iv c0_i32_29 c1_i32_31 k0_t7
  let c64_i32 : BitVec 32 := 64#32
  let v212 : BitVec 32 := Scalar.muli arg16 c64_i32
  let v213 : BitVec 32 := v212
  let v214 : Index := Scalar.indexCast v213
  let c128 : Index := 128#32
  ![0, v214.toNat, 128]
@[reducible] def k0_t8_loop : Scf.Loop 32 :=
  let c0_i32_33 : BitVec 32 := 0#32
  let c16_i32_34 : BitVec 32 := 16#32
  let v38 : BitVec 32 := Scalar.addi c0_i32_33 c16_i32_34
  let c1_i32_35 : BitVec 32 := 1#32
  ⟨c0_i32_33, v38, c1_i32_35⟩
def k0_mult8 (k0_t8 : Fin k0_t8_loop.trips) : BitVec 32 :=
  let c0_i32_33 : BitVec 32 := 0#32
  let c1_i32_35 : BitVec 32 := 1#32
  let arg16 : BitVec 32 := Scf.iv c0_i32_33 c1_i32_35 k0_t8
  let c64_i32 : BitVec 32 := 64#32
  let v212 : BitVec 32 := Scalar.muli arg16 c64_i32
  v212
def k0_off8 (k0_t8 : Fin k0_t8_loop.trips) : Fin 3 → Nat :=
  let c0_126 : Index := 0#32
  let c0_i32_33 : BitVec 32 := 0#32
  let c1_i32_35 : BitVec 32 := 1#32
  let arg16 : BitVec 32 := Scf.iv c0_i32_33 c1_i32_35 k0_t8
  let c64_i32 : BitVec 32 := 64#32
  let v212 : BitVec 32 := Scalar.muli arg16 c64_i32
  let v213 : BitVec 32 := v212
  let v214 : Index := Scalar.indexCast v213
  let c256 : Index := 256#32
  ![0, v214.toNat, 256]
@[reducible] def k0_t9_loop : Scf.Loop 32 :=
  let c0_i32_37 : BitVec 32 := 0#32
  let c16_i32_38 : BitVec 32 := 16#32
  let v41 : BitVec 32 := Scalar.addi c0_i32_37 c16_i32_38
  let c1_i32_39 : BitVec 32 := 1#32
  ⟨c0_i32_37, v41, c1_i32_39⟩
def k0_mult9 (k0_t9 : Fin k0_t9_loop.trips) : BitVec 32 :=
  let c0_i32_37 : BitVec 32 := 0#32
  let c1_i32_39 : BitVec 32 := 1#32
  let arg16 : BitVec 32 := Scf.iv c0_i32_37 c1_i32_39 k0_t9
  let c64_i32 : BitVec 32 := 64#32
  let v212 : BitVec 32 := Scalar.muli arg16 c64_i32
  v212
def k0_off9 (k0_t9 : Fin k0_t9_loop.trips) : Fin 3 → Nat :=
  let c0_126 : Index := 0#32
  let c0_i32_37 : BitVec 32 := 0#32
  let c1_i32_39 : BitVec 32 := 1#32
  let arg16 : BitVec 32 := Scf.iv c0_i32_37 c1_i32_39 k0_t9
  let c64_i32 : BitVec 32 := 64#32
  let v212 : BitVec 32 := Scalar.muli arg16 c64_i32
  let v213 : BitVec 32 := v212
  let v214 : Index := Scalar.indexCast v213
  let c384 : Index := 384#32
  ![0, v214.toNat, 384]
@[reducible] def k0_t10_loop : Scf.Loop 32 :=
  let c0_i32_41 : BitVec 32 := 0#32
  let c16_i32_42 : BitVec 32 := 16#32
  let v44 : BitVec 32 := Scalar.addi c0_i32_41 c16_i32_42
  let c1_i32_43 : BitVec 32 := 1#32
  ⟨c0_i32_41, v44, c1_i32_43⟩
def k0_mult10 (k0_t10 : Fin k0_t10_loop.trips) : BitVec 32 :=
  let c0_i32_41 : BitVec 32 := 0#32
  let c1_i32_43 : BitVec 32 := 1#32
  let arg16 : BitVec 32 := Scf.iv c0_i32_41 c1_i32_43 k0_t10
  let c64_i32 : BitVec 32 := 64#32
  let v212 : BitVec 32 := Scalar.muli arg16 c64_i32
  v212
def k0_off10 (k0_t10 : Fin k0_t10_loop.trips) : Fin 3 → Nat :=
  let c0_126 : Index := 0#32
  let c0_i32_41 : BitVec 32 := 0#32
  let c1_i32_43 : BitVec 32 := 1#32
  let arg16 : BitVec 32 := Scf.iv c0_i32_41 c1_i32_43 k0_t10
  let c64_i32 : BitVec 32 := 64#32
  let v212 : BitVec 32 := Scalar.muli arg16 c64_i32
  let v213 : BitVec 32 := v212
  let v214 : Index := Scalar.indexCast v213
  let c512 : Index := 512#32
  ![0, v214.toNat, 512]
def k0_off11 (i : grid0.Coords) : Fin 2 → Nat :=
  let arg0 : BitVec 32 := BitVec.ofNat 32 (i 0).val
  let v68 : Index := Scalar.indexCast arg0
  let c0_54 : Index := 0#32
  ![v68.toNat, 0]
@[reducible] def k0_t11_loop : Scf.Loop 32 :=
  let c0_i32_57 : BitVec 32 := 0#32
  let c16_i32_58 : BitVec 32 := 16#32
  let v81 : BitVec 32 := Scalar.addi c0_i32_57 c16_i32_58
  let c1_i32_59 : BitVec 32 := 1#32
  ⟨c0_i32_57, v81, c1_i32_59⟩
def k0_mult11 (k0_t11 : Fin k0_t11_loop.trips) : BitVec 32 :=
  let c0_i32_57 : BitVec 32 := 0#32
  let c1_i32_59 : BitVec 32 := 1#32
  let arg16 : BitVec 32 := Scf.iv c0_i32_57 c1_i32_59 k0_t11
  let c64_i32 : BitVec 32 := 64#32
  let v212 : BitVec 32 := Scalar.muli arg16 c64_i32
  v212
def k0_off12 (k0_t11 : Fin k0_t11_loop.trips) : Fin 3 → Nat :=
  let c0_126 : Index := 0#32
  let c0_i32_57 : BitVec 32 := 0#32
  let c1_i32_59 : BitVec 32 := 1#32
  let arg16 : BitVec 32 := Scf.iv c0_i32_57 c1_i32_59 k0_t11
  let c64_i32 : BitVec 32 := 64#32
  let v212 : BitVec 32 := Scalar.muli arg16 c64_i32
  let v213 : BitVec 32 := v212
  let v214 : Index := Scalar.indexCast v213
  let c0_127 : Index := 0#32
  ![0, v214.toNat, 0]
def k0_mult12 (k0_t11 : Fin k0_t11_loop.trips) : BitVec 32 :=
  let c0_i32_57 : BitVec 32 := 0#32
  let c1_i32_59 : BitVec 32 := 1#32
  let arg16 : BitVec 32 := Scf.iv c0_i32_57 c1_i32_59 k0_t11
  let c64_i32_130 : BitVec 32 := 64#32
  let v231 : BitVec 32 := Scalar.muli arg16 c64_i32_130
  v231
def k0_mult13 (k0_t11 : Fin k0_t11_loop.trips) : BitVec 32 :=
  let c0_i32_57 : BitVec 32 := 0#32
  let c1_i32_59 : BitVec 32 := 1#32
  let arg16 : BitVec 32 := Scf.iv c0_i32_57 c1_i32_59 k0_t11
  let c64_i32_135 : BitVec 32 := 64#32
  let v242 : BitVec 32 := Scalar.muli arg16 c64_i32_135
  v242
def k0_off13 (k0_t11 : Fin k0_t11_loop.trips) : Fin 2 → Nat :=
  let c0_i32_57 : BitVec 32 := 0#32
  let c1_i32_59 : BitVec 32 := 1#32
  let arg16 : BitVec 32 := Scf.iv c0_i32_57 c1_i32_59 k0_t11
  let c64_i32_135 : BitVec 32 := 64#32
  let v242 : BitVec 32 := Scalar.muli arg16 c64_i32_135
  let v243 : BitVec 32 := v242
  let v244 : Index := Scalar.indexCast v243
  let c0_136 : Index := 0#32
  ![v244.toNat, 0]
@[reducible] def k0_t12_loop : Scf.Loop 32 :=
  let c0_i32_61 : BitVec 32 := 0#32
  let c16_i32_62 : BitVec 32 := 16#32
  let v86 : BitVec 32 := Scalar.addi c0_i32_61 c16_i32_62
  let c1_i32_63 : BitVec 32 := 1#32
  ⟨c0_i32_61, v86, c1_i32_63⟩
def k0_mult14 (k0_t12 : Fin k0_t12_loop.trips) : BitVec 32 :=
  let c0_i32_61 : BitVec 32 := 0#32
  let c1_i32_63 : BitVec 32 := 1#32
  let arg16 : BitVec 32 := Scf.iv c0_i32_61 c1_i32_63 k0_t12
  let c64_i32 : BitVec 32 := 64#32
  let v212 : BitVec 32 := Scalar.muli arg16 c64_i32
  v212
def k0_off14 (k0_t12 : Fin k0_t12_loop.trips) : Fin 3 → Nat :=
  let c0_126 : Index := 0#32
  let c0_i32_61 : BitVec 32 := 0#32
  let c1_i32_63 : BitVec 32 := 1#32
  let arg16 : BitVec 32 := Scf.iv c0_i32_61 c1_i32_63 k0_t12
  let c64_i32 : BitVec 32 := 64#32
  let v212 : BitVec 32 := Scalar.muli arg16 c64_i32
  let v213 : BitVec 32 := v212
  let v214 : Index := Scalar.indexCast v213
  let c128 : Index := 128#32
  ![0, v214.toNat, 128]
def k0_mult15 (k0_t12 : Fin k0_t12_loop.trips) : BitVec 32 :=
  let c0_i32_61 : BitVec 32 := 0#32
  let c1_i32_63 : BitVec 32 := 1#32
  let arg16 : BitVec 32 := Scf.iv c0_i32_61 c1_i32_63 k0_t12
  let c64_i32_129 : BitVec 32 := 64#32
  let v231 : BitVec 32 := Scalar.muli arg16 c64_i32_129
  v231
def k0_mult16 (k0_t12 : Fin k0_t12_loop.trips) : BitVec 32 :=
  let c0_i32_61 : BitVec 32 := 0#32
  let c1_i32_63 : BitVec 32 := 1#32
  let arg16 : BitVec 32 := Scf.iv c0_i32_61 c1_i32_63 k0_t12
  let c64_i32_134 : BitVec 32 := 64#32
  let v242 : BitVec 32 := Scalar.muli arg16 c64_i32_134
  v242
def k0_off15 (k0_t12 : Fin k0_t12_loop.trips) : Fin 2 → Nat :=
  let c0_i32_61 : BitVec 32 := 0#32
  let c1_i32_63 : BitVec 32 := 1#32
  let arg16 : BitVec 32 := Scf.iv c0_i32_61 c1_i32_63 k0_t12
  let c64_i32_134 : BitVec 32 := 64#32
  let v242 : BitVec 32 := Scalar.muli arg16 c64_i32_134
  let v243 : BitVec 32 := v242
  let v244 : Index := Scalar.indexCast v243
  let c128_135 : Index := 128#32
  ![v244.toNat, 128]
@[reducible] def k0_t13_loop : Scf.Loop 32 :=
  let c0_i32_65 : BitVec 32 := 0#32
  let c16_i32_66 : BitVec 32 := 16#32
  let v91 : BitVec 32 := Scalar.addi c0_i32_65 c16_i32_66
  let c1_i32_67 : BitVec 32 := 1#32
  ⟨c0_i32_65, v91, c1_i32_67⟩
def k0_mult17 (k0_t13 : Fin k0_t13_loop.trips) : BitVec 32 :=
  let c0_i32_65 : BitVec 32 := 0#32
  let c1_i32_67 : BitVec 32 := 1#32
  let arg16 : BitVec 32 := Scf.iv c0_i32_65 c1_i32_67 k0_t13
  let c64_i32 : BitVec 32 := 64#32
  let v212 : BitVec 32 := Scalar.muli arg16 c64_i32
  v212
def k0_off16 (k0_t13 : Fin k0_t13_loop.trips) : Fin 3 → Nat :=
  let c0_126 : Index := 0#32
  let c0_i32_65 : BitVec 32 := 0#32
  let c1_i32_67 : BitVec 32 := 1#32
  let arg16 : BitVec 32 := Scf.iv c0_i32_65 c1_i32_67 k0_t13
  let c64_i32 : BitVec 32 := 64#32
  let v212 : BitVec 32 := Scalar.muli arg16 c64_i32
  let v213 : BitVec 32 := v212
  let v214 : Index := Scalar.indexCast v213
  let c256 : Index := 256#32
  ![0, v214.toNat, 256]
def k0_mult18 (k0_t13 : Fin k0_t13_loop.trips) : BitVec 32 :=
  let c0_i32_65 : BitVec 32 := 0#32
  let c1_i32_67 : BitVec 32 := 1#32
  let arg16 : BitVec 32 := Scf.iv c0_i32_65 c1_i32_67 k0_t13
  let c64_i32_129 : BitVec 32 := 64#32
  let v231 : BitVec 32 := Scalar.muli arg16 c64_i32_129
  v231
def k0_mult19 (k0_t13 : Fin k0_t13_loop.trips) : BitVec 32 :=
  let c0_i32_65 : BitVec 32 := 0#32
  let c1_i32_67 : BitVec 32 := 1#32
  let arg16 : BitVec 32 := Scf.iv c0_i32_65 c1_i32_67 k0_t13
  let c64_i32_134 : BitVec 32 := 64#32
  let v242 : BitVec 32 := Scalar.muli arg16 c64_i32_134
  v242
def k0_off17 (k0_t13 : Fin k0_t13_loop.trips) : Fin 2 → Nat :=
  let c0_i32_65 : BitVec 32 := 0#32
  let c1_i32_67 : BitVec 32 := 1#32
  let arg16 : BitVec 32 := Scf.iv c0_i32_65 c1_i32_67 k0_t13
  let c64_i32_134 : BitVec 32 := 64#32
  let v242 : BitVec 32 := Scalar.muli arg16 c64_i32_134
  let v243 : BitVec 32 := v242
  let v244 : Index := Scalar.indexCast v243
  let c256_135 : Index := 256#32
  ![v244.toNat, 256]
@[reducible] def k0_t14_loop : Scf.Loop 32 :=
  let c0_i32_69 : BitVec 32 := 0#32
  let c16_i32_70 : BitVec 32 := 16#32
  let v96 : BitVec 32 := Scalar.addi c0_i32_69 c16_i32_70
  let c1_i32_71 : BitVec 32 := 1#32
  ⟨c0_i32_69, v96, c1_i32_71⟩
def k0_mult20 (k0_t14 : Fin k0_t14_loop.trips) : BitVec 32 :=
  let c0_i32_69 : BitVec 32 := 0#32
  let c1_i32_71 : BitVec 32 := 1#32
  let arg16 : BitVec 32 := Scf.iv c0_i32_69 c1_i32_71 k0_t14
  let c64_i32 : BitVec 32 := 64#32
  let v212 : BitVec 32 := Scalar.muli arg16 c64_i32
  v212
def k0_off18 (k0_t14 : Fin k0_t14_loop.trips) : Fin 3 → Nat :=
  let c0_126 : Index := 0#32
  let c0_i32_69 : BitVec 32 := 0#32
  let c1_i32_71 : BitVec 32 := 1#32
  let arg16 : BitVec 32 := Scf.iv c0_i32_69 c1_i32_71 k0_t14
  let c64_i32 : BitVec 32 := 64#32
  let v212 : BitVec 32 := Scalar.muli arg16 c64_i32
  let v213 : BitVec 32 := v212
  let v214 : Index := Scalar.indexCast v213
  let c384 : Index := 384#32
  ![0, v214.toNat, 384]
def k0_mult21 (k0_t14 : Fin k0_t14_loop.trips) : BitVec 32 :=
  let c0_i32_69 : BitVec 32 := 0#32
  let c1_i32_71 : BitVec 32 := 1#32
  let arg16 : BitVec 32 := Scf.iv c0_i32_69 c1_i32_71 k0_t14
  let c64_i32_129 : BitVec 32 := 64#32
  let v231 : BitVec 32 := Scalar.muli arg16 c64_i32_129
  v231
def k0_mult22 (k0_t14 : Fin k0_t14_loop.trips) : BitVec 32 :=
  let c0_i32_69 : BitVec 32 := 0#32
  let c1_i32_71 : BitVec 32 := 1#32
  let arg16 : BitVec 32 := Scf.iv c0_i32_69 c1_i32_71 k0_t14
  let c64_i32_134 : BitVec 32 := 64#32
  let v242 : BitVec 32 := Scalar.muli arg16 c64_i32_134
  v242
def k0_off19 (k0_t14 : Fin k0_t14_loop.trips) : Fin 2 → Nat :=
  let c0_i32_69 : BitVec 32 := 0#32
  let c1_i32_71 : BitVec 32 := 1#32
  let arg16 : BitVec 32 := Scf.iv c0_i32_69 c1_i32_71 k0_t14
  let c64_i32_134 : BitVec 32 := 64#32
  let v242 : BitVec 32 := Scalar.muli arg16 c64_i32_134
  let v243 : BitVec 32 := v242
  let v244 : Index := Scalar.indexCast v243
  let c384_135 : Index := 384#32
  ![v244.toNat, 384]
@[reducible] def k0_t15_loop : Scf.Loop 32 :=
  let c0_i32_73 : BitVec 32 := 0#32
  let c16_i32_74 : BitVec 32 := 16#32
  let v101 : BitVec 32 := Scalar.addi c0_i32_73 c16_i32_74
  let c1_i32_75 : BitVec 32 := 1#32
  ⟨c0_i32_73, v101, c1_i32_75⟩
def k0_mult23 (k0_t15 : Fin k0_t15_loop.trips) : BitVec 32 :=
  let c0_i32_73 : BitVec 32 := 0#32
  let c1_i32_75 : BitVec 32 := 1#32
  let arg16 : BitVec 32 := Scf.iv c0_i32_73 c1_i32_75 k0_t15
  let c64_i32 : BitVec 32 := 64#32
  let v212 : BitVec 32 := Scalar.muli arg16 c64_i32
  v212
def k0_off20 (k0_t15 : Fin k0_t15_loop.trips) : Fin 3 → Nat :=
  let c0_126 : Index := 0#32
  let c0_i32_73 : BitVec 32 := 0#32
  let c1_i32_75 : BitVec 32 := 1#32
  let arg16 : BitVec 32 := Scf.iv c0_i32_73 c1_i32_75 k0_t15
  let c64_i32 : BitVec 32 := 64#32
  let v212 : BitVec 32 := Scalar.muli arg16 c64_i32
  let v213 : BitVec 32 := v212
  let v214 : Index := Scalar.indexCast v213
  let c512 : Index := 512#32
  ![0, v214.toNat, 512]
def k0_mult24 (k0_t15 : Fin k0_t15_loop.trips) : BitVec 32 :=
  let c0_i32_73 : BitVec 32 := 0#32
  let c1_i32_75 : BitVec 32 := 1#32
  let arg16 : BitVec 32 := Scf.iv c0_i32_73 c1_i32_75 k0_t15
  let c64_i32_129 : BitVec 32 := 64#32
  let v231 : BitVec 32 := Scalar.muli arg16 c64_i32_129
  v231
def k0_mult25 (k0_t15 : Fin k0_t15_loop.trips) : BitVec 32 :=
  let c0_i32_73 : BitVec 32 := 0#32
  let c1_i32_75 : BitVec 32 := 1#32
  let arg16 : BitVec 32 := Scf.iv c0_i32_73 c1_i32_75 k0_t15
  let c64_i32_134 : BitVec 32 := 64#32
  let v242 : BitVec 32 := Scalar.muli arg16 c64_i32_134
  v242
def k0_off21 (k0_t15 : Fin k0_t15_loop.trips) : Fin 2 → Nat :=
  let c0_i32_73 : BitVec 32 := 0#32
  let c1_i32_75 : BitVec 32 := 1#32
  let arg16 : BitVec 32 := Scf.iv c0_i32_73 c1_i32_75 k0_t15
  let c64_i32_134 : BitVec 32 := 64#32
  let v242 : BitVec 32 := Scalar.muli arg16 c64_i32_134
  let v243 : BitVec 32 := v242
  let v244 : Index := Scalar.indexCast v243
  let c512_135 : Index := 512#32
  ![v244.toNat, 512]
@[reducible] def k0_t16_loop : Scf.Loop 32 :=
  let c0_i32_98 : BitVec 32 := 0#32
  let c16_i32_99 : BitVec 32 := 16#32
  let v176 : BitVec 32 := Scalar.addi c0_i32_98 c16_i32_99
  let c1_i32_100 : BitVec 32 := 1#32
  ⟨c0_i32_98, v176, c1_i32_100⟩
def k0_mult26 (k0_t16 : Fin k0_t16_loop.trips) : BitVec 32 :=
  let c0_i32_98 : BitVec 32 := 0#32
  let c1_i32_100 : BitVec 32 := 1#32
  let arg16 : BitVec 32 := Scf.iv c0_i32_98 c1_i32_100 k0_t16
  let c64_i32 : BitVec 32 := 64#32
  let v212 : BitVec 32 := Scalar.muli arg16 c64_i32
  v212
def k0_off22 (k0_t16 : Fin k0_t16_loop.trips) : Fin 3 → Nat :=
  let c0_126 : Index := 0#32
  let c0_i32_98 : BitVec 32 := 0#32
  let c1_i32_100 : BitVec 32 := 1#32
  let arg16 : BitVec 32 := Scf.iv c0_i32_98 c1_i32_100 k0_t16
  let c64_i32 : BitVec 32 := 64#32
  let v212 : BitVec 32 := Scalar.muli arg16 c64_i32
  let v213 : BitVec 32 := v212
  let v214 : Index := Scalar.indexCast v213
  let c0_127 : Index := 0#32
  ![0, v214.toNat, 0]
def k0_mult27 (k0_t16 : Fin k0_t16_loop.trips) : BitVec 32 :=
  let c0_i32_98 : BitVec 32 := 0#32
  let c1_i32_100 : BitVec 32 := 1#32
  let arg16 : BitVec 32 := Scf.iv c0_i32_98 c1_i32_100 k0_t16
  let c64_i32_128 : BitVec 32 := 64#32
  let v220 : BitVec 32 := Scalar.muli arg16 c64_i32_128
  v220
def k0_off23 (k0_t16 : Fin k0_t16_loop.trips) : Fin 2 → Nat :=
  let c0_i32_98 : BitVec 32 := 0#32
  let c1_i32_100 : BitVec 32 := 1#32
  let arg16 : BitVec 32 := Scf.iv c0_i32_98 c1_i32_100 k0_t16
  let c64_i32_128 : BitVec 32 := 64#32
  let v220 : BitVec 32 := Scalar.muli arg16 c64_i32_128
  let v221 : BitVec 32 := v220
  let v222 : Index := Scalar.indexCast v221
  let c0_129 : Index := 0#32
  ![v222.toNat, 0]
def k0_mult28 (k0_t16 : Fin k0_t16_loop.trips) : BitVec 32 :=
  let c0_i32_98 : BitVec 32 := 0#32
  let c1_i32_100 : BitVec 32 := 1#32
  let arg16 : BitVec 32 := Scf.iv c0_i32_98 c1_i32_100 k0_t16
  let c64_i32_130 : BitVec 32 := 64#32
  let v232 : BitVec 32 := Scalar.muli arg16 c64_i32_130
  v232
@[reducible] def k0_t17_loop : Scf.Loop 32 :=
  let c0_i32_103 : BitVec 32 := 0#32
  let c16_i32_104 : BitVec 32 := 16#32
  let v183 : BitVec 32 := Scalar.addi c0_i32_103 c16_i32_104
  let c1_i32_105 : BitVec 32 := 1#32
  ⟨c0_i32_103, v183, c1_i32_105⟩
def k0_mult29 (k0_t17 : Fin k0_t17_loop.trips) : BitVec 32 :=
  let c0_i32_103 : BitVec 32 := 0#32
  let c1_i32_105 : BitVec 32 := 1#32
  let arg16 : BitVec 32 := Scf.iv c0_i32_103 c1_i32_105 k0_t17
  let c64_i32 : BitVec 32 := 64#32
  let v212 : BitVec 32 := Scalar.muli arg16 c64_i32
  v212
def k0_off24 (k0_t17 : Fin k0_t17_loop.trips) : Fin 3 → Nat :=
  let c0_126 : Index := 0#32
  let c0_i32_103 : BitVec 32 := 0#32
  let c1_i32_105 : BitVec 32 := 1#32
  let arg16 : BitVec 32 := Scf.iv c0_i32_103 c1_i32_105 k0_t17
  let c64_i32 : BitVec 32 := 64#32
  let v212 : BitVec 32 := Scalar.muli arg16 c64_i32
  let v213 : BitVec 32 := v212
  let v214 : Index := Scalar.indexCast v213
  let c128 : Index := 128#32
  ![0, v214.toNat, 128]
def k0_mult30 (k0_t17 : Fin k0_t17_loop.trips) : BitVec 32 :=
  let c0_i32_103 : BitVec 32 := 0#32
  let c1_i32_105 : BitVec 32 := 1#32
  let arg16 : BitVec 32 := Scf.iv c0_i32_103 c1_i32_105 k0_t17
  let c64_i32_127 : BitVec 32 := 64#32
  let v220 : BitVec 32 := Scalar.muli arg16 c64_i32_127
  v220
def k0_off25 (k0_t17 : Fin k0_t17_loop.trips) : Fin 2 → Nat :=
  let c0_i32_103 : BitVec 32 := 0#32
  let c1_i32_105 : BitVec 32 := 1#32
  let arg16 : BitVec 32 := Scf.iv c0_i32_103 c1_i32_105 k0_t17
  let c64_i32_127 : BitVec 32 := 64#32
  let v220 : BitVec 32 := Scalar.muli arg16 c64_i32_127
  let v221 : BitVec 32 := v220
  let v222 : Index := Scalar.indexCast v221
  let c128_128 : Index := 128#32
  ![v222.toNat, 128]
def k0_mult31 (k0_t17 : Fin k0_t17_loop.trips) : BitVec 32 :=
  let c0_i32_103 : BitVec 32 := 0#32
  let c1_i32_105 : BitVec 32 := 1#32
  let arg16 : BitVec 32 := Scf.iv c0_i32_103 c1_i32_105 k0_t17
  let c64_i32_129 : BitVec 32 := 64#32
  let v232 : BitVec 32 := Scalar.muli arg16 c64_i32_129
  v232
@[reducible] def k0_t18_loop : Scf.Loop 32 :=
  let c0_i32_108 : BitVec 32 := 0#32
  let c16_i32_109 : BitVec 32 := 16#32
  let v190 : BitVec 32 := Scalar.addi c0_i32_108 c16_i32_109
  let c1_i32_110 : BitVec 32 := 1#32
  ⟨c0_i32_108, v190, c1_i32_110⟩
def k0_mult32 (k0_t18 : Fin k0_t18_loop.trips) : BitVec 32 :=
  let c0_i32_108 : BitVec 32 := 0#32
  let c1_i32_110 : BitVec 32 := 1#32
  let arg16 : BitVec 32 := Scf.iv c0_i32_108 c1_i32_110 k0_t18
  let c64_i32 : BitVec 32 := 64#32
  let v212 : BitVec 32 := Scalar.muli arg16 c64_i32
  v212
def k0_off26 (k0_t18 : Fin k0_t18_loop.trips) : Fin 3 → Nat :=
  let c0_126 : Index := 0#32
  let c0_i32_108 : BitVec 32 := 0#32
  let c1_i32_110 : BitVec 32 := 1#32
  let arg16 : BitVec 32 := Scf.iv c0_i32_108 c1_i32_110 k0_t18
  let c64_i32 : BitVec 32 := 64#32
  let v212 : BitVec 32 := Scalar.muli arg16 c64_i32
  let v213 : BitVec 32 := v212
  let v214 : Index := Scalar.indexCast v213
  let c256 : Index := 256#32
  ![0, v214.toNat, 256]
def k0_mult33 (k0_t18 : Fin k0_t18_loop.trips) : BitVec 32 :=
  let c0_i32_108 : BitVec 32 := 0#32
  let c1_i32_110 : BitVec 32 := 1#32
  let arg16 : BitVec 32 := Scf.iv c0_i32_108 c1_i32_110 k0_t18
  let c64_i32_127 : BitVec 32 := 64#32
  let v220 : BitVec 32 := Scalar.muli arg16 c64_i32_127
  v220
def k0_off27 (k0_t18 : Fin k0_t18_loop.trips) : Fin 2 → Nat :=
  let c0_i32_108 : BitVec 32 := 0#32
  let c1_i32_110 : BitVec 32 := 1#32
  let arg16 : BitVec 32 := Scf.iv c0_i32_108 c1_i32_110 k0_t18
  let c64_i32_127 : BitVec 32 := 64#32
  let v220 : BitVec 32 := Scalar.muli arg16 c64_i32_127
  let v221 : BitVec 32 := v220
  let v222 : Index := Scalar.indexCast v221
  let c256_128 : Index := 256#32
  ![v222.toNat, 256]
def k0_mult34 (k0_t18 : Fin k0_t18_loop.trips) : BitVec 32 :=
  let c0_i32_108 : BitVec 32 := 0#32
  let c1_i32_110 : BitVec 32 := 1#32
  let arg16 : BitVec 32 := Scf.iv c0_i32_108 c1_i32_110 k0_t18
  let c64_i32_129 : BitVec 32 := 64#32
  let v232 : BitVec 32 := Scalar.muli arg16 c64_i32_129
  v232
@[reducible] def k0_t19_loop : Scf.Loop 32 :=
  let c0_i32_113 : BitVec 32 := 0#32
  let c16_i32_114 : BitVec 32 := 16#32
  let v197 : BitVec 32 := Scalar.addi c0_i32_113 c16_i32_114
  let c1_i32_115 : BitVec 32 := 1#32
  ⟨c0_i32_113, v197, c1_i32_115⟩
def k0_mult35 (k0_t19 : Fin k0_t19_loop.trips) : BitVec 32 :=
  let c0_i32_113 : BitVec 32 := 0#32
  let c1_i32_115 : BitVec 32 := 1#32
  let arg16 : BitVec 32 := Scf.iv c0_i32_113 c1_i32_115 k0_t19
  let c64_i32 : BitVec 32 := 64#32
  let v212 : BitVec 32 := Scalar.muli arg16 c64_i32
  v212
def k0_off28 (k0_t19 : Fin k0_t19_loop.trips) : Fin 3 → Nat :=
  let c0_126 : Index := 0#32
  let c0_i32_113 : BitVec 32 := 0#32
  let c1_i32_115 : BitVec 32 := 1#32
  let arg16 : BitVec 32 := Scf.iv c0_i32_113 c1_i32_115 k0_t19
  let c64_i32 : BitVec 32 := 64#32
  let v212 : BitVec 32 := Scalar.muli arg16 c64_i32
  let v213 : BitVec 32 := v212
  let v214 : Index := Scalar.indexCast v213
  let c384 : Index := 384#32
  ![0, v214.toNat, 384]
def k0_mult36 (k0_t19 : Fin k0_t19_loop.trips) : BitVec 32 :=
  let c0_i32_113 : BitVec 32 := 0#32
  let c1_i32_115 : BitVec 32 := 1#32
  let arg16 : BitVec 32 := Scf.iv c0_i32_113 c1_i32_115 k0_t19
  let c64_i32_127 : BitVec 32 := 64#32
  let v220 : BitVec 32 := Scalar.muli arg16 c64_i32_127
  v220
def k0_off29 (k0_t19 : Fin k0_t19_loop.trips) : Fin 2 → Nat :=
  let c0_i32_113 : BitVec 32 := 0#32
  let c1_i32_115 : BitVec 32 := 1#32
  let arg16 : BitVec 32 := Scf.iv c0_i32_113 c1_i32_115 k0_t19
  let c64_i32_127 : BitVec 32 := 64#32
  let v220 : BitVec 32 := Scalar.muli arg16 c64_i32_127
  let v221 : BitVec 32 := v220
  let v222 : Index := Scalar.indexCast v221
  let c384_128 : Index := 384#32
  ![v222.toNat, 384]
def k0_mult37 (k0_t19 : Fin k0_t19_loop.trips) : BitVec 32 :=
  let c0_i32_113 : BitVec 32 := 0#32
  let c1_i32_115 : BitVec 32 := 1#32
  let arg16 : BitVec 32 := Scf.iv c0_i32_113 c1_i32_115 k0_t19
  let c64_i32_129 : BitVec 32 := 64#32
  let v232 : BitVec 32 := Scalar.muli arg16 c64_i32_129
  v232
@[reducible] def k0_t20_loop : Scf.Loop 32 :=
  let c0_i32_118 : BitVec 32 := 0#32
  let c16_i32_119 : BitVec 32 := 16#32
  let v204 : BitVec 32 := Scalar.addi c0_i32_118 c16_i32_119
  let c1_i32_120 : BitVec 32 := 1#32
  ⟨c0_i32_118, v204, c1_i32_120⟩
def k0_mult38 (k0_t20 : Fin k0_t20_loop.trips) : BitVec 32 :=
  let c0_i32_118 : BitVec 32 := 0#32
  let c1_i32_120 : BitVec 32 := 1#32
  let arg16 : BitVec 32 := Scf.iv c0_i32_118 c1_i32_120 k0_t20
  let c64_i32 : BitVec 32 := 64#32
  let v212 : BitVec 32 := Scalar.muli arg16 c64_i32
  v212
def k0_off30 (k0_t20 : Fin k0_t20_loop.trips) : Fin 3 → Nat :=
  let c0_126 : Index := 0#32
  let c0_i32_118 : BitVec 32 := 0#32
  let c1_i32_120 : BitVec 32 := 1#32
  let arg16 : BitVec 32 := Scf.iv c0_i32_118 c1_i32_120 k0_t20
  let c64_i32 : BitVec 32 := 64#32
  let v212 : BitVec 32 := Scalar.muli arg16 c64_i32
  let v213 : BitVec 32 := v212
  let v214 : Index := Scalar.indexCast v213
  let c512 : Index := 512#32
  ![0, v214.toNat, 512]
def k0_mult39 (k0_t20 : Fin k0_t20_loop.trips) : BitVec 32 :=
  let c0_i32_118 : BitVec 32 := 0#32
  let c1_i32_120 : BitVec 32 := 1#32
  let arg16 : BitVec 32 := Scf.iv c0_i32_118 c1_i32_120 k0_t20
  let c64_i32_127 : BitVec 32 := 64#32
  let v220 : BitVec 32 := Scalar.muli arg16 c64_i32_127
  v220
def k0_off31 (k0_t20 : Fin k0_t20_loop.trips) : Fin 2 → Nat :=
  let c0_i32_118 : BitVec 32 := 0#32
  let c1_i32_120 : BitVec 32 := 1#32
  let arg16 : BitVec 32 := Scf.iv c0_i32_118 c1_i32_120 k0_t20
  let c64_i32_127 : BitVec 32 := 64#32
  let v220 : BitVec 32 := Scalar.muli arg16 c64_i32_127
  let v221 : BitVec 32 := v220
  let v222 : Index := Scalar.indexCast v221
  let c512_128 : Index := 512#32
  ![v222.toNat, 512]
def k0_mult40 (k0_t20 : Fin k0_t20_loop.trips) : BitVec 32 :=
  let c0_i32_118 : BitVec 32 := 0#32
  let c1_i32_120 : BitVec 32 := 1#32
  let arg16 : BitVec 32 := Scf.iv c0_i32_118 c1_i32_120 k0_t20
  let c64_i32_129 : BitVec 32 := 64#32
  let v232 : BitVec 32 := Scalar.muli arg16 c64_i32_129
  v232
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x640 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S36x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S36x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x640 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S36x640 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S36x640 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S36x1024x640 : Shape := ⟨3, ![36, 1024, 640]⟩
abbrev S640 : Shape := ⟨1, ![640]⟩
abbrev S36x640 : Shape := ⟨2, ![36, 640]⟩
abbrev S_ : Shape := ⟨0, ![]⟩
abbrev S1x640 : Shape := ⟨2, ![1, 640]⟩
abbrev S1x1 : Shape := ⟨2, ![1, 1]⟩
abbrev S16x640 : Shape := ⟨2, ![16, 640]⟩
abbrev S36x32x20 : Shape := ⟨3, ![36, 32, 20]⟩
abbrev S36x32 : Shape := ⟨2, ![36, 32]⟩
abbrev S36x32x1 : Shape := ⟨3, ![36, 32, 1]⟩
abbrev S36x1x640 : Shape := ⟨3, ![36, 1, 640]⟩
abbrev S1x1x640 : Shape := ⟨3, ![1, 1, 640]⟩
abbrev S2304x16x640 : Shape := ⟨3, ![2304, 16, 640]⟩

abbrev nBuf : Space → Nat
  | .hbm => 16
  | .vmem => 13
  | .smem => 0
  | _ => 0

abbrev bufTy : (tb : Table) → Fin (tcTables nBuf tb) → BufTy
  | .hbm, ⟨0, _⟩ => ⟨S36x1024x640, .bf16⟩
  | .hbm, ⟨1, _⟩ => ⟨S640, .f32⟩
  | .hbm, ⟨2, _⟩ => ⟨S640, .f32⟩
  | .hbm, ⟨3, _⟩ => ⟨S36x640, .f32⟩
  | .hbm, ⟨4, _⟩ => ⟨S36x640, .f32⟩
  | .hbm, ⟨5, _⟩ => ⟨S36x1024x640, .fp8e5m2⟩
  | .hbm, ⟨6, _⟩ => ⟨S_, .f32⟩
  | .hbm, ⟨7, _⟩ => ⟨S1x640, .f32⟩
  | .hbm, ⟨8, _⟩ => ⟨S1x640, .f32⟩
  | .hbm, ⟨9, _⟩ => ⟨S1x1, .f32⟩
  | .hbm, ⟨10, _⟩ => ⟨S36x1024x640, .bf16⟩
  | .hbm, ⟨11, _⟩ => ⟨S16x640, .f32⟩
  | .hbm, ⟨12, _⟩ => ⟨S1x640, .f32⟩
  | .hbm, ⟨13, _⟩ => ⟨S1x640, .f32⟩
  | .hbm, ⟨14, _⟩ => ⟨S36x640, .f32⟩
  | .hbm, ⟨15, _⟩ => ⟨S36x640, .f32⟩
  | .local _ .vmem, ⟨0, _⟩ => ⟨S36x1024x640, .bf16⟩
  | .local _ .vmem, ⟨1, _⟩ => ⟨S1x640, .f32⟩
  | .local _ .vmem, ⟨2, _⟩ => ⟨S1x640, .f32⟩
  | .local _ .vmem, ⟨3, _⟩ => ⟨S36x640, .f32⟩
  | .local _ .vmem, ⟨4, _⟩ => ⟨S36x640, .f32⟩
  | .local _ .vmem, ⟨5, _⟩ => ⟨S36x1024x640, .fp8e5m2⟩
  | .local _ .vmem, ⟨6, _⟩ => ⟨S1x1, .f32⟩
  | .local _ .vmem, ⟨7, _⟩ => ⟨S36x1024x640, .bf16⟩
  | .local _ .vmem, ⟨8, _⟩ => ⟨S16x640, .f32⟩
  | .local _ .vmem, ⟨9, _⟩ => ⟨S1x640, .f32⟩
  | .local _ .vmem, ⟨10, _⟩ => ⟨S1x640, .f32⟩
  | .local _ .vmem, ⟨11, _⟩ => ⟨S36x640, .f32⟩
  | .local _ .vmem, ⟨12, _⟩ => ⟨S36x640, .f32⟩
  | _, _ => ⟨S36x1024x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S36x1024x640 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S36x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S36x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S36x1024x640 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S36x1024x640 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x640 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S36x640 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S36x640 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Kernel.Pieces.lean ====
/-
   The first call's body cut into stretches: what only the first grid point does, the group means, and the last loops; with what
   it is to hold the fifteen buffers the body works on, each at given contents.
-/
module

public import proofs.«01_k».proof.Proof.Gen.Kernel.Frame
public import proofs.«01_k».proof.Proof.Gen.Kernel.Loops

@[expose] public section

set_option maxRecDepth 65536
set_option maxHeartbeats 4000000

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body is at the first grid point: the condition its one conditional tests. -/
abbrev cond0_0 (i : grid0.Coords) : Prop :=
  Scalar.cmpi .ne (Scalar.extui (Scalar.cmpi .eq (BitVec.ofNat 32 (i 0).val) 0#32)) 0#32 = 1#1

theorem hcond0_0 : ∀ t : Fin cfg0.N, cond0_0 (grid0.coords t) ↔ t.val % 36 = 0 :=
  (by decide +kernel : ∀ t : Fin grid0.N, cond0_0 (grid0.coords t) ↔ t.val % 36 = 0)

/-- The fifteen buffers of the body, each whole at its contents. -/
def held (c : Dev nD) (arg1 : Memref sig .tc .smem S1 .f32) (arg2 : Memref sig .tc .vmem S1x1024x640 .bf16) (arg3 : Memref sig .tc .vmem S1x1024x640 .fp8e5m2) (arg4 : Memref sig .tc .vmem S1x640 .f32) (arg5 : Memref sig .tc .vmem S1x640 .f32) (arg6 : Memref sig .tc .vmem S36x640 .f32) (arg7 : Memref sig .tc .vmem S36x640 .f32) (arg8 : Memref sig .tc .vmem S1x1024x640 .bf16) (arg9 : Memref sig .tc .vmem S16x640 .f32) (arg10 : Memref sig .tc .vmem S1x640 .f32) (arg11 : Memref sig .tc .vmem S1x640 .f32) (arg12 : Memref sig .tc .vmem S36x640 .f32) (arg13 : Memref sig .tc .vmem S36x640 .f32) (arg14 : Memref sig .tc .vmem S640x640 .bf16) (arg15 : Memref sig .tc .vmem S1024x640 .f32)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15)

/-- One stretch of a body followed by the rest of it. -/
theorem comp {α β : Type} {c : Dev nD} {E : Set ℕ} {pre post R : sProp 𝕄} {p : Prog (TpuEff nD τ sig (Elt F) Λ₀ .tc) α} {r : α}
    {k : α → Prog (TpuEff nD τ sig (Elt F) Λ₀ .tc) β} {Q : β → sProp 𝕄}
    (h : ∀ (E : Set ℕ) (K : α → sProp 𝕄), iprop(pre ∗ (post -∗ K r)) ⊢ wp frame (wpE (defs₀ (F := F)) Variants.none c none) E p K)
    (h2 : iprop(post ∗ R) ⊢ wp frame (wpE (defs₀ (F := F)) Variants.none c none) E (k r) Q) :
    iprop(pre ∗ R) ⊢ wp frame (wpE (defs₀ (F := F)) Variants.none c none) E (p >>= k) Q := by
  rw [wp_bind]
  refine BIBase.Entails.trans ?_ (h E _)
  iintro ⟨H, HR⟩
  isplitl [H]
  · iexact H
  · iintro H
    iapply h2
    isplitl [H]
    · iexact H
    · iexact HR

/-- What the first grid point does before anything else: the group matrix and zeros in the three accumulators. -/
noncomputable def initSkel (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) (v236 : IVec S640x640 32) (v239 : IVec S640x640 32) (v258 : IVec S640x640 1) :
    Prog (TpuEff nD τ sig (Elt F) Λ₀ .tc) PUnit := do
  let v267 : Vec F S640x640 .bf16 ← Prog.lift (.load arg14 (Rect.unit (s := S640x640) ![0, 0] S640x640.size inb_S640x640_S640x640_0_0).toLoadRect (View.loadsAt_vmem h_S640x640))
  Prog.lift (.store arg14 (Rect.unit (s := S640x640) ![0, 0] S640x640.size inb_S640x640_S640x640_0_0) (k0_pay45 (F := F) v236 v239 v258) Finset.univ (View.stores_vmem h_S640x640 (harg14.storeExact_slice rfl _ packedbf16_S640x640_S640x640_0_0) (fun _ => rfl)) (.inl rfl))
  let v271 : Vec F S1x640 .f32 ← Prog.lift (.load arg10 (Rect.unit (s := S1x640) ![0, 0] S1x640.size inb_S1x640_S1x640_0_0).toLoadRect (View.loadsAt_vmem h_S1x640))
  Prog.lift (.store arg10 (Rect.unit (s := S1x640) ![0, 0] S1x640.size inb_S1x640_S1x640_0_0) (k0_pay46 (F := F)) Finset.univ (View.stores_vmem_bits_univ h_S1x640 rfl) (.inl rfl))
  let v273 : Vec F S1x640 .f32 ← Prog.lift (.load arg11 (Rect.unit (s := S1x640) ![0, 0] S1x640.size inb_S1x640_S1x640_0_0).toLoadRect (View.loadsAt_vmem h_S1x640))
  Prog.lift (.store arg11 (Rect.unit (s := S1x640) ![0, 0] S1x640.size inb_S1x640_S1x640_0_0) (k0_pay47 (F := F)) Finset.univ (View.stores_vmem_bits_univ h_S1x640 rfl) (.inl rfl))
  let v275 : Vec F S16x640 .f32 ← Prog.lift (.load arg9 (Rect.unit (s := S16x640) ![0, 0] S16x640.size inb_S16x640_S16x640_0_0).toLoadRect (View.loadsAt_vmem h_S16x640))
  Prog.lift (.store arg9 (Rect.unit (s := S16x640) ![0, 0] S16x640.size inb_S16x640_S16x640_0_0) (k0_pay48 (F := F)) Finset.univ (View.stores_vmem_bits_univ h_S16x640 rfl) (.inl rfl))
  pure ⟨⟩

/-- What every grid point does up to the group means. -/
noncomputable def meanSkel (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) :
    Prog (TpuEff nD τ sig (Elt F) Λ₀ .tc) (Σ' (arg0 : BitVec 32) (v3 : Vec F S640x640 .bf16) (v4 : Elt F .f32) (v5 : FVec F S8x128 .f32), FVec F S1x640 .f32) := do
  let arg0 : BitVec 32 := BitVec.ofNat 32 (i 0).val
  let v3 : Vec F S640x640 .bf16 ← Prog.lift (.load arg14 (Rect.unit (s := S640x640) ![0, 0] S640x640.size inb_S640x640_S640x640_0_0).toLoadRect (View.loadsAt_vmem h_S640x640))
  let v4 : Elt F .f32 ← smemLoad arg1 (Rect.unit (s := S1) ![0] S1.size inb_S1_S1_0) numel1_S1 rfl
  let v7 : FVec F S8x128 .f32 ← Scf.Loop.for k0_t1_loop k0_t1_ok (k0_pay49 (F := F)) (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15)
  let v9 : FVec F S8x128 .f32 ← Scf.Loop.for k0_t2_loop k0_t2_ok (k0_pay49 (F := F)) (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15)
  let v11 : FVec F S8x128 .f32 ← Scf.Loop.for k0_t3_loop k0_t3_ok (k0_pay49 (F := F)) (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15)
  let v13 : FVec F S8x128 .f32 ← Scf.Loop.for k0_t4_loop k0_t4_ok (k0_pay49 (F := F)) (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15)
  let v15 : FVec F S8x128 .f32 ← Scf.Loop.for k0_t5_loop k0_t5_ok (k0_pay49 (F := F)) (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15)
  pure ⟨arg0, v3, v4, k0_pay49 (F := F), k0_pay55 v3 v7 v9 v11 v13 v15⟩

theorem part7_pos (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) (hc0 : cond0_0 i) : k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = (initSkel i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay17 k0_pay18 k0_pay19 >>= fun _ => meanSkel i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  rw [k0_part7_eq_skeleton]; unfold k0_part7_skel; simp only [k0_part1_eq_skeleton]; unfold k0_part1_skel
  rw [dif_pos hc0]
  rfl

theorem part7_neg (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) (hc0 : ¬cond0_0 i) : k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = meanSkel i arg1 harg1 arg2 harg2 arg3 harg3 arg4 harg4 arg5 harg5 arg6 harg6 arg7 harg7 arg8 harg8 arg9 harg9 arg10 harg10 arg11 harg11 arg12 harg12 arg13 harg13 arg14 harg14 arg15 harg15 := by
  rw [k0_part7_eq_skeleton]; unfold k0_part7_skel
  rw [dif_neg hc0]
  rfl

/-- The loops over the last four lane blocks that write the input gradient, and the running maximum after them. -/
noncomputable def tailSkel (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) (v30 : FVec F S1x640 .f32) (v167 : FVec F S1x640 .f32) (v169 : FVec F S1x640 .f32) (v170 : FVec F S1x640 .f32) (v177 : FVec F S16x128 .bf16) (v178 : FVec F S1x128 .f32) (v179 : FVec F S1x128 .f32) (v180 : FVec F S1x128 .f32) (v181 : FVec F S1x128 .f32) (v182 : FVec F S16x128 .bf16) :
    Prog (TpuEff nD τ sig (Elt F) Λ₀ .tc) PUnit := do
  let v184 : FVec F S16x128 .bf16 ← Scf.Loop.for k0_t17_loop k0_t17_ok v182 (k0_t17_body i arg1 harg1 arg2 harg2 arg3 harg3 arg4 harg4 arg5 harg5 arg6 harg6 arg7 harg7 arg8 harg8 arg9 harg9 arg10 harg10 arg11 harg11 arg12 harg12 arg13 harg13 arg14 harg14 arg15 harg15 v178 v179 v180 v181)
  let v191 : FVec F S16x128 .bf16 ← Scf.Loop.for k0_t18_loop k0_t18_ok (k0_pay4 (F := F)) (k0_t18_body i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170)
  let v198 : FVec F S16x128 .bf16 ← Scf.Loop.for k0_t19_loop k0_t19_ok (k0_pay8 (F := F)) (k0_t19_body i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170)
  let v205 : FVec F S16x128 .bf16 ← Scf.Loop.for k0_t20_loop k0_t20_ok (k0_pay12 (F := F)) (k0_t20_body i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170)
  let v206 : Vec F S16x640 .f32 ← Prog.lift (.load arg9 (Rect.unit (s := S16x640) ![0, 0] S16x640.size inb_S16x640_S16x640_0_0).toLoadRect (View.loadsAt_vmem h_S16x640))
  let v211 : Vec F S16x640 .f32 ← Prog.lift (.load arg9 (Rect.unit (s := S16x640) ![0, 0] S16x640.size inb_S16x640_S16x640_0_0).toLoadRect (View.loadsAt_vmem h_S16x640))
  Prog.lift (.store arg9 (Rect.unit (s := S16x640) ![0, 0] S16x640.size inb_S16x640_S16x640_0_0) (k0_pay16 v177 v184 v191 v198 v205 v206) Finset.univ (View.stores_vmem_bits_univ h_S16x640 rfl) (.inl rfl))
  pure ⟨⟩

/-- The body without what only the first grid point does. -/
noncomputable def coreSkel (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) :
    Prog (TpuEff nD τ sig (Elt F) Λ₀ .tc) PUnit := do
  let ⟨arg0, v3, v4, v5, v28⟩ : Σ' (arg0 : BitVec 32) (v3 : Vec F S640x640 .bf16) (v4 : Elt F .f32) (v5 : FVec F S8x128 .f32), FVec F S1x640 .f32 ← meanSkel i arg1 harg1 arg2 harg2 arg3 harg3 arg4 harg4 arg5 harg5 arg6 harg6 arg7 harg7 arg8 harg8 arg9 harg9 arg10 harg10 arg11 harg11 arg12 harg12 arg13 harg13 arg14 harg14 arg15 harg15
  let ⟨v30, v62⟩ : Σ' (v30 : FVec F S1x640 .f32), FVec F S1x640 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v5 v28
  let ⟨v63, v65, v67, v71, v77, v82_0, v82_1, v87_0, v87_1, v92_0, v92_1, v97_0, v97_1, v98, v99⟩ : Σ' (v63 : FVec F S1x640 .f32) (v65 : FVec F S1x640 .f32) (v67 : FVec F S1x640 .f32) (v71 : FVec F S1x640 .f32) (v77 : FVec F S1x640 .f32) (v82_0 : FVec F S8x128 .f32) (v82_1 : FVec F S8x128 .f32) (v87_0 : FVec F S8x128 .f32) (v87_1 : FVec F S8x128 .f32) (v92_0 : FVec F S8x128 .f32) (v92_1 : FVec F S8x128 .f32) (v97_0 : FVec F S8x128 .f32) (v97_1 : FVec F S8x128 .f32) (v98 : FVec F S1x128 .f32), FVec F S1x128 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v5 v30 v62
  let ⟨v110, v132, v136, v137, v139⟩ : Σ' (v110 : FVec F S8x640 .f32) (v132 : FVec F S1x640 .f32) (v136 : FVec F S8x640 .f32) (v137 : FVec F S8x640 .f32), FVec F S8x640 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 v5 v63 v65 v67 v71 v77 v82_0 v82_1 v87_0 v87_1 v92_0 v92_1 v97_0 v97_1 v98 v99
  let ⟨v167, v169, v170, v177, v178, v179, v180, v181, v182, c0_i32_103⟩ : Σ' (v167 : FVec F S1x640 .f32) (v169 : FVec F S1x640 .f32) (v170 : FVec F S1x640 .f32) (v177 : FVec F S16x128 .bf16) (v178 : FVec F S1x128 .f32) (v179 : FVec F S1x128 .f32) (v180 : FVec F S1x128 .f32) (v181 : FVec F S1x128 .f32) (v182 : FVec F S16x128 .bf16), BitVec 32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139
  tailSkel i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170 v177 v178 v179 v180 v181 v182

theorem body_pos (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) (hc0 : cond0_0 i) : cc0__dx_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = (initSkel i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay17 k0_pay18 k0_pay19 >>= fun _ => coreSkel i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  rw [cc0__dx_body_eq_skeleton]; unfold cc0__dx_body_skel coreSkel
  rw [part7_pos i arg1 harg1 arg2 harg2 arg3 harg3 arg4 harg4 arg5 harg5 arg6 harg6 arg7 harg7 arg8 harg8 arg9 harg9 arg10 harg10 arg11 harg11 arg12 harg12 arg13 harg13 arg14 harg14 arg15 harg15 hc0]
  rfl

theorem body_neg (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) (hc0 : ¬cond0_0 i) : cc0__dx_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = coreSkel i arg1 harg1 arg2 harg2 arg3 harg3 arg4 harg4 arg5 harg5 arg6 harg6 arg7 harg7 arg8 harg8 arg9 harg9 arg10 harg10 arg11 harg11 arg12 harg12 arg13 harg13 arg14 harg14 arg15 harg15 := by
  rw [cc0__dx_body_eq_skeleton]; unfold cc0__dx_body_skel coreSkel
  rw [part7_neg i arg1 harg1 arg2 harg2 arg3 harg3 arg4 harg4 arg5 harg5 arg6 harg6 arg7 harg7 arg8 harg8 arg9 harg9 arg10 harg10 arg11 harg11 arg12 harg12 arg13 harg13 arg14 harg14 arg15 harg15 hc0]
  rfl

end Cert.Kernel.Own
-- ==== Proof.Kernel.RunA.lean ====
/-
   The first stretches of the body run once: the first grid point's own part, the group means, the group variances.
-/
module

public import proofs.«01_k».proof.Proof.Kernel.Pieces

@[expose] public section

set_option maxRecDepth 65536
set_option maxHeartbeats 4000000

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- What only the first grid point does. -/
noncomputable def runInit (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (v236 : IVec S640x640 32) (v239 : IVec S640x640 32) (v258 : IVec S640x640 1)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) :
    Σ' (y9 : Vec F S16x640 .f32) (y10 : Vec F S1x640 .f32) (y11 : Vec F S1x640 .f32) (y14 : Vec F S640x640 .bf16) (r : PUnit), ∀ (E : Set ℕ) (K : (PUnit) → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 x8 y9 y10 y11 x12 x13 y14 x15 -∗ K r))
        ⊢ wp frame (wpE (defs₀ (F := F)) Variants.none c none) E (initSkel i arg1 harg1 arg2 harg2 arg3 harg3 arg4 harg4 arg5 harg5 arg6 harg6 arg7 harg7 arg8 harg8 arg9 harg9 arg10 harg10 arg11 harg11 arg12 harg12 arg13 harg13 arg14 harg14 arg15 harg15 v236 v239 v258) K := by
  refine ⟨?_, ?_, ?_, ?_, ?_, fun E K => ?run⟩
  case run =>
    unfold initSkel
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact rfl
    isplitl [H10]
    · iexists _; isplitr; swap; · iexact H10
      ipureintro; exact rfl
    isplitl [H11]
    · iexists _; isplitr; swap; · iexact H11
      ipureintro; exact rfl
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact rfl
    · iexists _; isplitr; swap; · iexact H15
      ipureintro; exact harg15.read_unread _

/-- The group means. -/
noncomputable def runMean (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)

    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) :
    Σ'  (r : Σ' (arg0 : BitVec 32) (v3 : Vec F S640x640 .bf16) (v4 : Elt F .f32) (v5 : FVec F S8x128 .f32), FVec F S1x640 .f32), ∀ (E : Set ℕ) (K : (Σ' (arg0 : BitVec 32) (v3 : Vec F S640x640 .bf16) (v4 : Elt F .f32) (v5 : FVec F S8x128 .f32), FVec F S1x640 .f32) → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 x8 x9 x10 x11 x12 x13 x14 x15 -∗ K r))
        ⊢ wp frame (wpE (defs₀ (F := F)) Variants.none c none) E (meanSkel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  refine ⟨?_, fun E K => ?run⟩
  case run =>
    unfold meanSkel
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact harg11.read_unread _
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact harg14.read_unread _
    · iexists _; isplitr; swap; · iexact H15
      ipureintro; exact harg15.read_unread _

/-- The group variances. -/
noncomputable def run8 (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (v3 : Vec F S640x640 .bf16) (v5 : FVec F S8x128 .f32) (v28 : FVec F S1x640 .f32)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) :
    Σ'  (r : Σ' (v30 : FVec F S1x640 .f32), FVec F S1x640 .f32), ∀ (E : Set ℕ) (K : (Σ' (v30 : FVec F S1x640 .f32), FVec F S1x640 .f32) → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 x8 x9 x10 x11 x12 x13 x14 x15 -∗ K r))
        ⊢ wp frame (wpE (defs₀ (F := F)) Variants.none c none) E (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v5 v28) K := by
  refine ⟨?_, fun E K => ?run⟩
  case run =>
    simp only [k0_part8_eq_skeleton]
    unfold k0_part8_skel
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact harg11.read_unread _
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact harg14.read_unread _
    · iexists _; isplitr; swap; · iexact H15
      ipureintro; exact harg15.read_unread _

end Cert.Kernel.Own
-- ==== Proof.Kernel.RunB.lean ====
/-
   The middle stretches of the body run once: the derivative at the activation and the column sums.
-/
module

public import proofs.«01_k».proof.Proof.Kernel.Pieces

@[expose] public section

set_option maxRecDepth 65536
set_option maxHeartbeats 4000000

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The derivative at the activation for the first four lane blocks. -/
noncomputable def run9 (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (arg0 : BitVec 32) (v5 : FVec F S8x128 .f32) (v30 : FVec F S1x640 .f32) (v62 : FVec F S1x640 .f32)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) :
    Σ' (y15 : Vec F S1024x640 .f32) (r : Σ' (v63 : FVec F S1x640 .f32) (v65 : FVec F S1x640 .f32) (v67 : FVec F S1x640 .f32) (v71 : FVec F S1x640 .f32) (v77 : FVec F S1x640 .f32) (v82_0 : FVec F S8x128 .f32) (v82_1 : FVec F S8x128 .f32) (v87_0 : FVec F S8x128 .f32) (v87_1 : FVec F S8x128 .f32) (v92_0 : FVec F S8x128 .f32) (v92_1 : FVec F S8x128 .f32) (v97_0 : FVec F S8x128 .f32) (v97_1 : FVec F S8x128 .f32) (v98 : FVec F S1x128 .f32), FVec F S1x128 .f32), ∀ (E : Set ℕ) (K : (Σ' (v63 : FVec F S1x640 .f32) (v65 : FVec F S1x640 .f32) (v67 : FVec F S1x640 .f32) (v71 : FVec F S1x640 .f32) (v77 : FVec F S1x640 .f32) (v82_0 : FVec F S8x128 .f32) (v82_1 : FVec F S8x128 .f32) (v87_0 : FVec F S8x128 .f32) (v87_1 : FVec F S8x128 .f32) (v92_0 : FVec F S8x128 .f32) (v92_1 : FVec F S8x128 .f32) (v97_0 : FVec F S8x128 .f32) (v97_1 : FVec F S8x128 .f32) (v98 : FVec F S1x128 .f32), FVec F S1x128 .f32) → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 x8 x9 x10 x11 x12 x13 x14 y15 -∗ K r))
        ⊢ wp frame (wpE (defs₀ (F := F)) Variants.none c none) E (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v5 v30 v62) K := by
  refine ⟨?_, ?_, fun E K => ?run⟩
  case run =>
    simp only [k0_part9_eq_skeleton]
    unfold k0_part9_skel
    simp only [k0_part2_eq_skeleton, k0_part3_eq_skeleton, k0_part4_eq_skeleton, k0_part5_eq_skeleton, k0_part6_eq_skeleton]
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact harg11.read_unread _
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact harg14.read_unread _
    · iexists _; isplitr; swap; · iexact H15
      ipureintro; exact rfl

/-- The derivative at the activation for the last lane block, and the column sums. -/
noncomputable def run10 (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (arg0 : BitVec 32) (v4 : Elt F .f32) (v5 : FVec F S8x128 .f32) (v63 : FVec F S1x640 .f32) (v65 : FVec F S1x640 .f32) (v67 : FVec F S1x640 .f32) (v71 : FVec F S1x640 .f32) (v77 : FVec F S1x640 .f32) (v82_0 : FVec F S8x128 .f32) (v82_1 : FVec F S8x128 .f32) (v87_0 : FVec F S8x128 .f32) (v87_1 : FVec F S8x128 .f32) (v92_0 : FVec F S8x128 .f32) (v92_1 : FVec F S8x128 .f32) (v97_0 : FVec F S8x128 .f32) (v97_1 : FVec F S8x128 .f32) (v98 : FVec F S1x128 .f32) (v99 : FVec F S1x128 .f32)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) :
    Σ' (y10 : Vec F S1x640 .f32) (y11 : Vec F S1x640 .f32) (y12 : Vec F S36x640 .f32) (y13 : Vec F S36x640 .f32) (y15 : Vec F S1024x640 .f32) (r : Σ' (v110 : FVec F S8x640 .f32) (v132 : FVec F S1x640 .f32) (v136 : FVec F S8x640 .f32) (v137 : FVec F S8x640 .f32), FVec F S8x640 .f32), ∀ (E : Set ℕ) (K : (Σ' (v110 : FVec F S8x640 .f32) (v132 : FVec F S1x640 .f32) (v136 : FVec F S8x640 .f32) (v137 : FVec F S8x640 .f32), FVec F S8x640 .f32) → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 x8 x9 y10 y11 y12 y13 x14 y15 -∗ K r))
        ⊢ wp frame (wpE (defs₀ (F := F)) Variants.none c none) E (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 v5 v63 v65 v67 v71 v77 v82_0 v82_1 v87_0 v87_1 v92_0 v92_1 v97_0 v97_1 v98 v99) K := by
  refine ⟨?_, ?_, ?_, ?_, ?_, ?_, fun E K => ?run⟩
  case run =>
    simp only [k0_part10_eq_skeleton]
    unfold k0_part10_skel
    simp only [k0_part2_eq_skeleton, k0_part3_eq_skeleton, k0_part4_eq_skeleton, k0_part5_eq_skeleton, k0_part6_eq_skeleton]
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact rfl
    isplitl [H11]
    · iexists _; isplitr; swap; · iexact H11
      ipureintro; exact rfl
    isplitl [H12]
    · iexists _; isplitr; swap; · iexact H12
      ipureintro; exact rfl
    isplitl [H13]
    · iexists _; isplitr; swap; · iexact H13
      ipureintro; exact rfl
    isplitl [H14]
    · iexists _; isplitr; swap; · iexact H14
      ipureintro; exact harg14.read_unread _
    · iexists _; isplitr; swap; · iexact H15
      ipureintro; exact rfl

end Cert.Kernel.Own
-- ==== Proof.Kernel.RunC.lean ====
/-
   The last stretches of the body run once: the input gradient and the running maximum.
-/
module

public import proofs.«01_k».proof.Proof.Kernel.Pieces

@[expose] public section

set_option maxRecDepth 65536
set_option maxHeartbeats 4000000

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The input gradient for the first lane block. -/
noncomputable def run11 (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (v3 : Vec F S640x640 .bf16) (v4 : Elt F .f32) (v30 : FVec F S1x640 .f32) (v63 : FVec F S1x640 .f32) (v110 : FVec F S8x640 .f32) (v132 : FVec F S1x640 .f32) (v136 : FVec F S8x640 .f32) (v137 : FVec F S8x640 .f32) (v139 : FVec F S8x640 .f32)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) :
    Σ' (y8 : Vec F S1x1024x640 .bf16) (r : Σ' (v167 : FVec F S1x640 .f32) (v169 : FVec F S1x640 .f32) (v170 : FVec F S1x640 .f32) (v177 : FVec F S16x128 .bf16) (v178 : FVec F S1x128 .f32) (v179 : FVec F S1x128 .f32) (v180 : FVec F S1x128 .f32) (v181 : FVec F S1x128 .f32) (v182 : FVec F S16x128 .bf16), BitVec 32), ∀ (E : Set ℕ) (K : (Σ' (v167 : FVec F S1x640 .f32) (v169 : FVec F S1x640 .f32) (v170 : FVec F S1x640 .f32) (v177 : FVec F S16x128 .bf16) (v178 : FVec F S1x128 .f32) (v179 : FVec F S1x128 .f32) (v180 : FVec F S1x128 .f32) (v181 : FVec F S1x128 .f32) (v182 : FVec F S16x128 .bf16), BitVec 32) → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 y8 x9 x10 x11 x12 x13 x14 x15 -∗ K r))
        ⊢ wp frame (wpE (defs₀ (F := F)) Variants.none c none) E (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139) K := by
  refine ⟨?_, ?_, fun E K => ?run⟩
  case run =>
    simp only [k0_part11_eq_skeleton]
    unfold k0_part11_skel
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact rfl
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact harg11.read_unread _
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact harg14.read_unread _
    · iexists _; isplitr; swap; · iexact H15
      ipureintro; exact harg15.read_unread _

/-- The input gradient for the other lane blocks, and the running maximum. -/
noncomputable def runTail (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (v30 : FVec F S1x640 .f32) (v167 : FVec F S1x640 .f32) (v169 : FVec F S1x640 .f32) (v170 : FVec F S1x640 .f32) (v177 : FVec F S16x128 .bf16) (v178 : FVec F S1x128 .f32) (v179 : FVec F S1x128 .f32) (v180 : FVec F S1x128 .f32) (v181 : FVec F S1x128 .f32) (v182 : FVec F S16x128 .bf16)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) :
    Σ' (y8 : Vec F S1x1024x640 .bf16) (y9 : Vec F S16x640 .f32) (r : PUnit), ∀ (E : Set ℕ) (K : (PUnit) → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 y8 y9 x10 x11 x12 x13 x14 x15 -∗ K r))
        ⊢ wp frame (wpE (defs₀ (F := F)) Variants.none c none) E (tailSkel i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170 v177 v178 v179 v180 v181 v182) K := by
  refine ⟨?_, ?_, ?_, fun E K => ?run⟩
  case run =>
    unfold tailSkel
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact rfl
    isplitl [H9]
    · iexists _; isplitr; swap; · iexact H9
      ipureintro; exact rfl
    isplitl [H10]
    · iexists _; isplitr; swap; · iexact H10
      ipureintro; exact harg10.read_unread _
    isplitl [H11]
    · iexists _; isplitr; swap; · iexact H11
      ipureintro; exact harg11.read_unread _
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact harg14.read_unread _
    · iexists _; isplitr; swap; · iexact H15
      ipureintro; exact harg15.read_unread _

end Cert.Kernel.Own
-- ==== Proof.Kernel.Core.lean ====
/-
   The stretches of the first call's body composed.
-/
module

public import proofs.«01_k».proof.Proof.Kernel.RunA
public import proofs.«01_k».proof.Proof.Kernel.RunB
public import proofs.«01_k».proof.Proof.Kernel.RunC

@[expose] public section

set_option maxRecDepth 65536
set_option maxHeartbeats 4000000

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- What the body (without what only the first grid point does) leaves: the stretches one after another, each stretch's
    results named. -/
theorem core_run (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32)
    (r7 : Σ' (arg0 : BitVec 32) (v3 : Vec F S640x640 .bf16) (v4 : Elt F .f32) (v5 : FVec F S8x128 .f32), FVec F S1x640 .f32) (r8 : Σ' (v30 : FVec F S1x640 .f32), FVec F S1x640 .f32)
    (r9 : Σ' (v63 : FVec F S1x640 .f32) (v65 : FVec F S1x640 .f32) (v67 : FVec F S1x640 .f32) (v71 : FVec F S1x640 .f32) (v77 : FVec F S1x640 .f32) (v82_0 : FVec F S8x128 .f32) (v82_1 : FVec F S8x128 .f32) (v87_0 : FVec F S8x128 .f32) (v87_1 : FVec F S8x128 .f32) (v92_0 : FVec F S8x128 .f32) (v92_1 : FVec F S8x128 .f32) (v97_0 : FVec F S8x128 .f32) (v97_1 : FVec F S8x128 .f32) (v98 : FVec F S1x128 .f32), FVec F S1x128 .f32) (y15 : Vec F S1024x640 .f32)
    (r10 : Σ' (v110 : FVec F S8x640 .f32) (v132 : FVec F S1x640 .f32) (v136 : FVec F S8x640 .f32) (v137 : FVec F S8x640 .f32), FVec F S8x640 .f32) (y10 y11 : Vec F S1x640 .f32) (y12 y13 : Vec F S36x640 .f32) (z15 : Vec F S1024x640 .f32)
    (r11 : Σ' (v167 : FVec F S1x640 .f32) (v169 : FVec F S1x640 .f32) (v170 : FVec F S1x640 .f32) (v177 : FVec F S16x128 .bf16) (v178 : FVec F S1x128 .f32) (v179 : FVec F S1x128 .f32) (v180 : FVec F S1x128 .f32) (v181 : FVec F S1x128 .f32) (v182 : FVec F S16x128 .bf16), BitVec 32) (y8 : Vec F S1x1024x640 .bf16) (z8 : Vec F S1x1024x640 .bf16) (y9 : Vec F S16x640 .f32)
    (h7 : (runMean c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15).1 = r7)
    (h8 : (run8 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.2.1) (r7.2.2.2.1) (r7.2.2.2.2) x1 x2 x3 x4 x5 x6 x7 x8 x9 x10 x11 x12 x13 x14 x15).1 = r8)
    (h9a : (run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.2.1) (r8.1) (r8.2) x1 x2 x3 x4 x5 x6 x7 x8 x9 x10 x11 x12 x13 x14 x15).1 = y15)
    (h9b : (run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.2.1) (r8.1) (r8.2) x1 x2 x3 x4 x5 x6 x7 x8 x9 x10 x11 x12 x13 x14 x15).2.1 = r9)
    (h10a : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).1 = y10)
    (h10b : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.1 = y11)
    (h10c : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.1 = y12)
    (h10d : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.2.1 = y13)
    (h10e : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.2.2.1 = z15)
    (h10f : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.2.2.2.1 = r10)
    (h11a : (run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.2.1) (r7.2.2.1) (r8.1) (r9.1) (r10.1) (r10.2.1) (r10.2.2.1) (r10.2.2.2.1) (r10.2.2.2.2) x1 x2 x3 x4 x5 x6 x7 x8 x9 y10 y11 y12 y13 x14 z15).1 = y8)
    (h11b : (run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.2.1) (r7.2.2.1) (r8.1) (r9.1) (r10.1) (r10.2.1) (r10.2.2.1) (r10.2.2.2.1) (r10.2.2.2.2) x1 x2 x3 x4 x5 x6 x7 x8 x9 y10 y11 y12 y13 x14 z15).2.1 = r11)
    (hta : (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 (r8.1) (r11.1) (r11.2.1) (r11.2.2.1) (r11.2.2.2.1) (r11.2.2.2.2.1) (r11.2.2.2.2.2.1) (r11.2.2.2.2.2.2.1) (r11.2.2.2.2.2.2.2.1) (r11.2.2.2.2.2.2.2.2.1) x1 x2 x3 x4 x5 x6 x7 y8 x9 y10 y11 y12 y13 x14 z15).1 = z8)
    (htb : (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 (r8.1) (r11.1) (r11.2.1) (r11.2.2.1) (r11.2.2.2.1) (r11.2.2.2.2.1) (r11.2.2.2.2.2.1) (r11.2.2.2.2.2.2.1) (r11.2.2.2.2.2.2.2.1) (r11.2.2.2.2.2.2.2.2.1) x1 x2 x3 x4 x5 x6 x7 y8 x9 y10 y11 y12 y13 x14 z15).2.1 = y9)
    (E : Set ℕ) (K : PUnit → sProp 𝕄) :
    iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 z8 y9 y10 y11 y12 y13 x14 z15 -∗ K ⟨⟩))
      ⊢ wp frame (wpE (defs₀ (F := F)) Variants.none c none) E (coreSkel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  subst h7
  subst h8
  subst h9a
  subst h9b
  subst h10a
  subst h10b
  subst h10c
  subst h10d
  subst h10e
  subst h10f
  subst h11a
  subst h11b
  subst hta
  subst htb
  unfold coreSkel
  refine comp (fun E K => (runMean c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15).2 E K) ?_
  refine comp (fun E K => (run8 c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ x1 x2 x3 x4 x5 x6 x7 x8 x9 x10 x11 x12 x13 x14 x15).2 E K) ?_
  refine comp (fun E K => (run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ x1 x2 x3 x4 x5 x6 x7 x8 x9 x10 x11 x12 x13 x14 x15).2.2 E K) ?_
  refine comp (fun E K => (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ x1 x2 x3 x4 x5 x6 x7 x8 x9 x10 x11 x12 x13 x14 _).2.2.2.2.2.2 E K) ?_
  refine comp (fun E K => (run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ x1 x2 x3 x4 x5 x6 x7 x8 x9 _ _ _ _ x14 _).2.2 E K) ?_
  exact (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ x1 x2 x3 x4 x5 x6 x7 _ x9 _ _ _ _ x14 _).2.2.2 E K

end Cert.Kernel.Own
-- ==== Proof.Kernel.Frame.lean ====
/-
   The first call's frame: from any memory the run ends, with its arguments as they were.
-/
module

public import proofs.«01_k».proof.Proof.Kernel.Core

@[expose] public section

set_option maxRecDepth 65536
set_option maxHeartbeats 4000000

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body holds besides its windows: the two scratch buffers and the generator register, each at some contents. -/
theorem PhiA0_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl

/-- What the body leaves whatever the contents it finds: the inputs as they were, everything else at some contents. -/
theorem body_any (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32)
    (E : Set ℕ) (K : PUnit → sProp 𝕄) :
    iprop(held c arg1 arg2 arg3 arg4 arg5 arg6 arg7 arg8 arg9 arg10 arg11 arg12 arg13 arg14 arg15 x1 x2 x3 x4 x5 x6 x7 x8 x9 x10 x11 x12 x13 x14 x15 ∗ ((∃ y8 y9 y10 y11 y12 y13 y14 y15, held c arg1 arg2 arg3 arg4 arg5 arg6 arg7 arg8 arg9 arg10 arg11 arg12 arg13 arg14 arg15 x1 x2 x3 x4 x5 x6 x7 y8 y9 y10 y11 y12 y13 y14 y15) -∗ K ⟨⟩))
      ⊢ wp frame (wpE (defs₀ (F := F)) Variants.none c none) E (cc0__dx_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have core : ∀ (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) (E : Set ℕ) (K : PUnit → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ ((∃ y8 y9 y10 y11 y12 y13 y14 y15, held c arg1 arg2 arg3 arg4 arg5 arg6 arg7 arg8 arg9 arg10 arg11 arg12 arg13 arg14 arg15 x1 x2 x3 x4 x5 x6 x7 y8 y9 y10 y11 y12 y13 y14 y15) -∗ K ⟨⟩))
        ⊢ wp frame (wpE (defs₀ (F := F)) Variants.none c none) E (coreSkel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro x1 x2 x3 x4 x5 x6 x7 x8 x9 x10 x11 x12 x13 x14 x15 E K
    refine BIBase.Entails.trans ?_ (core_run c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 _ _ _ _ _ _ _ _ _ _ _ _ _ _ rfl rfl rfl rfl rfl rfl rfl rfl rfl rfl rfl rfl rfl rfl E K)
    iintro ⟨H, HK⟩
    isplitl [H]
    · iexact H
    iintro H
    iapply HK
    iexists _, _, _, _, _, _, _, _
    iexact H
  by_cases hc0 : cond0_0 i
  · rw [body_pos i arg1 harg1 arg2 harg2 arg3 harg3 arg4 harg4 arg5 harg5 arg6 harg6 arg7 harg7 arg8 harg8 arg9 harg9 arg10 harg10 arg11 harg11 arg12 harg12 arg13 harg13 arg14 harg14 arg15 harg15 hc0]
    refine comp (fun E K => (runInit c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay17 k0_pay18 k0_pay19 x1 x2 x3 x4 x5 x6 x7 x8 x9 x10 x11 x12 x13 x14 x15).2.2.2.2.2 E K) ?_
    exact core x1 x2 x3 x4 x5 x6 x7 x8 _ _ _ x12 x13 _ x15 E K
  · rw [body_neg i arg1 harg1 arg2 harg2 arg3 harg3 arg4 harg4 arg5 harg5 arg6 harg6 arg7 harg7 arg8 harg8 arg9 harg9 arg10 harg10 arg11 harg11 arg12 harg12 arg13 harg13 arg14 harg14 arg15 harg15 hc0]
    exact core x1 x2 x3 x4 x5 x6 x7 x8 x9 x10 x11 x12 x13 x14 x15 E K

/-- The output windows, of which the frame states nothing. -/
def forgets0 : Fin 13 → Bool := fun w => w.val == 7 || w.val == 8 || w.val == 9 || w.val == 10 || w.val == 11 || w.val == 12

/-- The pipeline's proof data: the arrays as the region finds them, each input's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- The body at any point: what it is called with gives the fifteen buffers, and the buffers it leaves give what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (st0_0 t) fullShare ((dats m 0 c).after 0 t) from by
      unfold Dat.leavesExact; rw [liveAt0_0 t], after0_0]
  rw [show (dats m 0 c).leavesExact 1 t = owns (c : Thread nD τ) (st0_1 t) fullShare ((dats m 0 c).after 1 t) from by
      unfold Dat.leavesExact; rw [liveAt0_1 t], after0_1]
  rw [show (dats m 0 c).leavesExact 2 t = owns (c : Thread nD τ) (st0_2 t) fullShare ((dats m 0 c).after 2 t) from by
      unfold Dat.leavesExact; rw [liveAt0_2 t], after0_2]
  rw [show (dats m 0 c).leavesExact 3 t = owns (c : Thread nD τ) (st0_3 t) fullShare ((dats m 0 c).after 3 t) from by
      unfold Dat.leavesExact; rw [liveAt0_3 t], after0_3]
  rw [show (dats m 0 c).leavesExact 4 t = owns (c : Thread nD τ) (st0_4 t) fullShare ((dats m 0 c).after 4 t) from by
      unfold Dat.leavesExact; rw [liveAt0_4 t], after0_4]
  rw [show (dats m 0 c).leavesExact 5 t = owns (c : Thread nD τ) (st0_5 t) fullShare ((dats m 0 c).after 5 t) from by
      unfold Dat.leavesExact; rw [liveAt0_5 t], after0_5]
  rw [show (dats m 0 c).leavesExact 6 t = owns (c : Thread nD τ) (st0_6 t) fullShare ((dats m 0 c).after 6 t) from by
      unfold Dat.leavesExact; rw [liveAt0_6 t], after0_6]
  iintro ⟨⟨⟨⟨%e14, HS0⟩, ⟨%e15, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_any c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) d7 d8 d9 d10 d11 d12 e14 e15 Set.univ _)
  isplitl [H0 H1 H2 H3 H4 H5 H6 H7 H8 H9 H10 H11 H12 HS0 HS1]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    iexact HS1
  · unfold held
    iintro ⟨%y8, %y9, %y10, %y11, %y12, %y13, %y14, %y15, HA1, HA2, HA3, HA4, HA5, HA6, HA7, HA8, HA9, HA10, HA11, HA12, HA13, HA14, HA15⟩
    isplitl [HA14 HA15 Hg]
    · isplitl [HA14 HA15]
      · isplitl [HA14]
        · iexists _; iexact HA14
        · iexists _; iexact HA15
      iexact Hg
    isplitl [Ho]; · iexact Ho
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexists _; iexact HA8
    isplitl [HA9]; · iexists _; iexact HA9
    isplitl [HA10]; · iexists _; iexact HA10
    isplitl [HA11]; · iexists _; iexact HA11
    isplitl [HA12]; · iexists _; iexact HA12
    iexists _; iexact HA13

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: the run ends with the arrays as the pipeline leaves them and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays read off a run's end. -/
theorem unchanged_of {rdat : (c : Dev nD) → Pipeline.RDat τ (Elt F) Unit ℕ (UR sig nD τ) ℕ (cfgs 0) c}
    (hA : ∀ c w, (rdat c).A w = V m c (Pipeline.arrRef spec0 w)) {r} (h : Pipeline.RDat.FramePost (cfgs 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h.arr_in c 1 rfl).trans (hA c 1)).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h.arr_in c 5 rfl).trans (hA c 5)).trans (V_main_arg3 m c),
    ((h.arr_in c 6 rfl).trans (hA c 6)).trans (V_main_arg4 m c),
    ((h.arr_in c 2 rfl).trans (hA c 2)).trans (V_main_arg5 m c),
    ((h c).2 main_arg6 (Pipeline.mem_restRefs_of main_arg6 (by decide) (by decide))).trans (V_main_arg6 m c)⟩

/-- The frame: the argument arrays end unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨unchanged_of m (A_eq m) h.1, h.2⟩) (run_main_quiescent m ρ)

end Cert.Kernel.Own
-- ==== Proof.KernelIdeal.Pieces.lean ====
/-
   The first call's body cut into stretches: what only the first grid point does, the group means, and the last loops; with what
   it is to hold the fifteen buffers the body works on, each at given contents.
-/
module

public import proofs.«01_k».proof.Proof.Gen.KernelIdeal.Frame
public import proofs.«01_k».proof.Proof.Gen.KernelIdeal.Loops

@[expose] public section

set_option maxRecDepth 65536
set_option maxHeartbeats 4000000

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body is at the first grid point: the condition its one conditional tests. -/
abbrev cond0_0 (i : grid0.Coords) : Prop :=
  Scalar.cmpi .ne (Scalar.extui (Scalar.cmpi .eq (BitVec.ofNat 32 (i 0).val) 0#32)) 0#32 = 1#1

theorem hcond0_0 : ∀ t : Fin cfg0.N, cond0_0 (grid0.coords t) ↔ t.val % 36 = 0 :=
  (by decide +kernel : ∀ t : Fin grid0.N, cond0_0 (grid0.coords t) ↔ t.val % 36 = 0)

/-- The fifteen buffers of the body, each whole at its contents. -/
def held (c : Dev nD) (arg1 : Memref sig .tc .smem S1 .f32) (arg2 : Memref sig .tc .vmem S1x1024x640 .bf16) (arg3 : Memref sig .tc .vmem S1x1024x640 .fp8e5m2) (arg4 : Memref sig .tc .vmem S1x640 .f32) (arg5 : Memref sig .tc .vmem S1x640 .f32) (arg6 : Memref sig .tc .vmem S36x640 .f32) (arg7 : Memref sig .tc .vmem S36x640 .f32) (arg8 : Memref sig .tc .vmem S1x1024x640 .bf16) (arg9 : Memref sig .tc .vmem S16x640 .f32) (arg10 : Memref sig .tc .vmem S1x640 .f32) (arg11 : Memref sig .tc .vmem S1x640 .f32) (arg12 : Memref sig .tc .vmem S36x640 .f32) (arg13 : Memref sig .tc .vmem S36x640 .f32) (arg14 : Memref sig .tc .vmem S640x640 .bf16) (arg15 : Memref sig .tc .vmem S1024x640 .f32)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15)

/-- One stretch of a body followed by the rest of it. -/
theorem comp {α β : Type} {c : Dev nD} {E : Set ℕ} {pre post R : sProp 𝕄} {p : Prog (TpuEff nD τ sig (Elt F) Λ₀ .tc) α} {r : α}
    {k : α → Prog (TpuEff nD τ sig (Elt F) Λ₀ .tc) β} {Q : β → sProp 𝕄}
    (h : ∀ (E : Set ℕ) (K : α → sProp 𝕄), iprop(pre ∗ (post -∗ K r)) ⊢ wp frame (wpE (defs₀ (F := F)) Variants.none c none) E p K)
    (h2 : iprop(post ∗ R) ⊢ wp frame (wpE (defs₀ (F := F)) Variants.none c none) E (k r) Q) :
    iprop(pre ∗ R) ⊢ wp frame (wpE (defs₀ (F := F)) Variants.none c none) E (p >>= k) Q := by
  rw [wp_bind]
  refine BIBase.Entails.trans ?_ (h E _)
  iintro ⟨H, HR⟩
  isplitl [H]
  · iexact H
  · iintro H
    iapply h2
    isplitl [H]
    · iexact H
    · iexact HR

/-- What the first grid point does before anything else: the group matrix and zeros in the three accumulators. -/
noncomputable def initSkel (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) (v236 : IVec S640x640 32) (v239 : IVec S640x640 32) (v258 : IVec S640x640 1) :
    Prog (TpuEff nD τ sig (Elt F) Λ₀ .tc) PUnit := do
  let v267 : Vec F S640x640 .bf16 ← Prog.lift (.load arg14 (Rect.unit (s := S640x640) ![0, 0] S640x640.size inb_S640x640_S640x640_0_0).toLoadRect (View.loadsAt_vmem h_S640x640))
  Prog.lift (.store arg14 (Rect.unit (s := S640x640) ![0, 0] S640x640.size inb_S640x640_S640x640_0_0) (k0_pay45 (F := F) v236 v239 v258) Finset.univ (View.stores_vmem h_S640x640 (harg14.storeExact_slice rfl _ packedbf16_S640x640_S640x640_0_0) (fun _ => rfl)) (.inl rfl))
  let v271 : Vec F S1x640 .f32 ← Prog.lift (.load arg10 (Rect.unit (s := S1x640) ![0, 0] S1x640.size inb_S1x640_S1x640_0_0).toLoadRect (View.loadsAt_vmem h_S1x640))
  Prog.lift (.store arg10 (Rect.unit (s := S1x640) ![0, 0] S1x640.size inb_S1x640_S1x640_0_0) (k0_pay46 (F := F)) Finset.univ (View.stores_vmem_bits_univ h_S1x640 rfl) (.inl rfl))
  let v273 : Vec F S1x640 .f32 ← Prog.lift (.load arg11 (Rect.unit (s := S1x640) ![0, 0] S1x640.size inb_S1x640_S1x640_0_0).toLoadRect (View.loadsAt_vmem h_S1x640))
  Prog.lift (.store arg11 (Rect.unit (s := S1x640) ![0, 0] S1x640.size inb_S1x640_S1x640_0_0) (k0_pay47 (F := F)) Finset.univ (View.stores_vmem_bits_univ h_S1x640 rfl) (.inl rfl))
  let v275 : Vec F S16x640 .f32 ← Prog.lift (.load arg9 (Rect.unit (s := S16x640) ![0, 0] S16x640.size inb_S16x640_S16x640_0_0).toLoadRect (View.loadsAt_vmem h_S16x640))
  Prog.lift (.store arg9 (Rect.unit (s := S16x640) ![0, 0] S16x640.size inb_S16x640_S16x640_0_0) (k0_pay48 (F := F)) Finset.univ (View.stores_vmem_bits_univ h_S16x640 rfl) (.inl rfl))
  pure ⟨⟩

/-- What every grid point does up to the group means. -/
noncomputable def meanSkel (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) :
    Prog (TpuEff nD τ sig (Elt F) Λ₀ .tc) (Σ' (arg0 : BitVec 32) (v3 : Vec F S640x640 .bf16) (v4 : Elt F .f32) (v5 : FVec F S8x128 .f32), FVec F S1x640 .f32) := do
  let arg0 : BitVec 32 := BitVec.ofNat 32 (i 0).val
  let v3 : Vec F S640x640 .bf16 ← Prog.lift (.load arg14 (Rect.unit (s := S640x640) ![0, 0] S640x640.size inb_S640x640_S640x640_0_0).toLoadRect (View.loadsAt_vmem h_S640x640))
  let v4 : Elt F .f32 ← smemLoad arg1 (Rect.unit (s := S1) ![0] S1.size inb_S1_S1_0) numel1_S1 rfl
  let v7 : FVec F S8x128 .f32 ← Scf.Loop.for k0_t1_loop k0_t1_ok (k0_pay49 (F := F)) (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15)
  let v9 : FVec F S8x128 .f32 ← Scf.Loop.for k0_t2_loop k0_t2_ok (k0_pay49 (F := F)) (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15)
  let v11 : FVec F S8x128 .f32 ← Scf.Loop.for k0_t3_loop k0_t3_ok (k0_pay49 (F := F)) (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15)
  let v13 : FVec F S8x128 .f32 ← Scf.Loop.for k0_t4_loop k0_t4_ok (k0_pay49 (F := F)) (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15)
  let v15 : FVec F S8x128 .f32 ← Scf.Loop.for k0_t5_loop k0_t5_ok (k0_pay49 (F := F)) (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15)
  pure ⟨arg0, v3, v4, k0_pay49 (F := F), k0_pay55 v3 v7 v9 v11 v13 v15⟩

theorem part7_pos (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) (hc0 : cond0_0 i) : k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = (initSkel i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay17 k0_pay18 k0_pay19 >>= fun _ => meanSkel i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  rw [k0_part7_eq_skeleton]; unfold k0_part7_skel; simp only [k0_part1_eq_skeleton]; unfold k0_part1_skel
  rw [dif_pos hc0]
  rfl

theorem part7_neg (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) (hc0 : ¬cond0_0 i) : k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = meanSkel i arg1 harg1 arg2 harg2 arg3 harg3 arg4 harg4 arg5 harg5 arg6 harg6 arg7 harg7 arg8 harg8 arg9 harg9 arg10 harg10 arg11 harg11 arg12 harg12 arg13 harg13 arg14 harg14 arg15 harg15 := by
  rw [k0_part7_eq_skeleton]; unfold k0_part7_skel
  rw [dif_neg hc0]
  rfl

/-- The loops over the last four lane blocks that write the input gradient, and the running maximum after them. -/
noncomputable def tailSkel (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) (v30 : FVec F S1x640 .f32) (v167 : FVec F S1x640 .f32) (v169 : FVec F S1x640 .f32) (v170 : FVec F S1x640 .f32) (v177 : FVec F S16x128 .bf16) (v178 : FVec F S1x128 .f32) (v179 : FVec F S1x128 .f32) (v180 : FVec F S1x128 .f32) (v181 : FVec F S1x128 .f32) (v182 : FVec F S16x128 .bf16) :
    Prog (TpuEff nD τ sig (Elt F) Λ₀ .tc) PUnit := do
  let v184 : FVec F S16x128 .bf16 ← Scf.Loop.for k0_t17_loop k0_t17_ok v182 (k0_t17_body i arg1 harg1 arg2 harg2 arg3 harg3 arg4 harg4 arg5 harg5 arg6 harg6 arg7 harg7 arg8 harg8 arg9 harg9 arg10 harg10 arg11 harg11 arg12 harg12 arg13 harg13 arg14 harg14 arg15 harg15 v178 v179 v180 v181)
  let v191 : FVec F S16x128 .bf16 ← Scf.Loop.for k0_t18_loop k0_t18_ok (k0_pay4 (F := F)) (k0_t18_body i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170)
  let v198 : FVec F S16x128 .bf16 ← Scf.Loop.for k0_t19_loop k0_t19_ok (k0_pay8 (F := F)) (k0_t19_body i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170)
  let v205 : FVec F S16x128 .bf16 ← Scf.Loop.for k0_t20_loop k0_t20_ok (k0_pay12 (F := F)) (k0_t20_body i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170)
  let v206 : Vec F S16x640 .f32 ← Prog.lift (.load arg9 (Rect.unit (s := S16x640) ![0, 0] S16x640.size inb_S16x640_S16x640_0_0).toLoadRect (View.loadsAt_vmem h_S16x640))
  let v211 : Vec F S16x640 .f32 ← Prog.lift (.load arg9 (Rect.unit (s := S16x640) ![0, 0] S16x640.size inb_S16x640_S16x640_0_0).toLoadRect (View.loadsAt_vmem h_S16x640))
  Prog.lift (.store arg9 (Rect.unit (s := S16x640) ![0, 0] S16x640.size inb_S16x640_S16x640_0_0) (k0_pay16 v177 v184 v191 v198 v205 v206) Finset.univ (View.stores_vmem_bits_univ h_S16x640 rfl) (.inl rfl))
  pure ⟨⟩

/-- The body without what only the first grid point does. -/
noncomputable def coreSkel (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) :
    Prog (TpuEff nD τ sig (Elt F) Λ₀ .tc) PUnit := do
  let ⟨arg0, v3, v4, v5, v28⟩ : Σ' (arg0 : BitVec 32) (v3 : Vec F S640x640 .bf16) (v4 : Elt F .f32) (v5 : FVec F S8x128 .f32), FVec F S1x640 .f32 ← meanSkel i arg1 harg1 arg2 harg2 arg3 harg3 arg4 harg4 arg5 harg5 arg6 harg6 arg7 harg7 arg8 harg8 arg9 harg9 arg10 harg10 arg11 harg11 arg12 harg12 arg13 harg13 arg14 harg14 arg15 harg15
  let ⟨v30, v62⟩ : Σ' (v30 : FVec F S1x640 .f32), FVec F S1x640 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v5 v28
  let ⟨v63, v65, v67, v71, v77, v82_0, v82_1, v87_0, v87_1, v92_0, v92_1, v97_0, v97_1, v98, v99⟩ : Σ' (v63 : FVec F S1x640 .f32) (v65 : FVec F S1x640 .f32) (v67 : FVec F S1x640 .f32) (v71 : FVec F S1x640 .f32) (v77 : FVec F S1x640 .f32) (v82_0 : FVec F S8x128 .f32) (v82_1 : FVec F S8x128 .f32) (v87_0 : FVec F S8x128 .f32) (v87_1 : FVec F S8x128 .f32) (v92_0 : FVec F S8x128 .f32) (v92_1 : FVec F S8x128 .f32) (v97_0 : FVec F S8x128 .f32) (v97_1 : FVec F S8x128 .f32) (v98 : FVec F S1x128 .f32), FVec F S1x128 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v5 v30 v62
  let ⟨v110, v132, v136, v137, v139⟩ : Σ' (v110 : FVec F S8x640 .f32) (v132 : FVec F S1x640 .f32) (v136 : FVec F S8x640 .f32) (v137 : FVec F S8x640 .f32), FVec F S8x640 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 v5 v63 v65 v67 v71 v77 v82_0 v82_1 v87_0 v87_1 v92_0 v92_1 v97_0 v97_1 v98 v99
  let ⟨v167, v169, v170, v177, v178, v179, v180, v181, v182, c0_i32_103⟩ : Σ' (v167 : FVec F S1x640 .f32) (v169 : FVec F S1x640 .f32) (v170 : FVec F S1x640 .f32) (v177 : FVec F S16x128 .bf16) (v178 : FVec F S1x128 .f32) (v179 : FVec F S1x128 .f32) (v180 : FVec F S1x128 .f32) (v181 : FVec F S1x128 .f32) (v182 : FVec F S16x128 .bf16), BitVec 32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139
  tailSkel i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170 v177 v178 v179 v180 v181 v182

theorem body_pos (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) (hc0 : cond0_0 i) : cc0__dx_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = (initSkel i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay17 k0_pay18 k0_pay19 >>= fun _ => coreSkel i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  rw [cc0__dx_body_eq_skeleton]; unfold cc0__dx_body_skel coreSkel
  rw [part7_pos i arg1 harg1 arg2 harg2 arg3 harg3 arg4 harg4 arg5 harg5 arg6 harg6 arg7 harg7 arg8 harg8 arg9 harg9 arg10 harg10 arg11 harg11 arg12 harg12 arg13 harg13 arg14 harg14 arg15 harg15 hc0]
  rfl

theorem body_neg (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole) (hc0 : ¬cond0_0 i) : cc0__dx_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = coreSkel i arg1 harg1 arg2 harg2 arg3 harg3 arg4 harg4 arg5 harg5 arg6 harg6 arg7 harg7 arg8 harg8 arg9 harg9 arg10 harg10 arg11 harg11 arg12 harg12 arg13 harg13 arg14 harg14 arg15 harg15 := by
  rw [cc0__dx_body_eq_skeleton]; unfold cc0__dx_body_skel coreSkel
  rw [part7_neg i arg1 harg1 arg2 harg2 arg3 harg3 arg4 harg4 arg5 harg5 arg6 harg6 arg7 harg7 arg8 harg8 arg9 harg9 arg10 harg10 arg11 harg11 arg12 harg12 arg13 harg13 arg14 harg14 arg15 harg15 hc0]
  rfl

end Cert.KernelIdeal.Own
-- ==== Proof.KernelIdeal.RunA.lean ====
/-
   The first stretches of the body run once: the first grid point's own part, the group means, the group variances.
-/
module

public import proofs.«01_k».proof.Proof.KernelIdeal.Pieces

@[expose] public section

set_option maxRecDepth 65536
set_option maxHeartbeats 4000000

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- What only the first grid point does. -/
noncomputable def runInit (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (v236 : IVec S640x640 32) (v239 : IVec S640x640 32) (v258 : IVec S640x640 1)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) :
    Σ' (y9 : Vec F S16x640 .f32) (y10 : Vec F S1x640 .f32) (y11 : Vec F S1x640 .f32) (y14 : Vec F S640x640 .bf16) (r : PUnit), ∀ (E : Set ℕ) (K : (PUnit) → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 x8 y9 y10 y11 x12 x13 y14 x15 -∗ K r))
        ⊢ wp frame (wpE (defs₀ (F := F)) Variants.none c none) E (initSkel i arg1 harg1 arg2 harg2 arg3 harg3 arg4 harg4 arg5 harg5 arg6 harg6 arg7 harg7 arg8 harg8 arg9 harg9 arg10 harg10 arg11 harg11 arg12 harg12 arg13 harg13 arg14 harg14 arg15 harg15 v236 v239 v258) K := by
  refine ⟨?_, ?_, ?_, ?_, ?_, fun E K => ?run⟩
  case run =>
    unfold initSkel
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact rfl
    isplitl [H10]
    · iexists _; isplitr; swap; · iexact H10
      ipureintro; exact rfl
    isplitl [H11]
    · iexists _; isplitr; swap; · iexact H11
      ipureintro; exact rfl
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact rfl
    · iexists _; isplitr; swap; · iexact H15
      ipureintro; exact harg15.read_unread _

/-- The group means. -/
noncomputable def runMean (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)

    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) :
    Σ'  (r : Σ' (arg0 : BitVec 32) (v3 : Vec F S640x640 .bf16) (v4 : Elt F .f32) (v5 : FVec F S8x128 .f32), FVec F S1x640 .f32), ∀ (E : Set ℕ) (K : (Σ' (arg0 : BitVec 32) (v3 : Vec F S640x640 .bf16) (v4 : Elt F .f32) (v5 : FVec F S8x128 .f32), FVec F S1x640 .f32) → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 x8 x9 x10 x11 x12 x13 x14 x15 -∗ K r))
        ⊢ wp frame (wpE (defs₀ (F := F)) Variants.none c none) E (meanSkel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  refine ⟨?_, fun E K => ?run⟩
  case run =>
    unfold meanSkel
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact harg11.read_unread _
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact harg14.read_unread _
    · iexists _; isplitr; swap; · iexact H15
      ipureintro; exact harg15.read_unread _

/-- The group variances. -/
noncomputable def run8 (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (v3 : Vec F S640x640 .bf16) (v5 : FVec F S8x128 .f32) (v28 : FVec F S1x640 .f32)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) :
    Σ'  (r : Σ' (v30 : FVec F S1x640 .f32), FVec F S1x640 .f32), ∀ (E : Set ℕ) (K : (Σ' (v30 : FVec F S1x640 .f32), FVec F S1x640 .f32) → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 x8 x9 x10 x11 x12 x13 x14 x15 -∗ K r))
        ⊢ wp frame (wpE (defs₀ (F := F)) Variants.none c none) E (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v5 v28) K := by
  refine ⟨?_, fun E K => ?run⟩
  case run =>
    simp only [k0_part8_eq_skeleton]
    unfold k0_part8_skel
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact harg11.read_unread _
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact harg14.read_unread _
    · iexists _; isplitr; swap; · iexact H15
      ipureintro; exact harg15.read_unread _

end Cert.KernelIdeal.Own
-- ==== Proof.KernelIdeal.RunB.lean ====
/-
   The middle stretches of the body run once: the derivative at the activation and the column sums.
-/
module

public import proofs.«01_k».proof.Proof.KernelIdeal.Pieces

@[expose] public section

set_option maxRecDepth 65536
set_option maxHeartbeats 4000000

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The derivative at the activation for the first four lane blocks. -/
noncomputable def run9 (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (arg0 : BitVec 32) (v5 : FVec F S8x128 .f32) (v30 : FVec F S1x640 .f32) (v62 : FVec F S1x640 .f32)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) :
    Σ' (y15 : Vec F S1024x640 .f32) (r : Σ' (v63 : FVec F S1x640 .f32) (v65 : FVec F S1x640 .f32) (v67 : FVec F S1x640 .f32) (v71 : FVec F S1x640 .f32) (v77 : FVec F S1x640 .f32) (v82_0 : FVec F S8x128 .f32) (v82_1 : FVec F S8x128 .f32) (v87_0 : FVec F S8x128 .f32) (v87_1 : FVec F S8x128 .f32) (v92_0 : FVec F S8x128 .f32) (v92_1 : FVec F S8x128 .f32) (v97_0 : FVec F S8x128 .f32) (v97_1 : FVec F S8x128 .f32) (v98 : FVec F S1x128 .f32), FVec F S1x128 .f32), ∀ (E : Set ℕ) (K : (Σ' (v63 : FVec F S1x640 .f32) (v65 : FVec F S1x640 .f32) (v67 : FVec F S1x640 .f32) (v71 : FVec F S1x640 .f32) (v77 : FVec F S1x640 .f32) (v82_0 : FVec F S8x128 .f32) (v82_1 : FVec F S8x128 .f32) (v87_0 : FVec F S8x128 .f32) (v87_1 : FVec F S8x128 .f32) (v92_0 : FVec F S8x128 .f32) (v92_1 : FVec F S8x128 .f32) (v97_0 : FVec F S8x128 .f32) (v97_1 : FVec F S8x128 .f32) (v98 : FVec F S1x128 .f32), FVec F S1x128 .f32) → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 x8 x9 x10 x11 x12 x13 x14 y15 -∗ K r))
        ⊢ wp frame (wpE (defs₀ (F := F)) Variants.none c none) E (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v5 v30 v62) K := by
  refine ⟨?_, ?_, fun E K => ?run⟩
  case run =>
    simp only [k0_part9_eq_skeleton]
    unfold k0_part9_skel
    simp only [k0_part2_eq_skeleton, k0_part3_eq_skeleton, k0_part4_eq_skeleton, k0_part5_eq_skeleton, k0_part6_eq_skeleton]
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact harg11.read_unread _
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact harg14.read_unread _
    · iexists _; isplitr; swap; · iexact H15
      ipureintro; exact rfl

/-- The derivative at the activation for the last lane block, and the column sums. -/
noncomputable def run10 (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (arg0 : BitVec 32) (v4 : Elt F .f32) (v5 : FVec F S8x128 .f32) (v63 : FVec F S1x640 .f32) (v65 : FVec F S1x640 .f32) (v67 : FVec F S1x640 .f32) (v71 : FVec F S1x640 .f32) (v77 : FVec F S1x640 .f32) (v82_0 : FVec F S8x128 .f32) (v82_1 : FVec F S8x128 .f32) (v87_0 : FVec F S8x128 .f32) (v87_1 : FVec F S8x128 .f32) (v92_0 : FVec F S8x128 .f32) (v92_1 : FVec F S8x128 .f32) (v97_0 : FVec F S8x128 .f32) (v97_1 : FVec F S8x128 .f32) (v98 : FVec F S1x128 .f32) (v99 : FVec F S1x128 .f32)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) :
    Σ' (y10 : Vec F S1x640 .f32) (y11 : Vec F S1x640 .f32) (y12 : Vec F S36x640 .f32) (y13 : Vec F S36x640 .f32) (y15 : Vec F S1024x640 .f32) (r : Σ' (v110 : FVec F S8x640 .f32) (v132 : FVec F S1x640 .f32) (v136 : FVec F S8x640 .f32) (v137 : FVec F S8x640 .f32), FVec F S8x640 .f32), ∀ (E : Set ℕ) (K : (Σ' (v110 : FVec F S8x640 .f32) (v132 : FVec F S1x640 .f32) (v136 : FVec F S8x640 .f32) (v137 : FVec F S8x640 .f32), FVec F S8x640 .f32) → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 x8 x9 y10 y11 y12 y13 x14 y15 -∗ K r))
        ⊢ wp frame (wpE (defs₀ (F := F)) Variants.none c none) E (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 v5 v63 v65 v67 v71 v77 v82_0 v82_1 v87_0 v87_1 v92_0 v92_1 v97_0 v97_1 v98 v99) K := by
  refine ⟨?_, ?_, ?_, ?_, ?_, ?_, fun E K => ?run⟩
  case run =>
    simp only [k0_part10_eq_skeleton]
    unfold k0_part10_skel
    simp only [k0_part2_eq_skeleton, k0_part3_eq_skeleton, k0_part4_eq_skeleton, k0_part5_eq_skeleton, k0_part6_eq_skeleton]
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact rfl
    isplitl [H11]
    · iexists _; isplitr; swap; · iexact H11
      ipureintro; exact rfl
    isplitl [H12]
    · iexists _; isplitr; swap; · iexact H12
      ipureintro; exact rfl
    isplitl [H13]
    · iexists _; isplitr; swap; · iexact H13
      ipureintro; exact rfl
    isplitl [H14]
    · iexists _; isplitr; swap; · iexact H14
      ipureintro; exact harg14.read_unread _
    · iexists _; isplitr; swap; · iexact H15
      ipureintro; exact rfl

end Cert.KernelIdeal.Own
-- ==== Proof.KernelIdeal.RunC.lean ====
/-
   The last stretches of the body run once: the input gradient and the running maximum.
-/
module

public import proofs.«01_k».proof.Proof.KernelIdeal.Pieces

@[expose] public section

set_option maxRecDepth 65536
set_option maxHeartbeats 4000000

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The input gradient for the first lane block. -/
noncomputable def run11 (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (v3 : Vec F S640x640 .bf16) (v4 : Elt F .f32) (v30 : FVec F S1x640 .f32) (v63 : FVec F S1x640 .f32) (v110 : FVec F S8x640 .f32) (v132 : FVec F S1x640 .f32) (v136 : FVec F S8x640 .f32) (v137 : FVec F S8x640 .f32) (v139 : FVec F S8x640 .f32)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) :
    Σ' (y8 : Vec F S1x1024x640 .bf16) (r : Σ' (v167 : FVec F S1x640 .f32) (v169 : FVec F S1x640 .f32) (v170 : FVec F S1x640 .f32) (v177 : FVec F S16x128 .bf16) (v178 : FVec F S1x128 .f32) (v179 : FVec F S1x128 .f32) (v180 : FVec F S1x128 .f32) (v181 : FVec F S1x128 .f32) (v182 : FVec F S16x128 .bf16), BitVec 32), ∀ (E : Set ℕ) (K : (Σ' (v167 : FVec F S1x640 .f32) (v169 : FVec F S1x640 .f32) (v170 : FVec F S1x640 .f32) (v177 : FVec F S16x128 .bf16) (v178 : FVec F S1x128 .f32) (v179 : FVec F S1x128 .f32) (v180 : FVec F S1x128 .f32) (v181 : FVec F S1x128 .f32) (v182 : FVec F S16x128 .bf16), BitVec 32) → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 y8 x9 x10 x11 x12 x13 x14 x15 -∗ K r))
        ⊢ wp frame (wpE (defs₀ (F := F)) Variants.none c none) E (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139) K := by
  refine ⟨?_, ?_, fun E K => ?run⟩
  case run =>
    simp only [k0_part11_eq_skeleton]
    unfold k0_part11_skel
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact rfl
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact harg11.read_unread _
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact harg14.read_unread _
    · iexists _; isplitr; swap; · iexact H15
      ipureintro; exact harg15.read_unread _

/-- The input gradient for the other lane blocks, and the running maximum. -/
noncomputable def runTail (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (v30 : FVec F S1x640 .f32) (v167 : FVec F S1x640 .f32) (v169 : FVec F S1x640 .f32) (v170 : FVec F S1x640 .f32) (v177 : FVec F S16x128 .bf16) (v178 : FVec F S1x128 .f32) (v179 : FVec F S1x128 .f32) (v180 : FVec F S1x128 .f32) (v181 : FVec F S1x128 .f32) (v182 : FVec F S16x128 .bf16)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) :
    Σ' (y8 : Vec F S1x1024x640 .bf16) (y9 : Vec F S16x640 .f32) (r : PUnit), ∀ (E : Set ℕ) (K : (PUnit) → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 y8 y9 x10 x11 x12 x13 x14 x15 -∗ K r))
        ⊢ wp frame (wpE (defs₀ (F := F)) Variants.none c none) E (tailSkel i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170 v177 v178 v179 v180 v181 v182) K := by
  refine ⟨?_, ?_, ?_, fun E K => ?run⟩
  case run =>
    unfold tailSkel
    unfold held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact rfl
    isplitl [H9]
    · iexists _; isplitr; swap; · iexact H9
      ipureintro; exact rfl
    isplitl [H10]
    · iexists _; isplitr; swap; · iexact H10
      ipureintro; exact harg10.read_unread _
    isplitl [H11]
    · iexists _; isplitr; swap; · iexact H11
      ipureintro; exact harg11.read_unread _
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact harg14.read_unread _
    · iexists _; isplitr; swap; · iexact H15
      ipureintro; exact harg15.read_unread _

end Cert.KernelIdeal.Own
-- ==== Proof.KernelIdeal.Core.lean ====
/-
   The stretches of the first call's body composed.
-/
module

public import proofs.«01_k».proof.Proof.KernelIdeal.RunA
public import proofs.«01_k».proof.Proof.KernelIdeal.RunB
public import proofs.«01_k».proof.Proof.KernelIdeal.RunC

@[expose] public section

set_option maxRecDepth 65536
set_option maxHeartbeats 4000000

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- What the body (without what only the first grid point does) leaves: the stretches one after another, each stretch's
    results named. -/
theorem core_run (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32)
    (r7 : Σ' (arg0 : BitVec 32) (v3 : Vec F S640x640 .bf16) (v4 : Elt F .f32) (v5 : FVec F S8x128 .f32), FVec F S1x640 .f32) (r8 : Σ' (v30 : FVec F S1x640 .f32), FVec F S1x640 .f32)
    (r9 : Σ' (v63 : FVec F S1x640 .f32) (v65 : FVec F S1x640 .f32) (v67 : FVec F S1x640 .f32) (v71 : FVec F S1x640 .f32) (v77 : FVec F S1x640 .f32) (v82_0 : FVec F S8x128 .f32) (v82_1 : FVec F S8x128 .f32) (v87_0 : FVec F S8x128 .f32) (v87_1 : FVec F S8x128 .f32) (v92_0 : FVec F S8x128 .f32) (v92_1 : FVec F S8x128 .f32) (v97_0 : FVec F S8x128 .f32) (v97_1 : FVec F S8x128 .f32) (v98 : FVec F S1x128 .f32), FVec F S1x128 .f32) (y15 : Vec F S1024x640 .f32)
    (r10 : Σ' (v110 : FVec F S8x640 .f32) (v132 : FVec F S1x640 .f32) (v136 : FVec F S8x640 .f32) (v137 : FVec F S8x640 .f32), FVec F S8x640 .f32) (y10 y11 : Vec F S1x640 .f32) (y12 y13 : Vec F S36x640 .f32) (z15 : Vec F S1024x640 .f32)
    (r11 : Σ' (v167 : FVec F S1x640 .f32) (v169 : FVec F S1x640 .f32) (v170 : FVec F S1x640 .f32) (v177 : FVec F S16x128 .bf16) (v178 : FVec F S1x128 .f32) (v179 : FVec F S1x128 .f32) (v180 : FVec F S1x128 .f32) (v181 : FVec F S1x128 .f32) (v182 : FVec F S16x128 .bf16), BitVec 32) (y8 : Vec F S1x1024x640 .bf16) (z8 : Vec F S1x1024x640 .bf16) (y9 : Vec F S16x640 .f32)
    (h7 : (runMean c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15).1 = r7)
    (h8 : (run8 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.2.1) (r7.2.2.2.1) (r7.2.2.2.2) x1 x2 x3 x4 x5 x6 x7 x8 x9 x10 x11 x12 x13 x14 x15).1 = r8)
    (h9a : (run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.2.1) (r8.1) (r8.2) x1 x2 x3 x4 x5 x6 x7 x8 x9 x10 x11 x12 x13 x14 x15).1 = y15)
    (h9b : (run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.2.1) (r8.1) (r8.2) x1 x2 x3 x4 x5 x6 x7 x8 x9 x10 x11 x12 x13 x14 x15).2.1 = r9)
    (h10a : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).1 = y10)
    (h10b : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.1 = y11)
    (h10c : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.1 = y12)
    (h10d : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.2.1 = y13)
    (h10e : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.2.2.1 = z15)
    (h10f : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.2.2.2.1 = r10)
    (h11a : (run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.2.1) (r7.2.2.1) (r8.1) (r9.1) (r10.1) (r10.2.1) (r10.2.2.1) (r10.2.2.2.1) (r10.2.2.2.2) x1 x2 x3 x4 x5 x6 x7 x8 x9 y10 y11 y12 y13 x14 z15).1 = y8)
    (h11b : (run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.2.1) (r7.2.2.1) (r8.1) (r9.1) (r10.1) (r10.2.1) (r10.2.2.1) (r10.2.2.2.1) (r10.2.2.2.2) x1 x2 x3 x4 x5 x6 x7 x8 x9 y10 y11 y12 y13 x14 z15).2.1 = r11)
    (hta : (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 (r8.1) (r11.1) (r11.2.1) (r11.2.2.1) (r11.2.2.2.1) (r11.2.2.2.2.1) (r11.2.2.2.2.2.1) (r11.2.2.2.2.2.2.1) (r11.2.2.2.2.2.2.2.1) (r11.2.2.2.2.2.2.2.2.1) x1 x2 x3 x4 x5 x6 x7 y8 x9 y10 y11 y12 y13 x14 z15).1 = z8)
    (htb : (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 (r8.1) (r11.1) (r11.2.1) (r11.2.2.1) (r11.2.2.2.1) (r11.2.2.2.2.1) (r11.2.2.2.2.2.1) (r11.2.2.2.2.2.2.1) (r11.2.2.2.2.2.2.2.1) (r11.2.2.2.2.2.2.2.2.1) x1 x2 x3 x4 x5 x6 x7 y8 x9 y10 y11 y12 y13 x14 z15).2.1 = y9)
    (E : Set ℕ) (K : PUnit → sProp 𝕄) :
    iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 z8 y9 y10 y11 y12 y13 x14 z15 -∗ K ⟨⟩))
      ⊢ wp frame (wpE (defs₀ (F := F)) Variants.none c none) E (coreSkel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  subst h7
  subst h8
  subst h9a
  subst h9b
  subst h10a
  subst h10b
  subst h10c
  subst h10d
  subst h10e
  subst h10f
  subst h11a
  subst h11b
  subst hta
  subst htb
  unfold coreSkel
  refine comp (fun E K => (runMean c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15).2 E K) ?_
  refine comp (fun E K => (run8 c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ x1 x2 x3 x4 x5 x6 x7 x8 x9 x10 x11 x12 x13 x14 x15).2 E K) ?_
  refine comp (fun E K => (run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ x1 x2 x3 x4 x5 x6 x7 x8 x9 x10 x11 x12 x13 x14 x15).2.2 E K) ?_
  refine comp (fun E K => (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ x1 x2 x3 x4 x5 x6 x7 x8 x9 x10 x11 x12 x13 x14 _).2.2.2.2.2.2 E K) ?_
  refine comp (fun E K => (run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ x1 x2 x3 x4 x5 x6 x7 x8 x9 _ _ _ _ x14 _).2.2 E K) ?_
  exact (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ x1 x2 x3 x4 x5 x6 x7 _ x9 _ _ _ _ x14 _).2.2.2 E K

end Cert.KernelIdeal.Own
-- ==== Proof.KernelIdeal.Frame.lean ====
/-
   The first call's frame: from any memory the run ends, with its arguments as they were.
-/
module

public import proofs.«01_k».proof.Proof.KernelIdeal.Core

@[expose] public section

set_option maxRecDepth 65536
set_option maxHeartbeats 4000000

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body holds besides its windows: the two scratch buffers and the generator register, each at some contents. -/
theorem PhiA0_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl

/-- What the body leaves whatever the contents it finds: the inputs as they were, everything else at some contents. -/
theorem body_any (c : Dev nD) (i : grid0.Coords)
    (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32)
    (E : Set ℕ) (K : PUnit → sProp 𝕄) :
    iprop(held c arg1 arg2 arg3 arg4 arg5 arg6 arg7 arg8 arg9 arg10 arg11 arg12 arg13 arg14 arg15 x1 x2 x3 x4 x5 x6 x7 x8 x9 x10 x11 x12 x13 x14 x15 ∗ ((∃ y8 y9 y10 y11 y12 y13 y14 y15, held c arg1 arg2 arg3 arg4 arg5 arg6 arg7 arg8 arg9 arg10 arg11 arg12 arg13 arg14 arg15 x1 x2 x3 x4 x5 x6 x7 y8 y9 y10 y11 y12 y13 y14 y15) -∗ K ⟨⟩))
      ⊢ wp frame (wpE (defs₀ (F := F)) Variants.none c none) E (cc0__dx_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have core : ∀ (x1 : Vec F S1 .f32) (x2 : Vec F S1x1024x640 .bf16) (x3 : Vec F S1x1024x640 .fp8e5m2) (x4 : Vec F S1x640 .f32) (x5 : Vec F S1x640 .f32) (x6 : Vec F S36x640 .f32) (x7 : Vec F S36x640 .f32) (x8 : Vec F S1x1024x640 .bf16) (x9 : Vec F S16x640 .f32) (x10 : Vec F S1x640 .f32) (x11 : Vec F S1x640 .f32) (x12 : Vec F S36x640 .f32) (x13 : Vec F S36x640 .f32) (x14 : Vec F S640x640 .bf16) (x15 : Vec F S1024x640 .f32) (E : Set ℕ) (K : PUnit → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ ((∃ y8 y9 y10 y11 y12 y13 y14 y15, held c arg1 arg2 arg3 arg4 arg5 arg6 arg7 arg8 arg9 arg10 arg11 arg12 arg13 arg14 arg15 x1 x2 x3 x4 x5 x6 x7 y8 y9 y10 y11 y12 y13 y14 y15) -∗ K ⟨⟩))
        ⊢ wp frame (wpE (defs₀ (F := F)) Variants.none c none) E (coreSkel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro x1 x2 x3 x4 x5 x6 x7 x8 x9 x10 x11 x12 x13 x14 x15 E K
    refine BIBase.Entails.trans ?_ (core_run c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 _ _ _ _ _ _ _ _ _ _ _ _ _ _ rfl rfl rfl rfl rfl rfl rfl rfl rfl rfl rfl rfl rfl rfl E K)
    iintro ⟨H, HK⟩
    isplitl [H]
    · iexact H
    iintro H
    iapply HK
    iexists _, _, _, _, _, _, _, _
    iexact H
  by_cases hc0 : cond0_0 i
  · rw [body_pos i arg1 harg1 arg2 harg2 arg3 harg3 arg4 harg4 arg5 harg5 arg6 harg6 arg7 harg7 arg8 harg8 arg9 harg9 arg10 harg10 arg11 harg11 arg12 harg12 arg13 harg13 arg14 harg14 arg15 harg15 hc0]
    refine comp (fun E K => (runInit c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay17 k0_pay18 k0_pay19 x1 x2 x3 x4 x5 x6 x7 x8 x9 x10 x11 x12 x13 x14 x15).2.2.2.2.2 E K) ?_
    exact core x1 x2 x3 x4 x5 x6 x7 x8 _ _ _ x12 x13 _ x15 E K
  · rw [body_neg i arg1 harg1 arg2 harg2 arg3 harg3 arg4 harg4 arg5 harg5 arg6 harg6 arg7 harg7 arg8 harg8 arg9 harg9 arg10 harg10 arg11 harg11 arg12 harg12 arg13 harg13 arg14 harg14 arg15 harg15 hc0]
    exact core x1 x2 x3 x4 x5 x6 x7 x8 x9 x10 x11 x12 x13 x14 x15 E K

/-- The output windows, of which the frame states nothing. -/
def forgets0 : Fin 13 → Bool := fun w => w.val == 7 || w.val == 8 || w.val == 9 || w.val == 10 || w.val == 11 || w.val == 12

/-- The pipeline's proof data: the arrays as the region finds them, each input's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- The body at any point: what it is called with gives the fifteen buffers, and the buffers it leaves give what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (st0_0 t) fullShare ((dats m 0 c).after 0 t) from by
      unfold Dat.leavesExact; rw [liveAt0_0 t], after0_0]
  rw [show (dats m 0 c).leavesExact 1 t = owns (c : Thread nD τ) (st0_1 t) fullShare ((dats m 0 c).after 1 t) from by
      unfold Dat.leavesExact; rw [liveAt0_1 t], after0_1]
  rw [show (dats m 0 c).leavesExact 2 t = owns (c : Thread nD τ) (st0_2 t) fullShare ((dats m 0 c).after 2 t) from by
      unfold Dat.leavesExact; rw [liveAt0_2 t], after0_2]
  rw [show (dats m 0 c).leavesExact 3 t = owns (c : Thread nD τ) (st0_3 t) fullShare ((dats m 0 c).after 3 t) from by
      unfold Dat.leavesExact; rw [liveAt0_3 t], after0_3]
  rw [show (dats m 0 c).leavesExact 4 t = owns (c : Thread nD τ) (st0_4 t) fullShare ((dats m 0 c).after 4 t) from by
      unfold Dat.leavesExact; rw [liveAt0_4 t], after0_4]
  rw [show (dats m 0 c).leavesExact 5 t = owns (c : Thread nD τ) (st0_5 t) fullShare ((dats m 0 c).after 5 t) from by
      unfold Dat.leavesExact; rw [liveAt0_5 t], after0_5]
  rw [show (dats m 0 c).leavesExact 6 t = owns (c : Thread nD τ) (st0_6 t) fullShare ((dats m 0 c).after 6 t) from by
      unfold Dat.leavesExact; rw [liveAt0_6 t], after0_6]
  iintro ⟨⟨⟨⟨%e14, HS0⟩, ⟨%e15, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_any c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) d7 d8 d9 d10 d11 d12 e14 e15 Set.univ _)
  isplitl [H0 H1 H2 H3 H4 H5 H6 H7 H8 H9 H10 H11 H12 HS0 HS1]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    iexact HS1
  · unfold held
    iintro ⟨%y8, %y9, %y10, %y11, %y12, %y13, %y14, %y15, HA1, HA2, HA3, HA4, HA5, HA6, HA7, HA8, HA9, HA10, HA11, HA12, HA13, HA14, HA15⟩
    isplitl [HA14 HA15 Hg]
    · isplitl [HA14 HA15]
      · isplitl [HA14]
        · iexists _; iexact HA14
        · iexists _; iexact HA15
      iexact Hg
    isplitl [Ho]; · iexact Ho
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexists _; iexact HA8
    isplitl [HA9]; · iexists _; iexact HA9
    isplitl [HA10]; · iexists _; iexact HA10
    isplitl [HA11]; · iexists _; iexact HA11
    isplitl [HA12]; · iexists _; iexact HA12
    iexists _; iexact HA13

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: the run ends with the arrays as the pipeline leaves them and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays read off a run's end. -/
theorem unchanged_of {rdat : (c : Dev nD) → Pipeline.RDat τ (Elt F) Unit ℕ (UR sig nD τ) ℕ (cfgs 0) c}
    (hA : ∀ c w, (rdat c).A w = V m c (Pipeline.arrRef spec0 w)) {r} (h : Pipeline.RDat.FramePost (cfgs 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h.arr_in c 1 rfl).trans (hA c 1)).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h.arr_in c 5 rfl).trans (hA c 5)).trans (V_main_arg3 m c),
    ((h.arr_in c 6 rfl).trans (hA c 6)).trans (V_main_arg4 m c),
    ((h.arr_in c 2 rfl).trans (hA c 2)).trans (V_main_arg5 m c),
    ((h c).2 main_arg6 (Pipeline.mem_restRefs_of main_arg6 (by decide) (by decide))).trans (V_main_arg6 m c)⟩

/-- The frame: the argument arrays end unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨unchanged_of m (A_eq m) h.1, h.2⟩) (run_main_quiescent m ρ)

end Cert.KernelIdeal.Own
-- ==== Proof.Value.Model.lean ====
/-
   The mathematics of the first call over the reals: what one batch element's results are, in the form the reference
   writes them, the form the kernel computes them in, and that the two agree.
-/
module

public import Idealize.ShloMosaic.Lib.Pointwise

@[expose] public section

noncomputable section

namespace Cert.Value

open Finset
open scoped BigOperators

/-- A sum over `n * m` consecutive numbers is the sum of its `n` blocks of `m`. -/
theorem sum_blocks (F : ℕ → ℝ) (n m : ℕ) : ∑ s ∈ range (n * m), F s = ∑ k ∈ range n, ∑ i ∈ range m, F (m * k + i) := by
  induction n with
  | zero => simp
  | succ n ih => rw [Nat.succ_mul, sum_range_add, sum_range_succ, ih, Nat.mul_comm n m]

/-- The rows `8 * i + r` of each of the first `n` blocks of 64 rows, added up. -/
def rows (F : ℕ → ℝ) (n r : ℕ) : ℝ := ∑ k ∈ range n, ∑ q ∈ range 8, F (64 * k + (8 * q + r))

theorem rows_zero (F : ℕ → ℝ) (r : ℕ) : rows F 0 r = 0 := by simp [rows]

theorem rows_succ (F : ℕ → ℝ) (n r : ℕ) : rows F (n + 1) r = rows F n r + ∑ q ∈ range 8, F (64 * n + (8 * q + r)) := by
  simp [rows, sum_range_succ]

/-- The whole column: 1024 rows. -/
def col (F : ℕ → ℝ) : ℝ := ∑ s ∈ range 1024, F s

theorem sum_rows (F : ℕ → ℝ) : ∑ r ∈ range 8, rows F 16 r = col F := by
  unfold rows col
  rw [sum_comm, show (1024 : ℕ) = 16 * 64 from rfl, sum_blocks]
  refine sum_congr rfl fun k _ => ?_
  rw [sum_comm, show (64 : ℕ) = 8 * 8 from rfl, sum_blocks (fun i => F (8 * 8 * k + i)) 8 8]

/-- The sum over the group of 20 channels a channel belongs to. -/
def gsum (V : ℕ → ℝ) (d : ℕ) : ℝ := ∑ e ∈ range 640, if e / 20 = d / 20 then V e else 0

theorem gsum_eq (V : ℕ → ℝ) (d : ℕ) (hd : d < 640) : gsum V d = ∑ k ∈ range 20, V (20 * (d / 20) + k) := by
  unfold gsum
  rw [show (640 : ℕ) = 32 * 20 from rfl, sum_blocks (fun e => if e / 20 = d / 20 then V e else 0) 32 20]
  rw [sum_eq_single (d / 20)]
  · refine sum_congr rfl fun i hi => ?_
    have := mem_range.1 hi
    rw [if_pos (by omega)]
  · intro k _ hk
    refine sum_eq_zero fun i hi => ?_
    have := mem_range.1 hi
    rw [if_neg (by omega)]
  · intro h
    exact absurd (mem_range.2 (by omega)) h

theorem gsum_mul (V : ℕ → ℝ) (a : ℝ) (d : ℕ) : gsum (fun e => V e * a) d = gsum V d * a := by
  unfold gsum
  rw [sum_mul]
  exact sum_congr rfl fun e _ => by split_ifs <;> simp

/-- The stabilising constant under the root. -/
def eps : ℝ := 10995116 * (2 : ℝ) ^ (-40 : ℤ)

theorem eps_pos : 0 < eps := by unfold eps; positivity

open Idealize.ShloMosaic in
/-- The activation's derivative at `h`, from its sigmoid; a real, at the infinities too. -/
def act' (h : EReal) : ℝ := (Ideal.logistic h * (1 + h * (1 - Ideal.logistic h))).toReal

open Idealize.ShloMosaic in
theorem act'_coe (h : EReal) : Ideal.logistic h * (1 + h * (1 - Ideal.logistic h)) = ((act' h : ℝ) : EReal) := by
  unfold act'
  induction h with
  | bot => simp
  | top =>
    have e : (1 : EReal) - 1 = 0 := by rw [← EReal.coe_one, ← EReal.coe_sub, sub_self, EReal.coe_zero]
    simp [e]
  | coe x =>
    rw [Ideal.logistic_coe, ← EReal.coe_one, ← EReal.coe_sub, ← EReal.coe_mul, ← EReal.coe_add, ← EReal.coe_mul, EReal.toReal_coe]

/-- Multiplication by a real distributes over adding a real. -/
theorem coe_add_mul (a c : ℝ) (b : EReal) : ((a : EReal) + b) * (c : EReal) = (a : EReal) * (c : EReal) + b * (c : EReal) := by
  induction b with
  | coe b => norm_cast; ring
  | bot =>
    rw [EReal.add_bot]
    rcases lt_trichotomy c 0 with h | rfl | h
    · rw [EReal.bot_mul_coe_of_neg h, ← EReal.coe_mul, EReal.coe_add_top]
    · simp
    · rw [EReal.bot_mul_coe_of_pos h, EReal.add_bot]
  | top =>
    rw [EReal.coe_add_top]
    rcases lt_trichotomy c 0 with h | rfl | h
    · rw [EReal.top_mul_coe_of_neg h, EReal.add_bot]
    · simp
    · rw [EReal.top_mul_coe_of_pos h, ← EReal.coe_mul, EReal.coe_add_top]

/-- What one batch element is computed from: its activations, its output derivatives, the two norm parameters, the
    element's scale and shift, and the derivatives' scale. The offsets `β` and `esh` may be infinite. -/
structure Pt where
  X : ℕ → ℕ → ℝ
  Y : ℕ → ℕ → ℝ
  γ : ℕ → ℝ
  β : ℕ → EReal
  es : ℕ → ℝ
  esh : ℕ → EReal
  q : ℝ

namespace Pt

variable (B : Pt)

def mean (d : ℕ) : ℝ := gsum (fun e => col fun s => B.X s e) d / 20480
def xc (s d : ℕ) : ℝ := B.X s d - B.mean d
def vare (d : ℕ) : ℝ := gsum (fun e => col fun s => B.xc s e * B.xc s e) d / 20480 + eps
def rstd (d : ℕ) : ℝ := (Real.sqrt (B.vare d))⁻¹
def oes (d : ℕ) : ℝ := 1 + B.es d

/-- The offset of the activation's argument. -/
def bb (d : ℕ) : EReal := B.β d * (B.oes d : EReal) + B.esh d
/-- The activation's argument. -/
def h (s d : ℕ) : EReal := ((B.xc s d * (B.rstd d * B.γ d * B.oes d) : ℝ) : EReal) + B.bb d

/-- The derivative at the activation's argument, before the derivatives' scale. -/
def dh (s d : ℕ) : ℝ := B.Y s d * act' (B.h s d)
def sdh (d : ℕ) : ℝ := (col fun s => B.dh s d) * B.q
def sdhx (d : ℕ) : ℝ := (col fun s => B.dh s d * B.xc s d) * (B.rstd d * B.q)
def des (d : ℕ) : EReal := ((B.sdhx d * B.γ d : ℝ) : EReal) + (B.sdh d : EReal) * B.β d
def og (d : ℕ) : ℝ := B.oes d * B.γ d
def gm (d : ℕ) : ℝ := gsum (fun e => B.sdh e * B.og e) d / 20480
def gxm (d : ℕ) : ℝ := gsum (fun e => B.sdhx e * B.og e) d / 20480
def c1 (d : ℕ) : ℝ := B.rstd d * B.og d * B.q
def c2 (d : ℕ) : ℝ := B.rstd d * B.rstd d * B.gxm d
def c3 (d : ℕ) : ℝ := B.rstd d * B.gm d

/-- The derivative at the input. -/
def dx (s d : ℕ) : ℝ := B.dh s d * B.c1 d - (B.xc s d * B.c2 d + B.c3 d)

theorem vare_pos (d : ℕ) : 0 < B.vare d := by
  unfold vare
  refine add_pos_of_nonneg_of_pos (div_nonneg (sum_nonneg fun e _ => ?_) (by norm_num)) eps_pos
  split_ifs
  · exact sum_nonneg fun s _ => mul_self_nonneg _
  · exact le_rfl

/-! The reference's forms. -/

theorem h_ref (s d : ℕ) : (((B.xc s d * B.rstd d * B.γ d : ℝ) : EReal) + B.β d) * (B.oes d : EReal) + B.esh d = B.h s d := by
  unfold h bb
  rw [coe_add_mul, ← EReal.coe_mul, add_assoc, show B.xc s d * B.rstd d * B.γ d * B.oes d = B.xc s d * (B.rstd d * B.γ d * B.oes d) by ring]

open Idealize.ShloMosaic in
theorem dh_ref (s d : ℕ) : ((B.Y s d * B.q : ℝ) : EReal) * Ideal.logistic (B.h s d) * (1 + B.h s d * (1 - Ideal.logistic (B.h s d))) = ((B.dh s d * B.q : ℝ) : EReal) := by
  unfold dh
  rw [mul_assoc, act'_coe, ← EReal.coe_mul, show B.Y s d * B.q * act' (B.h s d) = B.Y s d * act' (B.h s d) * B.q by ring]

theorem sdh_ref (d : ℕ) : (col fun s => B.dh s d * B.q) = B.sdh d := by
  unfold sdh col; rw [sum_mul]

theorem sdhx_ref (d : ℕ) : (col fun s => B.dh s d * B.q * (B.xc s d * B.rstd d)) = B.sdhx d := by
  unfold sdhx col; rw [sum_mul]; exact sum_congr rfl fun s _ => by ring

theorem gm_ref (d : ℕ) : gsum (fun e => B.oes e * B.γ e * B.sdh e) d / 20480 = B.gm d := by
  unfold gm og; congr 2; funext e; ring

theorem gxm_ref (d : ℕ) : gsum (fun e => B.oes e * B.γ e * B.sdhx e) d / 20480 = B.gxm d := by
  unfold gxm og; congr 2; funext e; ring

theorem dx_ref (s d : ℕ) : B.rstd d * (B.dh s d * B.q * B.oes d * B.γ d - B.gm d - B.xc s d * B.rstd d * B.gxm d) = B.dx s d := by
  unfold dx c1 c2 c3 og; ring

/-! The kernel's forms: it sums eight partial columns. -/

theorem sdh_ker (d : ℕ) : ∑ r ∈ range 8, rows (fun s => B.dh s d) 16 r * B.q = B.sdh d := by
  rw [← sum_mul, sum_rows]; rfl

theorem sdhx_ker (d : ℕ) : ∑ r ∈ range 8, rows (fun s => B.dh s d * B.xc s d) 16 r * (B.rstd d * B.q) = B.sdhx d := by
  rw [← sum_mul, sum_rows]; rfl

end Pt

end Cert.Value
-- ==== Proof.Value.Ops.lean ====
/-
   The first call's computed values read at an index, over the extended reals, from what their operands hold there.
-/
module

public import proofs.«01_k».proof.Proof.Gen.KernelIdeal.Loops
public import proofs.«01_k».proof.Proof.Value.Model

@[expose] public section

set_option maxRecDepth 65536
set_option maxHeartbeats 1000000

noncomputable section

namespace Cert.Value

open Idealize.ShloMosaic Idealize.ShloMosaic.TcCoe
open Finset (range)

/-- A finite sum of reals, each read as an extended real, is the real sum so read. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem ofBits_20480 : Ideal.ofBits .f32 1184890880#32 = ((20480 : ℝ) : EReal) := by
  simp [Ideal.ofBits, Ideal.ieee, -EReal.coe_mul]
  norm_num
theorem ofBits_eps : Ideal.ofBits .f32 925353388#32 = ((eps : ℝ) : EReal) := by
  simp [Ideal.ofBits, Ideal.ieee, -EReal.coe_mul, eps]
theorem ofBits_hi : Ideal.ofBits .f32 1197473792#32 = ((57344 : ℝ) : EReal) := by
  simp [Ideal.ofBits, Ideal.ieee, -EReal.coe_mul]; norm_num
theorem ofBits_lo : Ideal.ofBits .f32 3344957440#32 = ((-57344 : ℝ) : EReal) := by
  simp [Ideal.ofBits, Ideal.ieee, -EReal.coe_mul, -EReal.coe_neg]; norm_num

/-- A decoded output derivative, held to the format's finite range. -/
def clampY (y : EReal) : ℝ := (min (57344 : EReal) (max (-57344 : EReal) y)).toReal

theorem clampY_eq (y : EReal) : min (Ideal.ofBits .f32 1197473792#32) (max (Ideal.ofBits .f32 3344957440#32) y) = ((clampY y : ℝ) : EReal) := by
  rw [ofBits_hi, ofBits_lo]
  unfold clampY
  have e1 : ((57344 : ℝ) : EReal) = (57344 : EReal) := by norm_cast
  have e2 : ((-57344 : ℝ) : EReal) = (-57344 : EReal) := by rw [EReal.coe_neg, e1]
  rw [← e2, ← e1, EReal.coe_toReal]
  · exact ne_of_lt (lt_of_le_of_lt (min_le_left _ _) (EReal.coe_lt_top _))
  · exact ne_of_gt (lt_min (EReal.bot_lt_coe _) (lt_of_lt_of_le (EReal.bot_lt_coe _) (le_max_left _ _)))

/-- A product of a sum with the group matrix is the sum over the group. -/
theorem fin_gsum (W : ℕ → ℕ → ℝ) (l : Fin 640) :
    (∑ x : Fin 32, ∑ e : Fin 640, (if x.val < 8 then W x e else 0) * (if e.val / 20 = l.val / 20 then 1 else 0) : ℝ)
      = gsum (fun e => ∑ r ∈ range 8, W r e) l := by
  rw [← Finset.sum_range (fun x => ∑ e : Fin 640, (if x < 8 then W x e else 0) * (if e.val / 20 = l.val / 20 then 1 else 0))]
  rw [← Finset.sum_subset (s₁ := range 8) (by intro x hx; simp only [Finset.mem_range] at *; omega)
    (by intro x _ hx; simp only [Finset.mem_range] at hx; simp [hx])]
  rw [Finset.sum_comm]
  unfold gsum
  rw [Finset.sum_range]
  refine Finset.sum_congr rfl fun e _ => ?_
  rw [← Finset.sum_mul]
  split_ifs with h
  · rw [mul_one]
    exact Finset.sum_congr rfl fun r hr => if_pos (Finset.mem_range.1 hr)
  · rw [mul_zero]

end Cert.Value

namespace Cert.KernelIdeal.Own

open Cert.KernelIdeal.Gen Cert.Value
open Idealize.ShloMosaic Idealize.ShloMosaic.TcCoe
open Finset (range)

/-- The eight-at-a-time sum of a block of 64 rows. -/
theorem sum8 (a : ℝ) (W : ℕ → ℝ) (r : ℕ) :
    ((a : ℝ) : EReal) + (W r + W (8 + r) + W (16 + r) + W (24 + r) + W (32 + r) + W (40 + r) + W (48 + r) + W (56 + r))
      = ((a + ∑ q ∈ range 8, W (8 * q + r) : ℝ) : EReal) := by
  simp [Finset.sum_range_succ]

theorem pay50_at (a : FVec Ideal S8x128 .f32) (w : Vec Ideal S1x64x128 .bf16) (A W : ℕ → ℕ → ℝ)
    (ha : ∀ (r : Fin 8) (l : Fin 128), a (ix2 r l) = ((A r l : ℝ) : EReal))
    (hw : ∀ (s : Fin 64) (l : Fin 128), w (ix3 0 s l) = ((W s l : ℝ) : EReal)) (r : Fin 8) (l : Fin 128) :
    k0_pay50 (F := Ideal) a w (ix2 r l) = ((A r l + ∑ q ∈ range 8, W (8 * q + r) l : ℝ) : EReal) := by
  pointwise [k0_pay50]
  simp only [ha, hw]
  exact sum8 _ (fun s => W s l) r

/-- The squares of a block's differences from a lane block of the mean, added up: the five lane blocks' sums are this one. -/
def sq (m : FVec Ideal S1x128 .f32) (a : FVec Ideal S8x128 .f32) (w : Vec Ideal S1x64x128 .bf16) : FVec Ideal S8x128 .f32 :=
  k0_pay73 a (k0_pay20 m w) (k0_pay20 m w)

theorem pay73_at (a : FVec Ideal S8x128 .f32) (u w : FVec Ideal S64x128 .f32) (A U W : ℕ → ℕ → ℝ)
    (ha : ∀ (r : Fin 8) (l : Fin 128), a (ix2 r l) = ((A r l : ℝ) : EReal))
    (hu : ∀ (s : Fin 64) (l : Fin 128), u (ix2 s l) = ((U s l : ℝ) : EReal))
    (hw : ∀ (s : Fin 64) (l : Fin 128), w (ix2 s l) = ((W s l : ℝ) : EReal)) (r : Fin 8) (l : Fin 128) :
    k0_pay73 (F := Ideal) a u w (ix2 r l) = ((A r l + ∑ q ∈ range 8, W (8 * q + r) l * U (8 * q + r) l : ℝ) : EReal) := by
  pointwise [k0_pay73]
  simp only [ha, hu, hw, ← EReal.coe_mul]
  exact sum8 _ (fun s => W s l * U s l) r

theorem pay72_at (a : FVec Ideal S8x128 .f32) (v78 v79 v80 : FVec Ideal S1x128 .f32) (v215 : Vec Ideal S1x64x128 .bf16) (v234 : Vec Ideal S1x64x128 .fp8e5m2)
    (A W : ℕ → ℕ → ℝ)
    (ha : ∀ (r : Fin 8) (l : Fin 128), a (ix2 r l) = ((A r l : ℝ) : EReal))
    (hw : ∀ (s : Fin 64) (l : Fin 128), k0_pay21 v78 v79 v80 v215 v234 (ix2 s l) = ((W s l : ℝ) : EReal)) (r : Fin 8) (l : Fin 128) :
    k0_pay72 (F := Ideal) a (k0_pay21 v78 v79 v80 v215 v234) (k0_pay23 v78 v79 v80 v215 v234) (k0_pay24 v78 v79 v80 v215 v234) (ix2 r l)
      = ((A r l + ∑ q ∈ range 8, W (8 * q + r) l : ℝ) : EReal) := by
  have hp : ∀ w : FVec Ideal S64x128 .f32, (∀ (s : Fin 64) (l : Fin 128), w (ix2 s l) = ((W s l : ℝ) : EReal)) →
      k0_pay72 (F := Ideal) a w
        (addf (addf (addf (addf (extractStridedSlice S8x128 ![0, 0] w slices_S64x128_o0_0_S8x128) (extractStridedSlice S8x128 ![8, 0] w slices_S64x128_o8_0_S8x128))
          (extractStridedSlice S8x128 ![16, 0] w slices_S64x128_o16_0_S8x128)) (extractStridedSlice S8x128 ![24, 0] w slices_S64x128_o24_0_S8x128))
          (extractStridedSlice S8x128 ![32, 0] w slices_S64x128_o32_0_S8x128))
        (extractStridedSlice S8x128 ![40, 0] w slices_S64x128_o40_0_S8x128) (ix2 r l) = ((A r l + ∑ q ∈ range 8, W (8 * q + r) l : ℝ) : EReal) := by
    intro w hw
    pointwise [k0_pay72]
    simp only [ha, hw]
    exact sum8 _ (fun s => W s l) r
  exact hp _ hw

theorem pay20_at (m : FVec Ideal S1x128 .f32) (w : Vec Ideal S1x64x128 .bf16) (M : ℕ → ℝ) (W : ℕ → ℕ → ℝ)
    (hm : ∀ l : Fin 128, m (ix2 0 l) = ((M l : ℝ) : EReal))
    (hw : ∀ (s : Fin 64) (l : Fin 128), w (ix3 0 s l) = ((W s l : ℝ) : EReal)) (s : Fin 64) (l : Fin 128) :
    k0_pay20 (F := Ideal) m w (ix2 s l) = ((W s l - M l : ℝ) : EReal) := by
  pointwise [k0_pay20]
  simp only [hm, hw, ← EReal.coe_sub]

theorem sq_at (m : FVec Ideal S1x128 .f32) (a : FVec Ideal S8x128 .f32) (w : Vec Ideal S1x64x128 .bf16) (M : ℕ → ℝ) (A W : ℕ → ℕ → ℝ)
    (hm : ∀ l : Fin 128, m (ix2 0 l) = ((M l : ℝ) : EReal))
    (ha : ∀ (r : Fin 8) (l : Fin 128), a (ix2 r l) = ((A r l : ℝ) : EReal))
    (hw : ∀ (s : Fin 64) (l : Fin 128), w (ix3 0 s l) = ((W s l : ℝ) : EReal)) (r : Fin 8) (l : Fin 128) :
    sq m a w (ix2 r l) = ((A r l + ∑ q ∈ range 8, (W (8 * q + r) l - M l) * (W (8 * q + r) l - M l) : ℝ) : EReal) :=
  pay73_at a _ _ A (fun s l => W s l - M l) (fun s l => W s l - M l) ha (pay20_at m w M W hm hw) (pay20_at m w M W hm hw) r l

theorem one_add_coe (x : ℝ) : (1 : EReal) + (x : EReal) = ((1 + x : ℝ) : EReal) := by rw [EReal.coe_add, EReal.coe_one]
theorem one_sub_coe (x : ℝ) : (1 : EReal) - (x : EReal) = ((1 - x : ℝ) : EReal) := by rw [EReal.coe_sub, EReal.coe_one]

theorem pay21_at (v78 v79 v80 : FVec Ideal S1x128 .f32) (v215 : Vec Ideal S1x64x128 .bf16) (v234 : Vec Ideal S1x64x128 .fp8e5m2)
    (M P : ℕ → ℝ) (Q : ℕ → EReal) (X Y : ℕ → ℕ → ℝ)
    (hm : ∀ l : Fin 128, v78 (ix2 0 l) = ((M l : ℝ) : EReal)) (hp : ∀ l : Fin 128, v79 (ix2 0 l) = ((P l : ℝ) : EReal))
    (hq : ∀ l : Fin 128, v80 (ix2 0 l) = Q l)
    (hx : ∀ (s : Fin 64) (l : Fin 128), v215 (ix3 0 s l) = ((X s l : ℝ) : EReal))
    (hy : ∀ (s : Fin 64) (l : Fin 128), clampY (v234 (ix3 0 s l)) = Y s l) (s : Fin 64) (l : Fin 128) :
    k0_pay21 v78 v79 v80 v215 v234 (ix2 s l)
      = ((Y s l * act' ((((X s l - M l) * P l : ℝ) : EReal) + Q l) : ℝ) : EReal) := by
  pointwise [k0_pay21, k0_pay20]
  simp only [clampY_eq, hm, hp, hq, hx, hy, ← EReal.coe_sub, ← EReal.coe_mul]
  rw [EReal.coe_mul (Y s l), ← act'_coe]

/-- The eight rows of five lane blocks side by side. -/
def cat5 (a b c d e : FVec Ideal S8x128 .f32) : FVec Ideal S8x640 .f32 :=
  concatenate S8x640 1 [⟨S8x128, a⟩, ⟨S8x128, b⟩, ⟨S8x128, c⟩, ⟨S8x128, d⟩, ⟨S8x128, e⟩] concatenates_S8x128_S8x128_S8x128_S8x128_S8x128_S8x640_d1

theorem cat5_at (a b c d e : FVec Ideal S8x128 .f32) (W : ℕ → ℕ → ℝ)
    (ha : ∀ (r : Fin 8) (l : Fin 128), a (ix2 r l) = ((W r (0 + l) : ℝ) : EReal))
    (hb : ∀ (r : Fin 8) (l : Fin 128), b (ix2 r l) = ((W r (128 + l) : ℝ) : EReal))
    (hc : ∀ (r : Fin 8) (l : Fin 128), c (ix2 r l) = ((W r (256 + l) : ℝ) : EReal))
    (hd : ∀ (r : Fin 8) (l : Fin 128), d (ix2 r l) = ((W r (384 + l) : ℝ) : EReal))
    (he : ∀ (r : Fin 8) (l : Fin 128), e (ix2 r l) = ((W r (512 + l) : ℝ) : EReal)) (r : Fin 8) (d' : Fin 640) :
    cat5 a b c d e (ix2 r d') = ((W r d' : ℝ) : EReal) := by
  pointwise [cat5]
  simp only [ha, hb, hc, hd, he]
  have := d'.isLt
  split_ifs <;> (congr 2; omega)

/-- The sum over the groups of the columns' eight partial sums, as the kernel forms it: three parts of the operand times the
    group matrix, then the rows of the product added up. -/
def gs (v3 : FVec Ideal S640x640 .bf16) (w : FVec Ideal S8x640 .f32) : FVec Ideal S1x640 .f32 :=
  shapeCast S1x640 (multiReduction .add [0] S640 (matmul dot_S32x640_S640x640_S32x640_1_0_0_1_n_n none
    (truncf .bf16 (concatenate S32x640 0 [⟨S8x640, extf .f32 (truncf .bf16 w bitsLt_bf16_f32) bitsLt_bf16_f32⟩,
      ⟨S8x640, extf .f32 (truncf .bf16 (subf w (extf .f32 (truncf .bf16 w bitsLt_bf16_f32) bitsLt_bf16_f32)) bitsLt_bf16_f32) bitsLt_bf16_f32⟩,
      ⟨S8x640, subf (subf w (extf .f32 (truncf .bf16 w bitsLt_bf16_f32) bitsLt_bf16_f32))
        (extf .f32 (truncf .bf16 (subf w (extf .f32 (truncf .bf16 w bitsLt_bf16_f32) bitsLt_bf16_f32)) bitsLt_bf16_f32) bitsLt_bf16_f32)⟩,
      ⟨S8x640, broadcast S8x640 (Scalar.ofBits .f32 0x00000000#32)⟩] concatenates_S8x640_S8x640_S8x640_S8x640_S32x640_d0) bitsLt_bf16_f32)
    v3 (constant S32x640 .f32 0x00000000#32)) 0x00000000#32 reduces_S32x640_S640 (.inl rfl) rfl) shapeCasts_S640_S1x640

theorem pay55_eq (v3 : FVec Ideal S640x640 .bf16) (a b c d e : FVec Ideal S8x128 .f32) : k0_pay55 v3 a b c d e = gs v3 (cat5 a b c d e) := rfl
theorem pay62_eq (v3 : FVec Ideal S640x640 .bf16) (a b c d e : FVec Ideal S8x128 .f32) :
    k0_pay62 v3 a b c d e = addf (k0_pay56 (gs v3 (cat5 a b c d e))) (broadcast S1x640 (Scalar.ofBits .f32 0x3727C5AC#32)) := rfl
theorem pay107_eq (v3 : FVec Ideal S640x640 .bf16) (v63 : FVec Ideal S1x640 .f32) (v110 : FVec Ideal S8x640 .f32) (v132 : FVec Ideal S1x640 .f32) :
    k0_pay107 v3 v63 v110 v132 = mulf (mulf v63 v63) (k0_pay56 (gs v3 (mulf v110 (broadcastTo S8x640 v132 broadcasts_S1x640_S8x640)))) := rfl
theorem pay108_eq (v3 : FVec Ideal S640x640 .bf16) (v63 : FVec Ideal S1x640 .f32) (v4 : Elt Ideal .f32) (v65 v71 : FVec Ideal S1x640 .f32) (a b c d e : FVec Ideal S8x128 .f32) :
    k0_pay108 v3 v63 (k0_pay103 v4 v65 v71 a b c d e) (k0_pay104 v4 v65 v71 a b c d e) (k0_pay105 v4 v65 v71 a b c d e)
      = mulf v63 (k0_pay56 (gs v3 (k0_pay102 v4 v65 v71 a b c d e))) := rfl

/-- The group matrix. -/
def Grp (v3 : FVec Ideal S640x640 .bf16) : Prop := ∀ a b : Fin 640, v3 (ix2 a b) = if a.val / 20 = b.val / 20 then 1 else 0

theorem gs_at (v3 : FVec Ideal S640x640 .bf16) (w : FVec Ideal S8x640 .f32) (W : ℕ → ℕ → ℝ) (h3 : Grp v3)
    (hw : ∀ (r : Fin 8) (d : Fin 640), w (ix2 r d) = ((W r d : ℝ) : EReal)) (l : Fin 640) :
    gs v3 w (ix2 0 l) = ((gsum (fun e => ∑ r ∈ range 8, W r e) l : ℝ) : EReal) := by
  pointwise [gs]
  rw [← fin_gsum, coe_sum]
  refine Finset.sum_congr rfl fun x _ => ?_
  rw [coe_sum]
  refine Finset.sum_congr rfl fun e _ => ?_
  rw [h3]
  simp only [hw, ← EReal.coe_sub, sub_self, EReal.coe_mul]
  congr 1
  · split_ifs <;> rfl
  · split_ifs <;> rfl

theorem pay56_at (v : FVec Ideal S1x640 .f32) (V : ℕ → ℝ) (hv : ∀ l : Fin 640, v (ix2 0 l) = ((V l : ℝ) : EReal)) (l : Fin 640) :
    k0_pay56 v (ix2 0 l) = ((V l / 20480 : ℝ) : EReal) := by
  pointwise [k0_pay56]
  rw [ofBits_20480, Ideal.div_coe (by norm_num), hv, ← EReal.coe_mul, mul_one_div]

/-- The index word over twenty, as the kernel rounds it. -/
theorem word_div : ∀ b : Fin 640, Scalar.select
          (IntOp.andi
            (IntOp.cmpi CmpIPredicate.ne
              (IntOp.subi (BitVec.setWidth 32 (IntOp.cmpi CmpIPredicate.sgt (BitVec.ofNat 32 b.val) 0#32))
                (BitVec.setWidth 32 (IntOp.cmpi CmpIPredicate.slt (BitVec.ofNat 32 b.val) 0#32)))
              (Scalar.subi (Scalar.extui (Scalar.cmpi CmpIPredicate.sgt 20#32 0#32))
                (Scalar.extui (Scalar.cmpi CmpIPredicate.slt 20#32 0#32))))
            (IntOp.cmpi CmpIPredicate.ne (IntOp.remsi ArithUnit.vector (BitVec.ofNat 32 b.val) 20#32) 0#32))
          (IntOp.subi (IntOp.divsi ArithUnit.vector (BitVec.ofNat 32 b.val) 20#32) 1#32)
          (IntOp.divsi ArithUnit.vector (BitVec.ofNat 32 b.val) 20#32) = BitVec.ofNat 32 (b.val / 20) := by decide +kernel

theorem pay45_at : Grp (k0_pay45 (F := Ideal) k0_pay17 k0_pay18 k0_pay19) := by
  intro a b
  pointwise [k0_pay45, k0_pay17, k0_pay18, k0_pay19]
  rw [word_div, word_div]
  have ha := a.isLt
  have hb := b.isLt
  by_cases h : a.val / 20 = b.val / 20
  · rw [if_pos h, h]; simp [IntOp.cmpi, Scalar.select]
  · rw [if_neg h]
    have : BitVec.ofNat 32 (a.val / 20) ≠ BitVec.ofNat 32 (b.val / 20) := by
      intro e
      have := congrArg BitVec.toNat e
      rw [BitVec.toNat_ofNat, BitVec.toNat_ofNat, Nat.mod_eq_of_lt (by omega), Nat.mod_eq_of_lt (by omega)] at this
      exact h this
    have hb : (BitVec.ofNat 32 (a.val / 20) == BitVec.ofNat 32 (b.val / 20)) = false := beq_eq_false_iff_ne.2 this
    simp [IntOp.cmpi, Scalar.select, hb]

theorem pay1_at (v178 v179 v180 v181 : FVec Ideal S1x128 .f32) (v215 : Vec Ideal S1x64x128 .bf16) (v223 : FVec Ideal S64x128 .f32)
    (M P Q R : ℕ → ℝ) (X D : ℕ → ℕ → ℝ)
    (hm : ∀ l : Fin 128, v178 (ix2 0 l) = ((M l : ℝ) : EReal)) (hp : ∀ l : Fin 128, v179 (ix2 0 l) = ((P l : ℝ) : EReal))
    (hq : ∀ l : Fin 128, v180 (ix2 0 l) = ((Q l : ℝ) : EReal)) (hr : ∀ l : Fin 128, v181 (ix2 0 l) = ((R l : ℝ) : EReal))
    (hx : ∀ (s : Fin 64) (l : Fin 128), v215 (ix3 0 s l) = ((X s l : ℝ) : EReal))
    (hd : ∀ (s : Fin 64) (l : Fin 128), v223 (ix2 s l) = ((D s l : ℝ) : EReal)) (s : Fin 64) (l : Fin 128) :
    k0_pay2 v178 v179 v180 v181 v215 v223 (ix3 0 s l) = ((D s l * P l - ((X s l - M l) * Q l + R l) : ℝ) : EReal) := by
  pointwise [k0_pay2, k0_pay1]
  simp only [hm, hp, hq, hr, hx, hd, ← EReal.coe_sub, ← EReal.coe_mul, ← EReal.coe_add]

theorem coe_max' (x y : ℝ) : ((max x y : ℝ) : EReal) = max (x : EReal) (y : EReal) := EReal.coe_strictMono.monotone.map_max

/-- The larger of four magnitudes taken from the four quarters of a block of 64 rows. -/
def max4 (F : ℕ → ℝ) (r : ℕ) : ℝ := max (max (max |F r| |F (16 + r)|) |F (32 + r)|) |F (48 + r)|

theorem absf_coe (x : ℝ) : FloatOps.absf (F := Ideal) (φ := .bf16) (x : EReal) = ((|x| : ℝ) : EReal) := by
  show max (x : EReal) (-(x : EReal)) = _
  rw [← EReal.coe_neg, ← coe_max']; rfl

theorem pay3_at (v178 v179 v180 v181 : FVec Ideal S1x128 .f32) (a : FVec Ideal S16x128 .bf16) (v215 : Vec Ideal S1x64x128 .bf16) (v223 : FVec Ideal S64x128 .f32)
    (M P Q R : ℕ → ℝ) (A X D : ℕ → ℕ → ℝ)
    (hm : ∀ l : Fin 128, v178 (ix2 0 l) = ((M l : ℝ) : EReal)) (hp : ∀ l : Fin 128, v179 (ix2 0 l) = ((P l : ℝ) : EReal))
    (hq : ∀ l : Fin 128, v180 (ix2 0 l) = ((Q l : ℝ) : EReal)) (hr : ∀ l : Fin 128, v181 (ix2 0 l) = ((R l : ℝ) : EReal))
    (ha : ∀ (s : Fin 16) (l : Fin 128), a (ix2 s l) = ((A s l : ℝ) : EReal))
    (hx : ∀ (s : Fin 64) (l : Fin 128), v215 (ix3 0 s l) = ((X s l : ℝ) : EReal))
    (hd : ∀ (s : Fin 64) (l : Fin 128), v223 (ix2 s l) = ((D s l : ℝ) : EReal)) (s : Fin 16) (l : Fin 128) :
    k0_pay3 v178 v179 v180 v181 a v215 v223 (ix2 s l)
      = ((max (A s l) (max4 (fun s => D s l * P l - ((X s l - M l) * Q l + R l)) s) : ℝ) : EReal) := by
  pointwise [k0_pay3, k0_pay1]
  simp only [hm, hp, hq, hr, ha, hx, hd, ← EReal.coe_sub, ← EReal.coe_mul, ← EReal.coe_add, absf_coe, ← coe_max']
  rfl

/-- A row of 640 holds the real function. -/
def R1 (v : FVec Ideal S1x640 .f32) (V : ℕ → ℝ) : Prop := ∀ l : Fin 640, v (ix2 0 l) = ((V l : ℝ) : EReal)
/-- Eight rows of 640 hold the real function. -/
def R8 (v : FVec Ideal S8x640 .f32) (W : ℕ → ℕ → ℝ) : Prop := ∀ (r : Fin 8) (l : Fin 640), v (ix2 r l) = ((W r l : ℝ) : EReal)
/-- Lane block `j` of a row holds the real function. -/
def L1 (j : ℕ) (v : FVec Ideal S1x128 .f32) (V : ℕ → ℝ) : Prop := ∀ l : Fin 128, v (ix2 0 l) = ((V (128 * j + l) : ℝ) : EReal)
/-- Lane block `j` of eight rows holds the real function. -/
def L8 (j : ℕ) (v : FVec Ideal S8x128 .f32) (W : ℕ → ℕ → ℝ) : Prop := ∀ (r : Fin 8) (l : Fin 128), v (ix2 r l) = ((W r (128 * j + l) : ℝ) : EReal)

/-- A row of 640 holds the function. -/
def R1e (v : FVec Ideal S1x640 .f32) (V : ℕ → EReal) : Prop := ∀ l : Fin 640, v (ix2 0 l) = V l
/-- Lane block `j` of a row holds the function. -/
def L1e (j : ℕ) (v : FVec Ideal S1x128 .f32) (V : ℕ → EReal) : Prop := ∀ l : Fin 128, v (ix2 0 l) = V (128 * j + l)

theorem L1_0 {v : FVec Ideal S1x640 .f32} {V : ℕ → ℝ} (h : R1 v V) : L1 0 (extractStridedSlice S1x128 ![0, 0] v slices_S1x640_o0_0_S1x128) V := by
  intro l; pointwise []; rw [h]
theorem L1_1 {v : FVec Ideal S1x640 .f32} {V : ℕ → ℝ} (h : R1 v V) : L1 1 (extractStridedSlice S1x128 ![0, 128] v slices_S1x640_o0_128_S1x128) V := by
  intro l; pointwise []; rw [h]
theorem L1_2 {v : FVec Ideal S1x640 .f32} {V : ℕ → ℝ} (h : R1 v V) : L1 2 (extractStridedSlice S1x128 ![0, 256] v slices_S1x640_o0_256_S1x128) V := by
  intro l; pointwise []; rw [h]
theorem L1_3 {v : FVec Ideal S1x640 .f32} {V : ℕ → ℝ} (h : R1 v V) : L1 3 (extractStridedSlice S1x128 ![0, 384] v slices_S1x640_o0_384_S1x128) V := by
  intro l; pointwise []; rw [h]
theorem L1_4 {v : FVec Ideal S1x640 .f32} {V : ℕ → ℝ} (h : R1 v V) : L1 4 (extractStridedSlice S1x128 ![0, 512] v slices_S1x640_o0_512_S1x128) V := by
  intro l; pointwise []; rw [h]

theorem L1e_0 {v : FVec Ideal S1x640 .f32} {V : ℕ → EReal} (h : R1e v V) : L1e 0 (extractStridedSlice S1x128 ![0, 0] v slices_S1x640_o0_0_S1x128) V := by
  intro l; pointwise []; rw [h]
theorem L1e_1 {v : FVec Ideal S1x640 .f32} {V : ℕ → EReal} (h : R1e v V) : L1e 1 (extractStridedSlice S1x128 ![0, 128] v slices_S1x640_o0_128_S1x128) V := by
  intro l; pointwise []; rw [h]
theorem L1e_2 {v : FVec Ideal S1x640 .f32} {V : ℕ → EReal} (h : R1e v V) : L1e 2 (extractStridedSlice S1x128 ![0, 256] v slices_S1x640_o0_256_S1x128) V := by
  intro l; pointwise []; rw [h]
theorem L1e_3 {v : FVec Ideal S1x640 .f32} {V : ℕ → EReal} (h : R1e v V) : L1e 3 (extractStridedSlice S1x128 ![0, 384] v slices_S1x640_o0_384_S1x128) V := by
  intro l; pointwise []; rw [h]
theorem L1e_4 {v : FVec Ideal S1x640 .f32} {V : ℕ → EReal} (h : R1e v V) : L1e 4 (extractStridedSlice S1x128 ![0, 512] v slices_S1x640_o0_512_S1x128) V := by
  intro l; pointwise []; rw [h]

section
variable {a b c d e : FVec Ideal S8x128 .f32} {W : ℕ → ℕ → ℝ}
  (ha : L8 0 a W) (hb : L8 1 b W) (hc : L8 2 c W) (hd : L8 3 d W) (he : L8 4 e W)
include ha hb hc hd he

theorem cat5_R8 : R8 (cat5 a b c d e) W := cat5_at a b c d e W ha hb hc hd he

theorem pay94_at {v4 : Elt Ideal .f32} {q : ℝ} (h4 : v4 = ((q : ℝ) : EReal)) : R8 (k0_pay94 v4 a b c d e) (fun r d => W r d * q) := by
  intro r l
  have h := cat5_R8 ha hb hc hd he r l
  show cat5 a b c d e (ix2 r l) * v4 = _
  rw [h, h4, ← EReal.coe_mul]

theorem pay95_at {v4 : Elt Ideal .f32} {q : ℝ} (h4 : v4 = ((q : ℝ) : EReal)) {v63 : FVec Ideal S1x640 .f32} {R : ℕ → ℝ} (h63 : R1 v63 R) :
    R8 (k0_pay95 v4 v63 a b c d e) (fun r d => W r d * (R d * q)) := by
  intro r l
  have h := cat5_R8 ha hb hc hd he r l
  show cat5 a b c d e (ix2 r l) * (broadcastTo S8x640 (mulf v63 (broadcast S1x640 v4)) broadcasts_S1x640_S8x640) (ix2 r l) = _
  pointwise []
  rw [h, h63, h4, ← EReal.coe_mul, ← EReal.coe_mul]

end

/-- The column sums of eight rows. -/
def colsum (v : FVec Ideal S8x640 .f32) : FVec Ideal S1x640 .f32 :=
  shapeCast S1x640 (multiReduction .add [0] S640 v 0x00000000#32 reduces_S8x640_S640 (.inl rfl) rfl) shapeCasts_S640_S1x640

theorem colsum_at {v : FVec Ideal S8x640 .f32} {W : ℕ → ℕ → ℝ} (h : R8 v W) : R1 (colsum v) (fun d => ∑ r ∈ range 8, W r d) := by
  intro l
  pointwise [colsum]
  rw [Finset.sum_range, coe_sum]
  exact Finset.sum_congr rfl fun r _ => h r l

theorem mulf_at {v w : FVec Ideal S1x640 .f32} {V W : ℕ → ℝ} (hv : R1 v V) (hw : R1 w W) : R1 (mulf v w) (fun d => V d * W d) := by
  intro l; pointwise []; rw [hv, hw, ← EReal.coe_mul]
theorem addf_at {v w : FVec Ideal S1x640 .f32} {V W : ℕ → ℝ} (hv : R1 v V) (hw : R1 w W) : R1 (addf v w) (fun d => V d + W d) := by
  intro l; pointwise []; rw [hv, hw, ← EReal.coe_add]
theorem cast_at {v : FVec Ideal S1x640 .f32} {V : ℕ → ℝ} (hv : R1 v V) : R1 (shapeCast S1x640 v shapeCasts_S1x640_S1x640) V := by
  intro l; pointwise []; rw [hv]
theorem cast_ate {v : FVec Ideal S1x640 .f32} {V : ℕ → EReal} (hv : R1e v V) : R1e (shapeCast S1x640 v shapeCasts_S1x640_S1x640) V := by
  intro l; pointwise []; rw [hv]
theorem bcast_at {x : Elt Ideal .f32} {q : ℝ} (h : x = ((q : ℝ) : EReal)) : R1 (broadcast S1x640 x) (fun _ => q) := by
  intro l; exact h
theorem mul8_at {v : FVec Ideal S8x640 .f32} {w : FVec Ideal S1x640 .f32} {V : ℕ → ℕ → ℝ} {W : ℕ → ℝ} (hv : R8 v V) (hw : R1 w W) :
    R8 (mulf v (broadcastTo S8x640 w broadcasts_S1x640_S8x640)) (fun r d => V r d * W d) := by
  intro r l; pointwise []; rw [hv, hw, ← EReal.coe_mul]
theorem gs_R1 {v3 : FVec Ideal S640x640 .bf16} {w : FVec Ideal S8x640 .f32} {W : ℕ → ℕ → ℝ} (h3 : Grp v3) (hw : R8 w W) :
    R1 (gs v3 w) (gsum fun e => ∑ r ∈ range 8, W r e) := fun l => gs_at v3 w W h3 hw l
theorem div_at {v : FVec Ideal S1x640 .f32} {V : ℕ → ℝ} (hv : R1 v V) : R1 (k0_pay56 v) (fun d => V d / 20480) := fun l => pay56_at v V hv l

theorem pay63_at {v : FVec Ideal S1x640 .f32} {V : ℕ → ℝ} (hv : R1 v V) (hp : ∀ d, 0 < V d) : R1 (k0_pay63 v) (fun d => (Real.sqrt (V d))⁻¹) := by
  intro l
  pointwise [k0_pay63]
  rw [hv, Ideal.rsqrt_coe, if_neg (not_lt.2 (hp _).le), if_neg (hp _).ne']

theorem pay66_at {v : FVec Ideal S1x640 .f32} {V : ℕ → ℝ} (hv : R1 v V) : R1 (k0_pay66 v) (fun d => 1 + V d) := by
  intro l
  pointwise [k0_pay66]
  rw [hv, one_add_coe]

/-- The offset of the activation's argument, and the scale's derivative, of offsets that may be infinite. -/
theorem offset_at {v w u : FVec Ideal S1x640 .f32} {V U : ℕ → EReal} {W : ℕ → ℝ} (hv : R1e v V) (hw : R1 w W) (hu : R1e u U) :
    R1e (addf (mulf v w) u) (fun d => V d * (W d : EReal) + U d) := by
  intro l; pointwise []; rw [hv, hw, hu]
theorem scale_at {v w : FVec Ideal S1x640 .f32} {V W : ℕ → ℝ} {u : FVec Ideal S1x640 .f32} {U : ℕ → EReal} (hv : R1 v V) (hw : R1 w W) (hu : R1e u U) :
    R1e (addf v (mulf w u)) (fun d => (V d : EReal) + (W d : EReal) * U d) := by
  intro l; pointwise []; rw [hv, hw, hu]

/-- The group mean, the group mean square and the two group sums of the derivative. -/
theorem mean_at {v3 : FVec Ideal S640x640 .bf16} (h3 : Grp v3) {a b c d e : FVec Ideal S8x128 .f32} {F : ℕ → ℕ → ℝ}
    (ha : L8 0 a fun r d => rows (fun s => F s d) 16 r) (hb : L8 1 b fun r d => rows (fun s => F s d) 16 r) (hc : L8 2 c fun r d => rows (fun s => F s d) 16 r)
    (hd : L8 3 d fun r d => rows (fun s => F s d) 16 r) (he : L8 4 e fun r d => rows (fun s => F s d) 16 r) :
    R1 (k0_pay56 (gs v3 (cat5 a b c d e))) (fun d => gsum (fun e => col fun s => F s e) d / 20480) := by
  have h := div_at (gs_R1 h3 (cat5_R8 ha hb hc hd he))
  simp only [sum_rows] at h
  exact h

theorem vare_at {v3 : FVec Ideal S640x640 .bf16} (h3 : Grp v3) {a b c d e : FVec Ideal S8x128 .f32} {F : ℕ → ℕ → ℝ}
    (ha : L8 0 a fun r d => rows (fun s => F s d) 16 r) (hb : L8 1 b fun r d => rows (fun s => F s d) 16 r) (hc : L8 2 c fun r d => rows (fun s => F s d) 16 r)
    (hd : L8 3 d fun r d => rows (fun s => F s d) 16 r) (he : L8 4 e fun r d => rows (fun s => F s d) 16 r) :
    R1 (k0_pay62 v3 a b c d e) (fun d => gsum (fun e => col fun s => F s e) d / 20480 + eps) := by
  rw [pay62_eq]
  exact addf_at (mean_at h3 ha hb hc hd he) (bcast_at ofBits_eps)

end Cert.KernelIdeal.Own
-- ==== Proof.Value.Loops.lean ====
/-
   The first call's loops read at an index: what each carries and what each stores, from what its operands hold.
-/
module

public import proofs.«01_k».proof.Proof.Value.Ops

@[expose] public section

set_option maxRecDepth 65536
set_option maxHeartbeats 1000000

noncomputable section

namespace Cert.KernelIdeal.Own

open Cert.KernelIdeal.Gen Cert.Value
open Idealize.ShloMosaic Idealize.ShloMosaic.TcCoe
open Finset (range)

/-- A state that starts at zero and gains a block's eight-row sums at each trip is the running sum. -/
theorem rows_loop (st : ℕ → FVec Ideal S8x128 .f32) (F : ℕ → ℕ → ℝ) (h0 : ∀ r l, st 0 (ix2 r l) = 0)
    (hs : ∀ k, k < 16 → (∀ r l, st k (ix2 r l) = ((rows (fun s => F s l) k r : ℝ) : EReal)) →
      ∀ r l, st (k + 1) (ix2 r l) = ((rows (fun s => F s l) k r + ∑ q ∈ range 8, F (64 * k + (8 * q + r)) l : ℝ) : EReal)) :
    ∀ k, k ≤ 16 → ∀ r l, st k (ix2 r l) = ((rows (fun s => F s l) k r : ℝ) : EReal) := by
  intro k
  induction k with
  | zero => intro _ r l; rw [h0, rows_zero, EReal.coe_zero]
  | succ k ih =>
    intro hk r l
    rw [hs k (by omega) (ih (by omega)) r l, rows_succ]

/-- The piece list covers lane block `j` of the first `64 n` rows, and every piece holds the real function. -/
def Wr15 (G : ℕ → ℕ → ℝ) (j n : ℕ) (L : List (View.Piece (Elt Ideal) S1024x640 .f32)) : Prop :=
  (∀ p ∈ L, ∀ x, p.2 x = ((G (p.1.emb x 0).val (p.1.emb x 1).val : ℝ) : EReal))
    ∧ ∀ y : S1024x640.Idx, (y 0).val < 64 * n → 128 * j ≤ (y 1).val → (y 1).val < 128 * j + 128 → ∃ p ∈ L, y ∈ p.1.set

theorem Wr15.nil (G : ℕ → ℕ → ℝ) (j : ℕ) : Wr15 G j 0 [] := ⟨by simp, fun y h => by omega⟩

theorem Wr15.cons {G : ℕ → ℕ → ℝ} {j k : ℕ} {L : List (View.Piece (Elt Ideal) S1024x640 .f32)} (h : Wr15 G j k L)
    (w : FVec Ideal S64x128 .f32) (hw : ∀ (s : Fin 64) (l : Fin 128), w (ix2 s l) = ((G (64 * k + s) (128 * j + l) : ℝ) : EReal))
    (off : Fin 2 → ℕ) (ho : off = ![64 * k, 128 * j]) (inb) :
    Wr15 G j (k + 1) ([⟨Rect.unit (s := S1024x640) off ![64, 128] inb, w⟩] ++ L) := by
  subst ho
  refine ⟨fun p hp x => ?_, fun y h0 h1 h2 => ?_⟩
  · rcases List.mem_cons.1 hp with rfl | hp
    · have := hw (x 0) (x 1)
      have e : x = ix2 (x 0) (x 1) := by
        funext a; match a with | 0 => rfl | 1 => rfl
      refine (congrArg w e).trans (this.trans ?_)
      simp
    · exact h.1 p hp x
  · by_cases hy : (y 0).val < 64 * k
    · obtain ⟨p, hp, hy⟩ := h.2 y hy h1 h2
      exact ⟨p, List.mem_cons_of_mem _ hp, hy⟩
    · refine ⟨_, List.mem_cons_self, (Rect.mem_set_unit (inb := inb)).2 fun a => ?_⟩
      match a with
      | 0 => show 64 * k ≤ (y 0).val ∧ (y 0).val < 64 * k + 64; omega
      | 1 => show 128 * j ≤ (y 1).val ∧ (y 1).val < 128 * j + 128; omega

/-- The same of the three-axis window of the input's derivative. -/
def Wr8 (G : ℕ → ℕ → ℝ) (j n : ℕ) (L : List (View.Piece (Elt Ideal) S1x1024x640 .bf16)) : Prop :=
  (∀ p ∈ L, ∀ x, p.2 x = ((G (p.1.emb x 1).val (p.1.emb x 2).val : ℝ) : EReal))
    ∧ ∀ y : S1x1024x640.Idx, (y 1).val < 64 * n → 128 * j ≤ (y 2).val → (y 2).val < 128 * j + 128 → ∃ p ∈ L, y ∈ p.1.set

theorem Wr8.nil (G : ℕ → ℕ → ℝ) (j : ℕ) : Wr8 G j 0 [] := ⟨by simp, fun y h => by omega⟩

theorem Wr8.cons {G : ℕ → ℕ → ℝ} {j k : ℕ} {L : List (View.Piece (Elt Ideal) S1x1024x640 .bf16)} (h : Wr8 G j k L)
    (w : FVec Ideal S1x64x128 .bf16) (hw : ∀ (s : Fin 64) (l : Fin 128), w (ix3 0 s l) = ((G (64 * k + s) (128 * j + l) : ℝ) : EReal))
    (off : Fin 3 → ℕ) (ho : off = ![0, 64 * k, 128 * j]) (inb) :
    Wr8 G j (k + 1) ([⟨Rect.unit (s := S1x1024x640) off ![1, 64, 128] inb, w⟩] ++ L) := by
  subst ho
  refine ⟨fun p hp x => ?_, fun y h0 h1 h2 => ?_⟩
  · rcases List.mem_cons.1 hp with rfl | hp
    · have := hw (x 1) (x 2)
      have e : x = ix3 0 (x 1) (x 2) := by
        funext a; match a with | 0 => exact Subsingleton.elim (α := Fin 1) _ _ | 1 => rfl | 2 => rfl
      refine (congrArg w e).trans (this.trans ?_)
      simp
    · exact h.1 p hp x
  · by_cases hy : (y 1).val < 64 * k
    · obtain ⟨p, hp, hy⟩ := h.2 y hy h1 h2
      exact ⟨p, List.mem_cons_of_mem _ hp, hy⟩
    · refine ⟨_, List.mem_cons_self, (Rect.mem_set_unit (inb := inb)).2 fun a => ?_⟩
      match a with
      | 0 => show 0 ≤ (y 0).val ∧ (y 0).val < 0 + 1; have : (y 0).val < 1 := (y 0).isLt; omega
      | 1 => show 64 * k ≤ (y 1).val ∧ (y 1).val < 64 * k + 64; omega
      | 2 => show 128 * j ≤ (y 2).val ∧ (y 2).val < 128 * j + 128; omega

/-- The state of a derivative loop before trip `k`: the two eight-row sums and the blocks stored. -/
def DhSt (B : Pt) (j k : ℕ) (S : (FVec Ideal S8x128 .f32 × FVec Ideal S8x128 .f32) × List (View.Piece (Elt Ideal) S1024x640 .f32)) : Prop :=
  L8 j S.1.1 (fun r d => rows (fun s => B.dh s d) k r) ∧ L8 j S.1.2 (fun r d => rows (fun s => B.dh s d * B.xc s d) k r) ∧ Wr15 B.dh j k S.2

theorem zero8 (j : ℕ) (F : ℕ → ℕ → ℝ) : L8 j (k0_pay49 (F := Ideal)) (fun r d => rows (fun s => F s d) 0 r) := by
  intro r l
  show k0_pay49 (F := Ideal) (ix2 r l) = ((rows (fun s => F s (128 * j + l)) 0 r : ℝ) : EReal)
  rw [rows_zero, EReal.coe_zero]
  pointwise [k0_pay49]

theorem dh_zero (B : Pt) (j : ℕ) : DhSt B j 0 ((k0_pay49 (F := Ideal), k0_pay49 (F := Ideal)), []) :=
  ⟨zero8 j _, zero8 j _, Wr15.nil _ _⟩

theorem dh_step (B : Pt) {j k : ℕ} {S : (FVec Ideal S8x128 .f32 × FVec Ideal S8x128 .f32) × List (View.Piece (Elt Ideal) S1024x640 .f32)} (h : DhSt B j k S)
    {m a b : FVec Ideal S1x128 .f32} (hm : L1 j m B.mean) (ha : L1 j a fun d => B.rstd d * B.γ d * B.oes d) (hb : L1e j b B.bb)
    {vx : Vec Ideal S1x64x128 .bf16} {vy : Vec Ideal S1x64x128 .fp8e5m2}
    (hx : ∀ (s : Fin 64) (l : Fin 128), vx (ix3 0 s l) = ((B.X (64 * k + s) (128 * j + l) : ℝ) : EReal))
    (hy : ∀ (s : Fin 64) (l : Fin 128), clampY (vy (ix3 0 s l)) = B.Y (64 * k + s) (128 * j + l))
    {off : Fin 2 → ℕ} (ho : off = ![64 * k, 128 * j]) {inb} :
    DhSt B j (k + 1) ((k0_pay72 S.1.1 (k0_pay21 m a b vx vy) (k0_pay23 m a b vx vy) (k0_pay24 m a b vx vy),
      k0_pay73 S.1.2 (k0_pay20 m vx) (k0_pay21 m a b vx vy)), [⟨Rect.unit (s := S1024x640) off ![64, 128] inb, k0_pay22 m a b vx vy⟩] ++ S.2) := by
  have hd : ∀ (s : Fin 64) (l : Fin 128), k0_pay21 m a b vx vy (ix2 s l) = ((B.dh (64 * k + s) (128 * j + l) : ℝ) : EReal) := fun s l =>
    pay21_at m a b vx vy (fun l => B.mean (128 * j + l)) (fun l => B.rstd (128 * j + l) * B.γ (128 * j + l) * B.oes (128 * j + l))
      (fun l => B.bb (128 * j + l)) (fun s l => B.X (64 * k + s) (128 * j + l)) (fun s l => B.Y (64 * k + s) (128 * j + l))
      hm ha hb hx hy s l
  have hc : ∀ (s : Fin 64) (l : Fin 128), k0_pay20 m vx (ix2 s l) = ((B.xc (64 * k + s) (128 * j + l) : ℝ) : EReal) := fun s l =>
    pay20_at m vx (fun l => B.mean (128 * j + l)) (fun s l => B.X (64 * k + s) (128 * j + l)) hm hx s l
  refine ⟨fun r l => ?_, fun r l => ?_, ?_⟩
  · show _ = ((rows (fun s => B.dh s (128 * j + l)) (k + 1) r : ℝ) : EReal)
    rw [rows_succ]
    exact pay72_at S.1.1 m a b vx vy (fun r l => rows (fun s => B.dh s (128 * j + l)) k r) (fun s l => B.dh (64 * k + s) (128 * j + l)) h.1 hd r l
  · show _ = ((rows (fun s => B.dh s (128 * j + l) * B.xc s (128 * j + l)) (k + 1) r : ℝ) : EReal)
    rw [rows_succ]
    exact pay73_at S.1.2 _ _ (fun r l => rows (fun s => B.dh s (128 * j + l) * B.xc s (128 * j + l)) k r)
      (fun s l => B.xc (64 * k + s) (128 * j + l)) (fun s l => B.dh (64 * k + s) (128 * j + l)) h.2.1 hc hd r l
  · refine h.2.2.cons _ (fun s l => ?_) off ho inb
    rw [← hd]
    pointwise [k0_pay22]

/-- The running largest magnitude, sixteen rows at a time. -/
def mxn (F : ℕ → ℝ) (n r : ℕ) : ℝ := n.rec 0 fun k m => max m (max4 (fun s => F (64 * k + s)) r)

theorem mxn_succ (F : ℕ → ℝ) (n r : ℕ) : mxn F (n + 1) r = max (mxn F n r) (max4 (fun s => F (64 * n + s)) r) := rfl

/-- The state of an input-derivative loop before trip `k`. -/
def DxSt (B : Pt) (j k : ℕ) (S : FVec Ideal S16x128 .bf16 × List (View.Piece (Elt Ideal) S1x1024x640 .bf16)) : Prop :=
  (∀ (s : Fin 16) (l : Fin 128), S.1 (ix2 s l) = ((mxn (fun s => B.dx s (128 * j + l)) k s : ℝ) : EReal)) ∧ Wr8 B.dx j k S.2

theorem dx_zero (B : Pt) (j : ℕ) : DxSt B j 0 (k0_pay109 (F := Ideal), []) :=
  ⟨fun s l => by
    show k0_pay109 (F := Ideal) (ix2 s l) = ((0 : ℝ) : EReal)
    rw [EReal.coe_zero]
    pointwise [k0_pay109], Wr8.nil _ _⟩

theorem dx_step (B : Pt) {j k : ℕ} {S : FVec Ideal S16x128 .bf16 × List (View.Piece (Elt Ideal) S1x1024x640 .bf16)} (h : DxSt B j k S)
    {m p q r : FVec Ideal S1x128 .f32} (hm : L1 j m B.mean) (hp : L1 j p B.c1) (hq : L1 j q B.c2) (hr : L1 j r B.c3)
    {vx : Vec Ideal S1x64x128 .bf16} {vd : FVec Ideal S64x128 .f32}
    (hx : ∀ (s : Fin 64) (l : Fin 128), vx (ix3 0 s l) = ((B.X (64 * k + s) (128 * j + l) : ℝ) : EReal))
    (hd : ∀ (s : Fin 64) (l : Fin 128), vd (ix2 s l) = ((B.dh (64 * k + s) (128 * j + l) : ℝ) : EReal))
    {off : Fin 3 → ℕ} (ho : off = ![0, 64 * k, 128 * j]) {inb} :
    DxSt B j (k + 1) (k0_pay3 m p q r S.1 vx vd, [⟨Rect.unit (s := S1x1024x640) off ![1, 64, 128] inb, k0_pay2 m p q r vx vd⟩] ++ S.2) := by
  refine ⟨fun s l => ?_, h.2.cons _ (fun s l => ?_) off ho inb⟩
  · exact pay3_at m p q r S.1 vx vd (fun l => B.mean (128 * j + l)) (fun l => B.c1 (128 * j + l)) (fun l => B.c2 (128 * j + l)) (fun l => B.c3 (128 * j + l))
      (fun s l => mxn (fun s => B.dx s (128 * j + l)) k s) (fun s l => B.X (64 * k + s) (128 * j + l)) (fun s l => B.dh (64 * k + s) (128 * j + l))
      hm hp hq hr h.1 hx hd s l
  · exact pay1_at m p q r vx vd (fun l => B.mean (128 * j + l)) (fun l => B.c1 (128 * j + l)) (fun l => B.c2 (128 * j + l)) (fun l => B.c3 (128 * j + l))
      (fun s l => B.X (64 * k + s) (128 * j + l)) (fun s l => B.dh (64 * k + s) (128 * j + l)) hm hp hq hr hx hd s l

section
variable (𝒱 : Variants) (c : Dev nD) (bd : Option 𝒱.V) (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)

theorem rd2 (x : Vec Ideal S1x1024x640 .bf16) (X : ℕ → ℕ → ℝ) (hx : ∀ (s : Fin 1024) (d : Fin 640), x (ix3 0 s d) = ((X s d : ℝ) : EReal))
    (off : Fin 3 → ℕ) (k j : ℕ) (hk : k < 16) (hj : j < 5) (ho : off = ![0, 64 * k, 128 * j]) (inb) (s : Fin 64) (l : Fin 128) :
    View.readAt (Elt Ideal) arg2.view (Rect.unit (s := S1x1024x640) off ![1, 64, 128] inb).toLoadRect (harg2.unread x) (ix3 0 s l)
      = ((X (64 * k + s) (128 * j + l) : ℝ) : EReal) := by
  subst ho
  rw [View.readAt_eq_ld, harg2.read_unread]
  refine (congrArg x (?_ : _ = ix3 0 ⟨64 * k + s, by omega⟩ ⟨128 * j + l, by omega⟩)).trans (hx _ _)
  funext a
  match a with
  | 0 => rfl
  | 1 => exact Fin.ext (show 64 * k + 1 * s.val = 64 * k + s.val by omega)
  | 2 => exact Fin.ext (show 128 * j + 1 * l.val = 128 * j + l.val by omega)

theorem rd3 (y : Vec Ideal S1x1024x640 .fp8e5m2) (Y : ℕ → ℕ → ℝ) (hy : ∀ (s : Fin 1024) (d : Fin 640), clampY (y (ix3 0 s d)) = Y s d)
    (off : Fin 3 → ℕ) (k j : ℕ) (hk : k < 16) (hj : j < 5) (ho : off = ![0, 64 * k, 128 * j]) (inb) (s : Fin 64) (l : Fin 128) :
    clampY (View.readAt (Elt Ideal) arg3.view (Rect.unit (s := S1x1024x640) off ![1, 64, 128] inb).toLoadRect (harg3.unread y) (ix3 0 s l))
      = Y (64 * k + s) (128 * j + l) := by
  subst ho
  rw [View.readAt_eq_ld, harg3.read_unread]
  refine (congrArg (fun i => clampY (y i)) (?_ : _ = ix3 0 ⟨64 * k + s, by omega⟩ ⟨128 * j + l, by omega⟩)).trans (hy _ _)
  funext a
  match a with
  | 0 => rfl
  | 1 => exact Fin.ext (show 64 * k + 1 * s.val = 64 * k + s.val by omega)
  | 2 => exact Fin.ext (show 128 * j + 1 * l.val = 128 * j + l.val by omega)

theorem rd15 (x : Vec Ideal S1024x640 .f32) (X : ℕ → ℕ → ℝ) (hx : ∀ (s : Fin 1024) (d : Fin 640), x (ix2 s d) = ((X s d : ℝ) : EReal))
    (off : Fin 2 → ℕ) (k j : ℕ) (hk : k < 16) (hj : j < 5) (ho : off = ![64 * k, 128 * j]) (inb) (s : Fin 64) (l : Fin 128) :
    View.readAt (Elt Ideal) arg15.view (Rect.unit (s := S1024x640) off ![64, 128] inb).toLoadRect (harg15.unread x) (ix2 s l)
      = ((X (64 * k + s) (128 * j + l) : ℝ) : EReal) := by
  subst ho
  rw [View.readAt_eq_ld, harg15.read_unread]
  refine (congrArg x (?_ : _ = ix2 ⟨64 * k + s, by omega⟩ ⟨128 * j + l, by omega⟩)).trans (hx _ _)
  funext a
  match a with
  | 0 => exact Fin.ext (show 64 * k + 1 * s.val = 64 * k + s.val by omega)
  | 1 => exact Fin.ext (show 128 * j + 1 * l.val = 128 * j + l.val by omega)

variable (B : Pt) (x : Vec Ideal S1x1024x640 .bf16) (y : Vec Ideal S1x1024x640 .fp8e5m2) (z : Vec Ideal S1024x640 .f32)
  (hx : ∀ (s : Fin 1024) (d : Fin 640), x (ix3 0 s d) = ((B.X s d : ℝ) : EReal))
  (hy : ∀ (s : Fin 1024) (d : Fin 640), clampY (y (ix3 0 s d)) = B.Y s d)
  (hz : ∀ (s : Fin 1024) (d : Fin 640), z (ix2 s d) = ((B.dh s d : ℝ) : EReal))

section
include hx

theorem sum1 : L8 0 (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x) k0_pay49 16) fun r d => rows (fun s => B.X s d) 16 r := by
  refine rows_loop _ (fun s l => B.X s (128 * 0 + l)) (fun r l => ?_) (fun k hk ih r l => ?_) 16 le_rfl
  · show k0_pay49 (F := Ideal) (ix2 r l) = 0
    pointwise [k0_pay49]
  · have hk' : k < k0_t1_loop.trips := hk
    rw [st_k0_t1_succ (F := Ideal) (k := ⟨k, hk'⟩)]
    unfold tripR_k0_t1 trip_k0_t1
    dsimp only
    exact pay50_at _ _ (fun r l => rows (fun s => B.X s (128 * 0 + l)) k r) (fun s l => B.X (64 * k + s) (128 * 0 + l)) ih (rd2 arg2 harg2 x B.X hx _ k 0 hk (by omega) (k0_off1_eq ⟨k, hk'⟩) _) r l

theorem sum2 : L8 1 (st_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x) k0_pay49 16) fun r d => rows (fun s => B.X s d) 16 r := by
  refine rows_loop _ (fun s l => B.X s (128 * 1 + l)) (fun r l => ?_) (fun k hk ih r l => ?_) 16 le_rfl
  · show k0_pay49 (F := Ideal) (ix2 r l) = 0
    pointwise [k0_pay49]
  · have hk' : k < k0_t2_loop.trips := hk
    rw [st_k0_t2_succ (F := Ideal) (k := ⟨k, hk'⟩)]
    unfold tripR_k0_t2 trip_k0_t2
    dsimp only
    exact pay50_at _ _ (fun r l => rows (fun s => B.X s (128 * 1 + l)) k r) (fun s l => B.X (64 * k + s) (128 * 1 + l)) ih (rd2 arg2 harg2 x B.X hx _ k 1 hk (by omega) (k0_off2_eq ⟨k, hk'⟩) _) r l

theorem sum3 : L8 2 (st_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x) k0_pay49 16) fun r d => rows (fun s => B.X s d) 16 r := by
  refine rows_loop _ (fun s l => B.X s (128 * 2 + l)) (fun r l => ?_) (fun k hk ih r l => ?_) 16 le_rfl
  · show k0_pay49 (F := Ideal) (ix2 r l) = 0
    pointwise [k0_pay49]
  · have hk' : k < k0_t3_loop.trips := hk
    rw [st_k0_t3_succ (F := Ideal) (k := ⟨k, hk'⟩)]
    unfold tripR_k0_t3 trip_k0_t3
    dsimp only
    exact pay50_at _ _ (fun r l => rows (fun s => B.X s (128 * 2 + l)) k r) (fun s l => B.X (64 * k + s) (128 * 2 + l)) ih (rd2 arg2 harg2 x B.X hx _ k 2 hk (by omega) (k0_off3_eq ⟨k, hk'⟩) _) r l

theorem sum4 : L8 3 (st_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x) k0_pay49 16) fun r d => rows (fun s => B.X s d) 16 r := by
  refine rows_loop _ (fun s l => B.X s (128 * 3 + l)) (fun r l => ?_) (fun k hk ih r l => ?_) 16 le_rfl
  · show k0_pay49 (F := Ideal) (ix2 r l) = 0
    pointwise [k0_pay49]
  · have hk' : k < k0_t4_loop.trips := hk
    rw [st_k0_t4_succ (F := Ideal) (k := ⟨k, hk'⟩)]
    unfold tripR_k0_t4 trip_k0_t4
    dsimp only
    exact pay50_at _ _ (fun r l => rows (fun s => B.X s (128 * 3 + l)) k r) (fun s l => B.X (64 * k + s) (128 * 3 + l)) ih (rd2 arg2 harg2 x B.X hx _ k 3 hk (by omega) (k0_off4_eq ⟨k, hk'⟩) _) r l

theorem sum5 : L8 4 (st_k0_t5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x) k0_pay49 16) fun r d => rows (fun s => B.X s d) 16 r := by
  refine rows_loop _ (fun s l => B.X s (128 * 4 + l)) (fun r l => ?_) (fun k hk ih r l => ?_) 16 le_rfl
  · show k0_pay49 (F := Ideal) (ix2 r l) = 0
    pointwise [k0_pay49]
  · have hk' : k < k0_t5_loop.trips := hk
    rw [st_k0_t5_succ (F := Ideal) (k := ⟨k, hk'⟩)]
    unfold tripR_k0_t5 trip_k0_t5
    dsimp only
    exact pay50_at _ _ (fun r l => rows (fun s => B.X s (128 * 4 + l)) k r) (fun s l => B.X (64 * k + s) (128 * 4 + l)) ih (rd2 arg2 harg2 x B.X hx _ k 4 hk (by omega) (k0_off5_eq ⟨k, hk'⟩) _) r l

theorem sq6 (v3 : Vec Ideal S640x640 .bf16) (v28 : FVec Ideal S1x640 .f32) (hm : R1 (k0_pay56 v28) B.mean) :
    L8 0 (st_k0_t6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 k0_pay49 v28 (harg2.unread x) k0_pay49 16) fun r d => rows (fun s => B.xc s d * B.xc s d) 16 r := by
  refine rows_loop _ (fun s l => B.xc s (128 * 0 + l) * B.xc s (128 * 0 + l)) (fun r l => ?_) (fun k hk ih r l => ?_) 16 le_rfl
  · show k0_pay49 (F := Ideal) (ix2 r l) = 0
    pointwise [k0_pay49]
  · have hk' : k < k0_t6_loop.trips := hk
    rw [st_k0_t6_succ (F := Ideal) (k := ⟨k, hk'⟩)]
    unfold tripR_k0_t6 trip_k0_t6
    dsimp only
    exact sq_at _ _ _ (fun l => B.mean (128 * 0 + l)) (fun r l => rows (fun s => B.xc s (128 * 0 + l) * B.xc s (128 * 0 + l)) k r) (fun s l => B.X (64 * k + s) (128 * 0 + l))
      (L1_0 hm) ih (rd2 arg2 harg2 x B.X hx _ k 0 hk (by omega) (k0_off6_eq ⟨k, hk'⟩) _) r l

theorem sq7 (v3 : Vec Ideal S640x640 .bf16) (v28 : FVec Ideal S1x640 .f32) (hm : R1 (k0_pay56 v28) B.mean) :
    L8 1 (st_k0_t7 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 k0_pay49 v28 (harg2.unread x) k0_pay49 16) fun r d => rows (fun s => B.xc s d * B.xc s d) 16 r := by
  refine rows_loop _ (fun s l => B.xc s (128 * 1 + l) * B.xc s (128 * 1 + l)) (fun r l => ?_) (fun k hk ih r l => ?_) 16 le_rfl
  · show k0_pay49 (F := Ideal) (ix2 r l) = 0
    pointwise [k0_pay49]
  · have hk' : k < k0_t7_loop.trips := hk
    rw [st_k0_t7_succ (F := Ideal) (k := ⟨k, hk'⟩)]
    unfold tripR_k0_t7 trip_k0_t7
    dsimp only
    exact sq_at _ _ _ (fun l => B.mean (128 * 1 + l)) (fun r l => rows (fun s => B.xc s (128 * 1 + l) * B.xc s (128 * 1 + l)) k r) (fun s l => B.X (64 * k + s) (128 * 1 + l))
      (L1_1 hm) ih (rd2 arg2 harg2 x B.X hx _ k 1 hk (by omega) (k0_off7_eq ⟨k, hk'⟩) _) r l

theorem sq8 (v3 : Vec Ideal S640x640 .bf16) (v28 : FVec Ideal S1x640 .f32) (hm : R1 (k0_pay56 v28) B.mean) :
    L8 2 (st_k0_t8 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 k0_pay49 v28 (harg2.unread x) k0_pay49 16) fun r d => rows (fun s => B.xc s d * B.xc s d) 16 r := by
  refine rows_loop _ (fun s l => B.xc s (128 * 2 + l) * B.xc s (128 * 2 + l)) (fun r l => ?_) (fun k hk ih r l => ?_) 16 le_rfl
  · show k0_pay49 (F := Ideal) (ix2 r l) = 0
    pointwise [k0_pay49]
  · have hk' : k < k0_t8_loop.trips := hk
    rw [st_k0_t8_succ (F := Ideal) (k := ⟨k, hk'⟩)]
    unfold tripR_k0_t8 trip_k0_t8
    dsimp only
    exact sq_at _ _ _ (fun l => B.mean (128 * 2 + l)) (fun r l => rows (fun s => B.xc s (128 * 2 + l) * B.xc s (128 * 2 + l)) k r) (fun s l => B.X (64 * k + s) (128 * 2 + l))
      (L1_2 hm) ih (rd2 arg2 harg2 x B.X hx _ k 2 hk (by omega) (k0_off8_eq ⟨k, hk'⟩) _) r l

theorem sq9 (v3 : Vec Ideal S640x640 .bf16) (v28 : FVec Ideal S1x640 .f32) (hm : R1 (k0_pay56 v28) B.mean) :
    L8 3 (st_k0_t9 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 k0_pay49 v28 (harg2.unread x) k0_pay49 16) fun r d => rows (fun s => B.xc s d * B.xc s d) 16 r := by
  refine rows_loop _ (fun s l => B.xc s (128 * 3 + l) * B.xc s (128 * 3 + l)) (fun r l => ?_) (fun k hk ih r l => ?_) 16 le_rfl
  · show k0_pay49 (F := Ideal) (ix2 r l) = 0
    pointwise [k0_pay49]
  · have hk' : k < k0_t9_loop.trips := hk
    rw [st_k0_t9_succ (F := Ideal) (k := ⟨k, hk'⟩)]
    unfold tripR_k0_t9 trip_k0_t9
    dsimp only
    exact sq_at _ _ _ (fun l => B.mean (128 * 3 + l)) (fun r l => rows (fun s => B.xc s (128 * 3 + l) * B.xc s (128 * 3 + l)) k r) (fun s l => B.X (64 * k + s) (128 * 3 + l))
      (L1_3 hm) ih (rd2 arg2 harg2 x B.X hx _ k 3 hk (by omega) (k0_off9_eq ⟨k, hk'⟩) _) r l

theorem sq10 (v3 : Vec Ideal S640x640 .bf16) (v28 : FVec Ideal S1x640 .f32) (hm : R1 (k0_pay56 v28) B.mean) :
    L8 4 (st_k0_t10 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 k0_pay49 v28 (harg2.unread x) k0_pay49 16) fun r d => rows (fun s => B.xc s d * B.xc s d) 16 r := by
  refine rows_loop _ (fun s l => B.xc s (128 * 4 + l) * B.xc s (128 * 4 + l)) (fun r l => ?_) (fun k hk ih r l => ?_) 16 le_rfl
  · show k0_pay49 (F := Ideal) (ix2 r l) = 0
    pointwise [k0_pay49]
  · have hk' : k < k0_t10_loop.trips := hk
    rw [st_k0_t10_succ (F := Ideal) (k := ⟨k, hk'⟩)]
    unfold tripR_k0_t10 trip_k0_t10
    dsimp only
    exact sq_at _ _ _ (fun l => B.mean (128 * 4 + l)) (fun r l => rows (fun s => B.xc s (128 * 4 + l) * B.xc s (128 * 4 + l)) k r) (fun s l => B.X (64 * k + s) (128 * 4 + l))
      (L1_4 hm) ih (rd2 arg2 harg2 x B.X hx _ k 4 hk (by omega) (k0_off10_eq ⟨k, hk'⟩) _) r l

end

section
include hx hy

theorem dh0 (arg0 : BitVec 32) (v30 v62 : FVec Ideal S1x640 .f32) (v64 v66 v69 v73 : Vec Ideal S1x640 .f32)
    (hm : R1 v30 B.mean) (ha : R1 (k0_pay67 v62 v64 v69) fun d => B.rstd d * B.γ d * B.oes d) (hb : R1e (k0_pay68 v66 v69 v73) B.bb) :
    DhSt B 0 16 (st_k0_t11 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 v64 v66 v69 v73 (harg2.unread x) (harg3.unread y) (k0_pay49, k0_pay49) 16) := by
  have : ∀ k, k ≤ 16 → DhSt B 0 k (st_k0_t11 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 v64 v66 v69 v73 (harg2.unread x) (harg3.unread y) (k0_pay49, k0_pay49) k) := by
    intro k
    induction k with
    | zero => exact fun _ => dh_zero B 0
    | succ k ih =>
      intro hk
      have hk' : k < k0_t11_loop.trips := hk
      rw [st_k0_t11_succ (F := Ideal) (k := ⟨k, hk'⟩)]
      unfold tripR_k0_t11 tripL_k0_t11 trip_k0_t11
      dsimp only
      exact dh_step B (ih (by omega)) (L1_0 hm) (L1_0 ha) (L1e_0 hb) (rd2 arg2 harg2 x B.X hx _ k 0 hk (by omega) (k0_off12_eq ⟨k, hk'⟩) _)
        (rd3 arg3 harg3 y B.Y hy _ k 0 hk (by omega) (k0_off12_eq ⟨k, hk'⟩) _) (k0_off13_eq ⟨k, hk'⟩)
  exact this 16 le_rfl

theorem dh1 (arg0 : BitVec 32) (v30 v62 : FVec Ideal S1x640 .f32) (v64 v66 v69 v73 : Vec Ideal S1x640 .f32)
    (hm : R1 v30 B.mean) (ha : R1 (k0_pay67 v62 v64 v69) fun d => B.rstd d * B.γ d * B.oes d) (hb : R1e (k0_pay68 v66 v69 v73) B.bb) :
    DhSt B 1 16 (st_k0_t12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 v64 v66 v69 v73 (harg2.unread x) (harg3.unread y) (k0_pay49, k0_pay49) 16) := by
  have : ∀ k, k ≤ 16 → DhSt B 1 k (st_k0_t12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 v64 v66 v69 v73 (harg2.unread x) (harg3.unread y) (k0_pay49, k0_pay49) k) := by
    intro k
    induction k with
    | zero => exact fun _ => dh_zero B 1
    | succ k ih =>
      intro hk
      have hk' : k < k0_t12_loop.trips := hk
      rw [st_k0_t12_succ (F := Ideal) (k := ⟨k, hk'⟩)]
      unfold tripR_k0_t12 tripL_k0_t12 trip_k0_t12
      dsimp only
      exact dh_step B (ih (by omega)) (L1_1 hm) (L1_1 ha) (L1e_1 hb) (rd2 arg2 harg2 x B.X hx _ k 1 hk (by omega) (k0_off14_eq ⟨k, hk'⟩) _)
        (rd3 arg3 harg3 y B.Y hy _ k 1 hk (by omega) (k0_off14_eq ⟨k, hk'⟩) _) (k0_off15_eq ⟨k, hk'⟩)
  exact this 16 le_rfl

theorem dh2 (arg0 : BitVec 32) (v30 v62 : FVec Ideal S1x640 .f32) (v64 v66 v69 v73 : Vec Ideal S1x640 .f32)
    (hm : R1 v30 B.mean) (ha : R1 (k0_pay67 v62 v64 v69) fun d => B.rstd d * B.γ d * B.oes d) (hb : R1e (k0_pay68 v66 v69 v73) B.bb) :
    DhSt B 2 16 (st_k0_t13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 v64 v66 v69 v73 (harg2.unread x) (harg3.unread y) (k0_pay49, k0_pay49) 16) := by
  have : ∀ k, k ≤ 16 → DhSt B 2 k (st_k0_t13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 v64 v66 v69 v73 (harg2.unread x) (harg3.unread y) (k0_pay49, k0_pay49) k) := by
    intro k
    induction k with
    | zero => exact fun _ => dh_zero B 2
    | succ k ih =>
      intro hk
      have hk' : k < k0_t13_loop.trips := hk
      rw [st_k0_t13_succ (F := Ideal) (k := ⟨k, hk'⟩)]
      unfold tripR_k0_t13 tripL_k0_t13 trip_k0_t13
      dsimp only
      exact dh_step B (ih (by omega)) (L1_2 hm) (L1_2 ha) (L1e_2 hb) (rd2 arg2 harg2 x B.X hx _ k 2 hk (by omega) (k0_off16_eq ⟨k, hk'⟩) _)
        (rd3 arg3 harg3 y B.Y hy _ k 2 hk (by omega) (k0_off16_eq ⟨k, hk'⟩) _) (k0_off17_eq ⟨k, hk'⟩)
  exact this 16 le_rfl

theorem dh3 (arg0 : BitVec 32) (v30 v62 : FVec Ideal S1x640 .f32) (v64 v66 v69 v73 : Vec Ideal S1x640 .f32)
    (hm : R1 v30 B.mean) (ha : R1 (k0_pay67 v62 v64 v69) fun d => B.rstd d * B.γ d * B.oes d) (hb : R1e (k0_pay68 v66 v69 v73) B.bb) :
    DhSt B 3 16 (st_k0_t14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 v64 v66 v69 v73 (harg2.unread x) (harg3.unread y) (k0_pay49, k0_pay49) 16) := by
  have : ∀ k, k ≤ 16 → DhSt B 3 k (st_k0_t14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 v64 v66 v69 v73 (harg2.unread x) (harg3.unread y) (k0_pay49, k0_pay49) k) := by
    intro k
    induction k with
    | zero => exact fun _ => dh_zero B 3
    | succ k ih =>
      intro hk
      have hk' : k < k0_t14_loop.trips := hk
      rw [st_k0_t14_succ (F := Ideal) (k := ⟨k, hk'⟩)]
      unfold tripR_k0_t14 tripL_k0_t14 trip_k0_t14
      dsimp only
      exact dh_step B (ih (by omega)) (L1_3 hm) (L1_3 ha) (L1e_3 hb) (rd2 arg2 harg2 x B.X hx _ k 3 hk (by omega) (k0_off18_eq ⟨k, hk'⟩) _)
        (rd3 arg3 harg3 y B.Y hy _ k 3 hk (by omega) (k0_off18_eq ⟨k, hk'⟩) _) (k0_off19_eq ⟨k, hk'⟩)
  exact this 16 le_rfl

theorem dh4 (arg0 : BitVec 32) (v4 : Elt Ideal .f32) (v30 v63 v65 v67 v71 v77 : FVec Ideal S1x640 .f32) (v82_0 v82_1 v87_0 v87_1 v92_0 v92_1 v97_0 v97_1 : FVec Ideal S8x128 .f32)
    (v98 v99 : FVec Ideal S1x128 .f32)
    (hm : L1 4 v98 B.mean) (ha : L1 4 v99 fun d => B.rstd d * B.γ d * B.oes d) (hb : R1e v77 B.bb) :
    DhSt B 4 16 (st_k0_t15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 k0_pay49 v63 v65 v67 v71 v77 v82_0 v82_1 v87_0 v87_1 v92_0 v92_1 v97_0 v97_1 v98 v99 (harg2.unread x) (harg3.unread y) (k0_pay49, k0_pay49) 16) := by
  have : ∀ k, k ≤ 16 → DhSt B 4 k (st_k0_t15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 k0_pay49 v63 v65 v67 v71 v77 v82_0 v82_1 v87_0 v87_1 v92_0 v92_1 v97_0 v97_1 v98 v99 (harg2.unread x) (harg3.unread y) (k0_pay49, k0_pay49) k) := by
    intro k
    induction k with
    | zero => exact fun _ => dh_zero B 4
    | succ k ih =>
      intro hk
      have hk' : k < k0_t15_loop.trips := hk
      rw [st_k0_t15_succ (F := Ideal) (k := ⟨k, hk'⟩)]
      unfold tripR_k0_t15 tripL_k0_t15 trip_k0_t15
      dsimp only
      exact dh_step B (ih (by omega)) hm ha (L1e_4 hb) (rd2 arg2 harg2 x B.X hx _ k 4 hk (by omega) (k0_off20_eq ⟨k, hk'⟩) _)
        (rd3 arg3 harg3 y B.Y hy _ k 4 hk (by omega) (k0_off20_eq ⟨k, hk'⟩) _) (k0_off21_eq ⟨k, hk'⟩)
  exact this 16 le_rfl

end

section
include hx hz

theorem dx0 (v3 : Vec Ideal S640x640 .bf16) (v4 : Elt Ideal .f32) (v30 v63 : FVec Ideal S1x640 .f32) (v110 : FVec Ideal S8x640 .f32) (v132 : FVec Ideal S1x640 .f32) (v136 v137 v139 : FVec Ideal S8x640 .f32)
    (hm : R1 v30 B.mean) (hp : R1 (k0_pay106 v4 v63 v132) B.c1) (hq : R1 (k0_pay107 v3 v63 v110 v132) B.c2) (hr : R1 (k0_pay108 v3 v63 v136 v137 v139) B.c3) :
    DxSt B 0 16 (st_k0_t16 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139 (harg2.unread x) (harg15.unread z) k0_pay109 16) := by
  have : ∀ k, k ≤ 16 → DxSt B 0 k (st_k0_t16 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139 (harg2.unread x) (harg15.unread z) k0_pay109 k) := by
    intro k
    induction k with
    | zero => exact fun _ => dx_zero B 0
    | succ k ih =>
      intro hk
      have hk' : k < k0_t16_loop.trips := hk
      rw [st_k0_t16_succ (F := Ideal) (k := ⟨k, hk'⟩)]
      unfold tripR_k0_t16 tripL_k0_t16 trip_k0_t16
      dsimp only
      exact dx_step B (ih (by omega)) (L1_0 hm) (L1_0 hp) (L1_0 hq) (L1_0 hr) (rd2 arg2 harg2 x B.X hx _ k 0 hk (by omega) (k0_off22_eq ⟨k, hk'⟩) _)
        (rd15 arg15 harg15 z B.dh hz _ k 0 hk (by omega) (k0_off23_eq ⟨k, hk'⟩) _) (k0_off22_eq ⟨k, hk'⟩)
  exact this 16 le_rfl

theorem dx1 (v178 v179 v180 v181 : FVec Ideal S1x128 .f32)
    (hm : L1 1 v178 B.mean) (hp : L1 1 v179 B.c1) (hq : L1 1 v180 B.c2) (hr : L1 1 v181 B.c3) :
    DxSt B 1 16 (st_k0_t17 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v178 v179 v180 v181 (harg2.unread x) (harg15.unread z) k0_pay117 16) := by
  have : ∀ k, k ≤ 16 → DxSt B 1 k (st_k0_t17 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v178 v179 v180 v181 (harg2.unread x) (harg15.unread z) k0_pay117 k) := by
    intro k
    induction k with
    | zero => exact fun _ => dx_zero B 1
    | succ k ih =>
      intro hk
      have hk' : k < k0_t17_loop.trips := hk
      rw [st_k0_t17_succ (F := Ideal) (k := ⟨k, hk'⟩)]
      unfold tripR_k0_t17 tripL_k0_t17 trip_k0_t17
      dsimp only
      exact dx_step B (ih (by omega)) hm hp hq hr (rd2 arg2 harg2 x B.X hx _ k 1 hk (by omega) (k0_off24_eq ⟨k, hk'⟩) _)
        (rd15 arg15 harg15 z B.dh hz _ k 1 hk (by omega) (k0_off25_eq ⟨k, hk'⟩) _) (k0_off24_eq ⟨k, hk'⟩)
  exact this 16 le_rfl

theorem dx2 (v30 v167 v169 v170 : FVec Ideal S1x640 .f32)
    (hm : R1 v30 B.mean) (hp : R1 v167 B.c1) (hq : R1 v169 B.c2) (hr : R1 v170 B.c3) :
    DxSt B 2 16 (st_k0_t18 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170 (harg2.unread x) (harg15.unread z) k0_pay4 16) := by
  have : ∀ k, k ≤ 16 → DxSt B 2 k (st_k0_t18 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170 (harg2.unread x) (harg15.unread z) k0_pay4 k) := by
    intro k
    induction k with
    | zero => exact fun _ => dx_zero B 2
    | succ k ih =>
      intro hk
      have hk' : k < k0_t18_loop.trips := hk
      rw [st_k0_t18_succ (F := Ideal) (k := ⟨k, hk'⟩)]
      unfold tripR_k0_t18 tripL_k0_t18 trip_k0_t18
      dsimp only
      exact dx_step B (ih (by omega)) (L1_2 hm) (L1_2 hp) (L1_2 hq) (L1_2 hr) (rd2 arg2 harg2 x B.X hx _ k 2 hk (by omega) (k0_off26_eq ⟨k, hk'⟩) _)
        (rd15 arg15 harg15 z B.dh hz _ k 2 hk (by omega) (k0_off27_eq ⟨k, hk'⟩) _) (k0_off26_eq ⟨k, hk'⟩)
  exact this 16 le_rfl

theorem dx3 (v30 v167 v169 v170 : FVec Ideal S1x640 .f32)
    (hm : R1 v30 B.mean) (hp : R1 v167 B.c1) (hq : R1 v169 B.c2) (hr : R1 v170 B.c3) :
    DxSt B 3 16 (st_k0_t19 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170 (harg2.unread x) (harg15.unread z) k0_pay8 16) := by
  have : ∀ k, k ≤ 16 → DxSt B 3 k (st_k0_t19 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170 (harg2.unread x) (harg15.unread z) k0_pay8 k) := by
    intro k
    induction k with
    | zero => exact fun _ => dx_zero B 3
    | succ k ih =>
      intro hk
      have hk' : k < k0_t19_loop.trips := hk
      rw [st_k0_t19_succ (F := Ideal) (k := ⟨k, hk'⟩)]
      unfold tripR_k0_t19 tripL_k0_t19 trip_k0_t19
      dsimp only
      exact dx_step B (ih (by omega)) (L1_3 hm) (L1_3 hp) (L1_3 hq) (L1_3 hr) (rd2 arg2 harg2 x B.X hx _ k 3 hk (by omega) (k0_off28_eq ⟨k, hk'⟩) _)
        (rd15 arg15 harg15 z B.dh hz _ k 3 hk (by omega) (k0_off29_eq ⟨k, hk'⟩) _) (k0_off28_eq ⟨k, hk'⟩)
  exact this 16 le_rfl

theorem dx4 (v30 v167 v169 v170 : FVec Ideal S1x640 .f32)
    (hm : R1 v30 B.mean) (hp : R1 v167 B.c1) (hq : R1 v169 B.c2) (hr : R1 v170 B.c3) :
    DxSt B 4 16 (st_k0_t20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170 (harg2.unread x) (harg15.unread z) k0_pay12 16) := by
  have : ∀ k, k ≤ 16 → DxSt B 4 k (st_k0_t20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170 (harg2.unread x) (harg15.unread z) k0_pay12 k) := by
    intro k
    induction k with
    | zero => exact fun _ => dx_zero B 4
    | succ k ih =>
      intro hk
      have hk' : k < k0_t20_loop.trips := hk
      rw [st_k0_t20_succ (F := Ideal) (k := ⟨k, hk'⟩)]
      unfold tripR_k0_t20 tripL_k0_t20 trip_k0_t20
      dsimp only
      exact dx_step B (ih (by omega)) (L1_4 hm) (L1_4 hp) (L1_4 hq) (L1_4 hr) (rd2 arg2 harg2 x B.X hx _ k 4 hk (by omega) (k0_off30_eq ⟨k, hk'⟩) _)
        (rd15 arg15 harg15 z B.dh hz _ k 4 hk (by omega) (k0_off31_eq ⟨k, hk'⟩) _) (k0_off30_eq ⟨k, hk'⟩)
  exact this 16 le_rfl

end

end

end Cert.KernelIdeal.Own
-- ==== Proof.Value.Point.lean ====
/-
   One grid point of the first call: what each stretch of the body leaves, at an index.
-/
module

public import proofs.«01_k».proof.Proof.KernelIdeal.Core
public import proofs.«01_k».proof.Proof.Value.Loops
public import Idealize.ShloMosaic.Lib.VecWindow

@[expose] public section

set_option maxRecDepth 65536
set_option maxHeartbeats 2000000

noncomputable section

namespace Cert.KernelIdeal.Own

open Cert.KernelIdeal.Gen Cert.Value
open Idealize.ShloMosaic Idealize.ShloMosaic.TcCoe
open Finset (range)

/-- What a grid point's operands hold: the batch element's data, and the group matrix. -/
structure In (B : Pt) (i : grid0.Coords) (x1 : Vec Ideal S1 .f32) (x2 : Vec Ideal S1x1024x640 .bf16) (x3 : Vec Ideal S1x1024x640 .fp8e5m2)
    (x4 x5 : Vec Ideal S1x640 .f32) (x6 x7 : Vec Ideal S36x640 .f32) (x14 : Vec Ideal S640x640 .bf16) : Prop where
  h1 : x1 (ix1 0) = ((B.q : ℝ) : EReal)
  h2 : ∀ (s : Fin 1024) (d : Fin 640), x2 (ix3 0 s d) = ((B.X s d : ℝ) : EReal)
  h3 : ∀ (s : Fin 1024) (d : Fin 640), clampY (x3 (ix3 0 s d)) = B.Y s d
  h4 : R1 x4 B.γ
  h5 : R1e x5 B.β
  h6 : ∀ d : Fin 640, x6 (ix2 (i 0) d) = ((B.es d : ℝ) : EReal)
  h7 : ∀ d : Fin 640, x7 (ix2 (i 0) d) = B.esh d
  h14 : Grp x14

/-- The rows of the derivative, and of its product with the centred activations, eight partial sums a column. -/
def dhr (B : Pt) (r d : ℕ) : ℝ := rows (fun s => B.dh s d) 16 r
def dhxr (B : Pt) (r d : ℕ) : ℝ := rows (fun s => B.dh s d * B.xc s d) 16 r

theorem read15 {sig' : RefSig} {κ : Kind} {sp : Space} (v : View sig' κ sp S1024x640 .f32) (f : v.ty.Contents (Elt Ideal)) (G : ℕ → ℕ → ℝ)
    (L : List (View.Piece (Elt Ideal) S1024x640 .f32)) (hL : ∀ p ∈ L, ∀ x, p.2 x = ((G (p.1.emb x 0).val (p.1.emb x 1).val : ℝ) : EReal))
    (s : Fin 1024) (d : Fin 640) (h : (∃ p ∈ L, ix2 s d ∈ p.1.set) ∨ v.read (Elt Ideal) f (ix2 s d) = ((G s d : ℝ) : EReal)) :
    v.read (Elt Ideal) (v.writes (Elt Ideal) f L) (ix2 s d) = ((G s d : ℝ) : EReal) := by
  by_cases hc : ∃ p ∈ L, ix2 s d ∈ p.1.set
  · rw [View.read_writes_apply_eq_canon v f _ L hc]
    exact View.canon_apply_of_pieces (fun y : S1024x640.Idx => ((G (y 0).val (y 1).val : ℝ) : EReal)) L hL _ hc
  · rw [View.read_writes_apply_of_forall_not_mem v f _ L (fun p hp hm => hc ⟨p, hp, hm⟩)]
    exact h.resolve_left hc

theorem read8 {sig' : RefSig} {κ : Kind} {sp : Space} (v : View sig' κ sp S1x1024x640 .bf16) (f : v.ty.Contents (Elt Ideal)) (G : ℕ → ℕ → ℝ)
    (L : List (View.Piece (Elt Ideal) S1x1024x640 .bf16)) (hL : ∀ p ∈ L, ∀ x, p.2 x = ((G (p.1.emb x 1).val (p.1.emb x 2).val : ℝ) : EReal))
    (s : Fin 1024) (d : Fin 640) (h : (∃ p ∈ L, ix3 0 s d ∈ p.1.set) ∨ v.read (Elt Ideal) f (ix3 0 s d) = ((G s d : ℝ) : EReal)) :
    v.read (Elt Ideal) (v.writes (Elt Ideal) f L) (ix3 0 s d) = ((G s d : ℝ) : EReal) := by
  by_cases hc : ∃ p ∈ L, ix3 0 s d ∈ p.1.set
  · rw [View.read_writes_apply_eq_canon v f _ L hc]
    exact View.canon_apply_of_pieces (fun y : S1x1024x640.Idx => ((G (y 1).val (y 2).val : ℝ) : EReal)) L hL _ hc
  · rw [View.read_writes_apply_of_forall_not_mem v f _ L (fun p hp hm => hc ⟨p, hp, hm⟩)]
    exact h.resolve_left hc

theorem pay16_at (a b c d e : FVec Ideal S16x128 .bf16) (x : Vec Ideal S16x640 .f32) (W : ℕ → ℕ → ℝ)
    (ha : ∀ (r : Fin 16) (l : Fin 128), a (ix2 r l) = ((W r (128 * 0 + l) : ℝ) : EReal))
    (hb : ∀ (r : Fin 16) (l : Fin 128), b (ix2 r l) = ((W r (128 * 1 + l) : ℝ) : EReal))
    (hc : ∀ (r : Fin 16) (l : Fin 128), c (ix2 r l) = ((W r (128 * 2 + l) : ℝ) : EReal))
    (hd : ∀ (r : Fin 16) (l : Fin 128), d (ix2 r l) = ((W r (128 * 3 + l) : ℝ) : EReal))
    (he : ∀ (r : Fin 16) (l : Fin 128), e (ix2 r l) = ((W r (128 * 4 + l) : ℝ) : EReal)) (r : Fin 16) (d' : Fin 640) :
    k0_pay16 a b c d e x (ix2 r d') = max (x (ix2 r d')) ((W r d' : ℝ) : EReal) := by
  pointwise [k0_pay16]
  simp only [ha, hb, hc, hd, he]
  have := d'.isLt
  congr 1
  split_ifs <;> (congr 2; omega)

theorem pay99_at (v4 : Elt Ideal .f32) (v63 v71 : FVec Ideal S1x640 .f32) (a b c d e : FVec Ideal S8x128 .f32) (v : Vec Ideal S1x640 .f32) (l : Fin 640) :
    k0_pay99 v4 v63 v71 a b c d e v (ix2 0 l) = v (ix2 0 l) + mulf v71 (k0_pay97 v4 v63 a b c d e) (ix2 0 l) := by
  have h : shapeCast S1x640 v shapeCasts_S1x640_S1x640 (ix2 0 l) = v (ix2 0 l) := by pointwise []
  rw [← h]
  rfl

theorem pay100_at (v4 : Elt Ideal .f32) (v71 : FVec Ideal S1x640 .f32) (a b c d e : FVec Ideal S8x128 .f32) (v : Vec Ideal S1x640 .f32) (l : Fin 640) :
    k0_pay100 v4 v71 a b c d e v (ix2 0 l) = v (ix2 0 l) + mulf v71 (k0_pay96 v4 a b c d e) (ix2 0 l) := by
  have h : shapeCast S1x640 v shapeCasts_S1x640_S1x640 (ix2 0 l) = v (ix2 0 l) := by pointwise []
  rw [← h]
  rfl

/-- The sums over the columns. -/
theorem sdh_at {B : Pt} {a b c d e : FVec Ideal S8x128 .f32} (ha : L8 0 a (dhr B)) (hb : L8 1 b (dhr B)) (hc : L8 2 c (dhr B)) (hd : L8 3 d (dhr B)) (he : L8 4 e (dhr B))
    {v4 : Elt Ideal .f32} (h4 : v4 = ((B.q : ℝ) : EReal)) : R1 (k0_pay96 v4 a b c d e) B.sdh := by
  have h := colsum_at (pay94_at ha hb hc hd he h4)
  have e : (fun d => ∑ r ∈ range 8, dhr B r d * B.q) = B.sdh := funext fun d => B.sdh_ker d
  rw [e] at h
  exact h

theorem sdhx_at {B : Pt} {a b c d e : FVec Ideal S8x128 .f32} (ha : L8 0 a (dhxr B)) (hb : L8 1 b (dhxr B)) (hc : L8 2 c (dhxr B)) (hd : L8 3 d (dhxr B)) (he : L8 4 e (dhxr B))
    {v4 : Elt Ideal .f32} (h4 : v4 = ((B.q : ℝ) : EReal)) {v63 : FVec Ideal S1x640 .f32} (h63 : R1 v63 B.rstd) : R1 (k0_pay97 v4 v63 a b c d e) B.sdhx := by
  have h := colsum_at (pay95_at ha hb hc hd he h4 h63)
  have e : (fun d => ∑ r ∈ range 8, dhxr B r d * (B.rstd d * B.q)) = B.sdhx := funext fun d => B.sdhx_ker d
  rw [e] at h
  exact h

theorem c2_at {B : Pt} {v3 : FVec Ideal S640x640 .bf16} (h3 : Grp v3) {v63 v132 : FVec Ideal S1x640 .f32} {v110 : FVec Ideal S8x640 .f32} (h63 : R1 v63 B.rstd)
    (h132 : R1 v132 B.og) (h110 : R8 v110 fun r d => dhxr B r d * (B.rstd d * B.q)) : R1 (k0_pay107 v3 v63 v110 v132) B.c2 := by
  rw [pay107_eq]
  have h := mulf_at (mulf_at h63 h63) (div_at (gs_R1 h3 (mul8_at h110 h132)))
  have e : (fun e => ∑ r ∈ range 8, dhxr B r e * (B.rstd e * B.q) * B.og e) = fun e => B.sdhx e * B.og e := by
    funext e; rw [← Finset.sum_mul]; exact congrArg (· * B.og e) (B.sdhx_ker e)
  rw [e] at h
  exact h

theorem c3_at {B : Pt} {v3 : FVec Ideal S640x640 .bf16} (h3 : Grp v3) {v63 v65 v71 : FVec Ideal S1x640 .f32} (h63 : R1 v63 B.rstd)
    (h65 : R1 v65 B.γ) (h71 : R1 v71 B.oes)
    {a b c d e : FVec Ideal S8x128 .f32} (ha : L8 0 a (dhr B)) (hb : L8 1 b (dhr B)) (hc : L8 2 c (dhr B)) (hd : L8 3 d (dhr B)) (he : L8 4 e (dhr B))
    {v4 : Elt Ideal .f32} (h4 : v4 = ((B.q : ℝ) : EReal)) :
    R1 (k0_pay108 v3 v63 (k0_pay103 v4 v65 v71 a b c d e) (k0_pay104 v4 v65 v71 a b c d e) (k0_pay105 v4 v65 v71 a b c d e)) B.c3 := by
  rw [pay108_eq]
  have h := mulf_at h63 (div_at (gs_R1 h3 (mul8_at (pay94_at ha hb hc hd he h4) (mulf_at h71 h65))))
  have e : (fun e => ∑ r ∈ range 8, dhr B r e * B.q * (B.oes e * B.γ e)) = fun e => B.sdh e * B.og e := by
    funext e; rw [← Finset.sum_mul]; exact congrArg (· * B.og e) (B.sdh_ker e)
  rw [e] at h
  exact h

section
variable (c : Dev nD) (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)

theorem rdRowe {n : ℕ} (v : Vec Ideal ⟨2, ![36, 640]⟩ .f32) (V : ℕ → EReal) (hv : ∀ d : Fin 640, v (ix2 (i 0) d) = V d) (inb) :
    R1e (View.ld v (Rect.unit (s := S36x640) (k0_off11 i) ![1, 640] inb)) V := by
  intro d
  refine (congrArg v (?_ : _ = ix2 (i 0) d)).trans (hv d)
  funext a
  have e := k0_off11_eq i
  match a with
  | 0 => exact Fin.ext (show k0_off11 i 0 + 1 * 0 = (i 0).val by rw [e]; rfl)
  | 1 => exact Fin.ext (show k0_off11 i 1 + 1 * d.val = d.val by rw [e]; show 0 + 1 * d.val = d.val; omega)
theorem rdRow {n : ℕ} (v : Vec Ideal ⟨2, ![36, 640]⟩ .f32) (V : ℕ → ℝ) (hv : ∀ d : Fin 640, v (ix2 (i 0) d) = ((V d : ℝ) : EReal)) (inb) :
    R1 (View.ld v (Rect.unit (s := S36x640) (k0_off11 i) ![1, 640] inb)) V := rdRowe i (n := n) v (fun d => (V d : EReal)) hv inb

variable (x1 : Vec Ideal S1 .f32) (x2 : Vec Ideal S1x1024x640 .bf16) (x3 : Vec Ideal S1x1024x640 .fp8e5m2) (x4 : Vec Ideal S1x640 .f32) (x5 : Vec Ideal S1x640 .f32) (x6 : Vec Ideal S36x640 .f32) (x7 : Vec Ideal S36x640 .f32) (x8 : Vec Ideal S1x1024x640 .bf16) (x9 : Vec Ideal S16x640 .f32) (x10 : Vec Ideal S1x640 .f32) (x11 : Vec Ideal S1x640 .f32) (x12 : Vec Ideal S36x640 .f32) (x13 : Vec Ideal S36x640 .f32) (x14 : Vec Ideal S640x640 .bf16) (x15 : Vec Ideal S1024x640 .f32)

variable (B : Pt) (hI : In B i x1 x2 x3 x4 x5 x6 x7 x14)

section
include hI

theorem mean_spec :
    Grp (runMean c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15).1.2.1 ∧ (runMean c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15).1.2.2.1 = ((B.q : ℝ) : EReal) ∧ (runMean c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15).1.2.2.2.1 = k0_pay49
      ∧ R1 (k0_pay56 (runMean c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15).1.2.2.2.2) B.mean := by
  have h14 : Grp (View.readAt (Elt Ideal) arg14.view (Rect.unit (s := S640x640) ![0, 0] ![640, 640] inb_S640x640_S640x640_0_0).toLoadRect (harg14.unread x14)) := by
    rw [View.readAt_eq_ld, harg14.read_unread]
    intro a b
    pointwise []
    exact hI.h14 a b
  unfold runMean
  dsimp only
  refine ⟨h14, ?_, rfl, ?_⟩
  · clear * - hI
    unfold runMean.sl.r
    rw [View.readAt_eq_ld, harg1.read_unread]
    refine (congrArg x1 ?_).trans hI.h1
    funext a
    match a with
    | 0 => exact Subsingleton.elim (α := Fin 1) _ _
  · exact mean_at h14 (sum1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 hI.h2) (sum2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 hI.h2) (sum3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 hI.h2)
      (sum4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 hI.h2) (sum5 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 hI.h2)

theorem run8_spec (v3 : Vec Ideal S640x640 .bf16) (v28 : FVec Ideal S1x640 .f32) (h3 : Grp v3) (h28 : R1 (k0_pay56 v28) B.mean) :
    R1 (run8 c i arg1 harg1 arg2 harg2 arg3 harg3 arg4 harg4 arg5 harg5 arg6 harg6 arg7 harg7 arg8 harg8 arg9 harg9 arg10 harg10 arg11 harg11 arg12 harg12 arg13 harg13 arg14 harg14 arg15 harg15 v3 k0_pay49 v28 x1 x2 x3 x4 x5 x6 x7 x8 x9 x10 x11 x12 x13 x14 x15).1.1 B.mean ∧ R1 (run8 c i arg1 harg1 arg2 harg2 arg3 harg3 arg4 harg4 arg5 harg5 arg6 harg6 arg7 harg7 arg8 harg8 arg9 harg9 arg10 harg10 arg11 harg11 arg12 harg12 arg13 harg13 arg14 harg14 arg15 harg15 v3 k0_pay49 v28 x1 x2 x3 x4 x5 x6 x7 x8 x9 x10 x11 x12 x13 x14 x15).1.2 B.vare := by
  unfold run8
  dsimp only
  refine ⟨h28, ?_⟩
  exact vare_at h3 (sq6 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 hI.h2 v3 v28 h28) (sq7 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 hI.h2 v3 v28 h28) (sq8 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 hI.h2 v3 v28 h28)
      (sq9 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 hI.h2 v3 v28 h28) (sq10 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 hI.h2 v3 v28 h28)

end

/-- What the stretch that forms the derivative's four first lane blocks leaves. -/
structure R9 (B : Pt) (v63 v65 v67 v71 v77 : FVec Ideal S1x640 .f32) (v82_0 v82_1 v87_0 v87_1 v92_0 v92_1 v97_0 v97_1 : FVec Ideal S8x128 .f32) (v98 v99 : FVec Ideal S1x128 .f32) : Prop where
  h63 : R1 v63 B.rstd
  h65 : R1 v65 B.γ
  h67 : R1e v67 B.β
  h71 : R1 v71 B.oes
  h77 : R1e v77 B.bb
  h82 : L8 0 v82_0 (dhr B)
  h82' : L8 0 v82_1 (dhxr B)
  h87 : L8 1 v87_0 (dhr B)
  h87' : L8 1 v87_1 (dhxr B)
  h92 : L8 2 v92_0 (dhr B)
  h92' : L8 2 v92_1 (dhxr B)
  h97 : L8 3 v97_0 (dhr B)
  h97' : L8 3 v97_1 (dhxr B)
  h98 : L1 4 v98 B.mean
  h99 : L1 4 v99 fun d => B.rstd d * B.γ d * B.oes d

include hI in
theorem run9_spec (arg0 : BitVec 32) (v30 v62 : FVec Ideal S1x640 .f32) (h30 : R1 v30 B.mean) (h62 : R1 v62 B.vare) :
    (∀ (s : Fin 1024) (d : Fin 640), d.val < 512 → (run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).1 (ix2 s d) = ((B.dh s d : ℝ) : EReal))
      ∧ R9 B ((run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).2.1.1) ((run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).2.1.2.1) ((run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).2.1.2.2.1) ((run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).2.1.2.2.2.1) ((run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).2.1.2.2.2.2.1) ((run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).2.1.2.2.2.2.2.1) ((run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).2.1.2.2.2.2.2.2.1) ((run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).2.1.2.2.2.2.2.2.2.1) ((run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).2.1.2.2.2.2.2.2.2.2.1) ((run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).2.1.2.2.2.2.2.2.2.2.2.1) ((run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).2.1.2.2.2.2.2.2.2.2.2.2.1) ((run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).2.1.2.2.2.2.2.2.2.2.2.2.2.1) ((run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).2.1.2.2.2.2.2.2.2.2.2.2.2.2.1) ((run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).2.1.2.2.2.2.2.2.2.2.2.2.2.2.2.1) ((run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay49 v30 v62 x1 x2 x3 x4 x5 x6 x7 x8 x9 x10 x11 x12 x13 x14 x15).2.1.2.2.2.2.2.2.2.2.2.2.2.2.2.2) := by
  have e4 : R1 (View.readAt (Elt Ideal) arg4.view (Rect.unit (s := S1x640) ![0, 0] ![1, 640] inb_S1x640_S1x640_0_0).toLoadRect (harg4.unread x4)) B.γ := by
    rw [View.readAt_eq_ld, harg4.read_unread]; intro d; pointwise []; exact hI.h4 d
  have e5 : R1e (View.readAt (Elt Ideal) arg5.view (Rect.unit (s := S1x640) ![0, 0] ![1, 640] inb_S1x640_S1x640_0_0).toLoadRect (harg5.unread x5)) B.β := by
    rw [View.readAt_eq_ld, harg5.read_unread]; intro d; pointwise []; exact hI.h5 d
  have e6 : ∀ inb, R1 (View.readAt (Elt Ideal) arg6.view (Rect.unit (s := S36x640) (k0_off11 i) ![1, 640] inb).toLoadRect (harg6.unread x6)) B.es := by
    intro inb; rw [View.readAt_eq_ld, harg6.read_unread]; exact rdRow i (n := 0) x6 B.es hI.h6 inb
  have e7 : ∀ inb, R1e (View.readAt (Elt Ideal) arg7.view (Rect.unit (s := S36x640) (k0_off11 i) ![1, 640] inb).toLoadRect (harg7.unread x7)) B.esh := by
    intro inb; rw [View.readAt_eq_ld, harg7.read_unread]; exact rdRowe i (n := 0) x7 B.esh hI.h7 inb
  have h63 : R1 (k0_pay63 v62) B.rstd := pay63_at h62 B.vare_pos
  unfold run9
  dsimp only
  have ha : R1 (k0_pay67 v62 (View.readAt (Elt Ideal) arg4.view (Rect.unit (s := S1x640) ![0, 0] ![1, 640] inb_S1x640_S1x640_0_0).toLoadRect (harg4.unread x4)) (View.readAt (Elt Ideal) arg6.view (Rect.unit (s := S36x640) (k0_off11 i) ![1, 640] (Gen.k0_off11_inb i)).toLoadRect (harg6.unread x6))) fun d => B.rstd d * B.γ d * B.oes d := mulf_at (mulf_at h63 (cast_at e4)) (pay66_at (e6 (Gen.k0_off11_inb i)))
  have hb : R1e (k0_pay68 (View.readAt (Elt Ideal) arg5.view (Rect.unit (s := S1x640) ![0, 0] ![1, 640] inb_S1x640_S1x640_0_0).toLoadRect (harg5.unread x5)) (View.readAt (Elt Ideal) arg6.view (Rect.unit (s := S36x640) (k0_off11 i) ![1, 640] (Gen.k0_off11_inb i)).toLoadRect (harg6.unread x6)) (View.readAt (Elt Ideal) arg7.view (Rect.unit (s := S36x640) (k0_off11 i) ![1, 640] (Gen.k0_off11_inb i)).toLoadRect (harg7.unread x7))) B.bb := offset_at (cast_ate e5) (pay66_at (e6 (Gen.k0_off11_inb i))) (e7 (Gen.k0_off11_inb i))
  have d0 := dh0 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 x3 hI.h2 hI.h3 arg0 v30 v62 _ _ _ _ h30 ha hb
  have d1 := dh1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 x3 hI.h2 hI.h3 arg0 v30 v62 _ _ _ _ h30 ha hb
  have d2 := dh2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 x3 hI.h2 hI.h3 arg0 v30 v62 _ _ _ _ h30 ha hb
  have d3 := dh3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 x3 hI.h2 hI.h3 arg0 v30 v62 _ _ _ _ h30 ha hb
  refine ⟨fun s d hd => ?_, ⟨?_, ?_, ?_, ?_, ?_, ?_, ?_, ?_, ?_, ?_, ?_, ?_, ?_, ?_, ?_⟩⟩
  rotate_left
  · exact h63
  · exact cast_at e4
  · exact cast_ate e5
  · exact pay66_at (e6 _)
  · exact hb
  · exact d0.1
  · exact d0.2.1
  · exact d1.1
  · exact d1.2.1
  · exact d2.1
  · exact d2.2.1
  · exact d3.1
  · exact d3.2.1
  · exact L1_4 h30
  · exact L1_4 ha
  refine read15 _ _ B.dh _ ?_ s d (.inl ?_)
  · exact List.forall_mem_append.2 ⟨d3.2.2.1, List.forall_mem_append.2 ⟨d2.2.2.1, List.forall_mem_append.2 ⟨d1.2.2.1, d0.2.2.1⟩⟩⟩
  · have hs := s.isLt
    by_cases c0 : d.val < 128
    · obtain ⟨p, hp, hm⟩ := d0.2.2.2 (ix2 s d) hs (by show _ ≤ d.val; omega) (by show d.val < _; omega)
      exact ⟨p, List.mem_append_right _ (List.mem_append_right _ (List.mem_append_right _ hp)), hm⟩
    by_cases c1 : d.val < 256
    · obtain ⟨p, hp, hm⟩ := d1.2.2.2 (ix2 s d) hs (by show _ ≤ d.val; omega) (by show d.val < _; omega)
      exact ⟨p, List.mem_append_right _ (List.mem_append_right _ (List.mem_append_left _ hp)), hm⟩
    by_cases c2 : d.val < 384
    · obtain ⟨p, hp, hm⟩ := d2.2.2.2 (ix2 s d) hs (by show _ ≤ d.val; omega) (by show d.val < _; omega)
      exact ⟨p, List.mem_append_right _ (List.mem_append_left _ hp), hm⟩
    · obtain ⟨p, hp, hm⟩ := d3.2.2.2 (ix2 s d) hs (by show _ ≤ d.val; omega) (by show d.val < _; omega)
      exact ⟨p, List.mem_append_left _ hp, hm⟩

/-- Storing one row leaves the rest. -/
theorem putRow {sig' : RefSig} {κ : Kind} {sp : Space} (v : View sig' κ sp S36x640 .f32) (f : v.ty.Contents (Elt Ideal)) (inb) (w : FVec Ideal S1x640 .f32) (r : Fin 36) (d : Fin 640) :
    v.read (Elt Ideal) (v.writes (Elt Ideal) f [⟨Rect.unit (s := S36x640) (k0_off11 i) ![1, 640] inb, w⟩]) (ix2 r d)
      = if r.val = (i 0).val then w (ix2 0 d) else v.read (Elt Ideal) f (ix2 r d) := by
  have e := k0_off11_eq i
  split_ifs with h
  · refine View.read_writes_cons_unit_of_mem v f inb w [] (ix2 r d) (ix2 0 d) e fun a => ?_
    match a with
    | 0 => exact h
    | 1 => show d.val = 0 + d.val; omega
  · refine (View.read_writes_cons_unit_of_not_mem v f inb w [] (ix2 r d) e 0 ?_).trans rfl
    have : r.val ≠ (i 0).val := h
    show r.val < (i 0).val ∨ (i 0).val + 1 ≤ r.val
    omega

include hI in
theorem run10_spec (arg0 : BitVec 32) (v4 : Elt Ideal .f32) (v63 v65 v67 v71 v77 : FVec Ideal S1x640 .f32) (v82_0 v82_1 v87_0 v87_1 v92_0 v92_1 v97_0 v97_1 : FVec Ideal S8x128 .f32) (v98 v99 : FVec Ideal S1x128 .f32)
    (h4 : v4 = ((B.q : ℝ) : EReal)) (h : R9 B v63 v65 v67 v71 v77 v82_0 v82_1 v87_0 v87_1 v92_0 v92_1 v97_0 v97_1 v98 v99)
    (h15 : ∀ (s : Fin 1024) (d : Fin 640), d.val < 512 → x15 (ix2 s d) = ((B.dh s d : ℝ) : EReal)) :
    (∀ d : Fin 640, (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 k0_pay49 v63 v65 v67 v71 v77 v82_0 v82_1 v87_0 v87_1 v92_0 v92_1 v97_0 v97_1 v98 v99 x1 x2 x3 x4 x5 x6 x7 x8 x9 x10 x11 x12 x13 x14 x15).1 (ix2 0 d) = x10 (ix2 0 d) + ((B.oes d * B.sdhx d : ℝ) : EReal))
      ∧ (∀ d : Fin 640, (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 k0_pay49 v63 v65 v67 v71 v77 v82_0 v82_1 v87_0 v87_1 v92_0 v92_1 v97_0 v97_1 v98 v99 x1 x2 x3 x4 x5 x6 x7 x8 x9 x10 x11 x12 x13 x14 x15).2.1 (ix2 0 d) = x11 (ix2 0 d) + ((B.oes d * B.sdh d : ℝ) : EReal))
      ∧ (∀ (r : Fin 36) (d : Fin 640), (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 k0_pay49 v63 v65 v67 v71 v77 v82_0 v82_1 v87_0 v87_1 v92_0 v92_1 v97_0 v97_1 v98 v99 x1 x2 x3 x4 x5 x6 x7 x8 x9 x10 x11 x12 x13 x14 x15).2.2.1 (ix2 r d) = if r.val = (i 0).val then B.des d else x12 (ix2 r d))
      ∧ (∀ (r : Fin 36) (d : Fin 640), (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 k0_pay49 v63 v65 v67 v71 v77 v82_0 v82_1 v87_0 v87_1 v92_0 v92_1 v97_0 v97_1 v98 v99 x1 x2 x3 x4 x5 x6 x7 x8 x9 x10 x11 x12 x13 x14 x15).2.2.2.1 (ix2 r d) = if r.val = (i 0).val then ((B.sdh d : ℝ) : EReal) else x13 (ix2 r d))
      ∧ (∀ (s : Fin 1024) (d : Fin 640), (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 k0_pay49 v63 v65 v67 v71 v77 v82_0 v82_1 v87_0 v87_1 v92_0 v92_1 v97_0 v97_1 v98 v99 x1 x2 x3 x4 x5 x6 x7 x8 x9 x10 x11 x12 x13 x14 x15).2.2.2.2.1 (ix2 s d) = ((B.dh s d : ℝ) : EReal))
      ∧ R8 (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 k0_pay49 v63 v65 v67 v71 v77 v82_0 v82_1 v87_0 v87_1 v92_0 v92_1 v97_0 v97_1 v98 v99 x1 x2 x3 x4 x5 x6 x7 x8 x9 x10 x11 x12 x13 x14 x15).2.2.2.2.2.1.1 (fun r d => dhxr B r d * (B.rstd d * B.q)) ∧ R1 (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 k0_pay49 v63 v65 v67 v71 v77 v82_0 v82_1 v87_0 v87_1 v92_0 v92_1 v97_0 v97_1 v98 v99 x1 x2 x3 x4 x5 x6 x7 x8 x9 x10 x11 x12 x13 x14 x15).2.2.2.2.2.1.2.1 B.og
      ∧ ∀ v3, Grp v3 → R1 (k0_pay108 v3 v63 (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 k0_pay49 v63 v65 v67 v71 v77 v82_0 v82_1 v87_0 v87_1 v92_0 v92_1 v97_0 v97_1 v98 v99 x1 x2 x3 x4 x5 x6 x7 x8 x9 x10 x11 x12 x13 x14 x15).2.2.2.2.2.1.2.2.1 (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 k0_pay49 v63 v65 v67 v71 v77 v82_0 v82_1 v87_0 v87_1 v92_0 v92_1 v97_0 v97_1 v98 v99 x1 x2 x3 x4 x5 x6 x7 x8 x9 x10 x11 x12 x13 x14 x15).2.2.2.2.2.1.2.2.2.1 (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v4 k0_pay49 v63 v65 v67 v71 v77 v82_0 v82_1 v87_0 v87_1 v92_0 v92_1 v97_0 v97_1 v98 v99 x1 x2 x3 x4 x5 x6 x7 x8 x9 x10 x11 x12 x13 x14 x15).2.2.2.2.2.1.2.2.2.2) B.c3 := by
  have d4 := dh4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 x3 hI.h2 hI.h3 arg0 v4 v63 v63 v65 v67 v71 v77 v82_0 v82_1 v87_0 v87_1 v92_0 v92_1 v97_0 v97_1 v98 v99 h.h98 h.h99 h.h77
  have sx := sdhx_at h.h82' h.h87' h.h92' h.h97' d4.2.1 h4 h.h63
  have sd := sdh_at h.h82 h.h87 h.h92 h.h97 d4.1 h4
  unfold run10
  dsimp only
  refine ⟨fun d => ?_, fun d => ?_, fun r d => ?_, fun r d => ?_, fun s d => ?_, ?_, ?_, ?_⟩
  · refine (congrFun (View.read_writes_full _ _ _ _ _) _).trans ?_
    have e : (View.readAt (Elt Ideal) arg10.view (Rect.unit (s := S1x640) ![0, 0] ![1, 640] inb_S1x640_S1x640_0_0).toLoadRect (harg10.unread x10)) (ix2 0 d) = x10 (ix2 0 d) := by
      rw [View.readAt_eq_ld, harg10.read_unread]; pointwise []
    have := mulf_at h.h71 sx d
    rw [← e, ← this]
    exact pay99_at _ _ _ _ _ _ _ _ _ d
  · refine (congrFun (View.read_writes_full _ _ _ _ _) _).trans ?_
    have e : (View.readAt (Elt Ideal) arg11.view (Rect.unit (s := S1x640) ![0, 0] ![1, 640] inb_S1x640_S1x640_0_0).toLoadRect (harg11.unread x11)) (ix2 0 d) = x11 (ix2 0 d) := by
      rw [View.readAt_eq_ld, harg11.read_unread]; pointwise []
    have := mulf_at h.h71 sd d
    rw [← e, ← this]
    exact pay100_at _ _ _ _ _ _ _ _ d
  · rw [putRow, harg12.read_unread]
    exact ite_congr rfl (fun _ => scale_at (mulf_at sx h.h65) sd h.h67 d) fun _ => rfl
  · rw [putRow, harg13.read_unread]
    exact ite_congr rfl (fun _ => sd d) fun _ => rfl
  · refine read15 _ _ B.dh _ d4.2.2.1 s d ?_
    by_cases c : d.val < 512
    · right; rw [harg15.read_unread]; exact h15 s d c
    · left; exact d4.2.2.2 (ix2 s d) s.isLt (by show _ ≤ d.val; omega) (by show d.val < _; omega)
  · exact pay95_at h.h82' h.h87' h.h92' h.h97' d4.2.1 h4 h.h63
  · exact mulf_at h.h71 h.h65
  · exact fun v3 h3 => c3_at h3 h.h63 h.h65 h.h71 h.h82 h.h87 h.h92 h.h97 d4.1 h4

/-- What the stretch that forms the first lane block of the input's derivative leaves. -/
structure R11 (B : Pt) (v167 v169 v170 : FVec Ideal S1x640 .f32) (v177 : FVec Ideal S16x128 .bf16) (v178 v179 v180 v181 : FVec Ideal S1x128 .f32) (v182 : FVec Ideal S16x128 .bf16) : Prop where
  h167 : R1 v167 B.c1
  h169 : R1 v169 B.c2
  h170 : R1 v170 B.c3
  h177 : ∀ (s : Fin 16) (l : Fin 128), v177 (ix2 s l) = ((mxn (fun s => B.dx s (128 * 0 + l)) 16 s : ℝ) : EReal)
  h178 : L1 1 v178 B.mean
  h179 : L1 1 v179 B.c1
  h180 : L1 1 v180 B.c2
  h181 : L1 1 v181 B.c3
  h182 : v182 = k0_pay117

include hI in
theorem run11_spec (v3 : Vec Ideal S640x640 .bf16) (v4 : Elt Ideal .f32) (v30 v63 : FVec Ideal S1x640 .f32) (v110 : FVec Ideal S8x640 .f32) (v132 : FVec Ideal S1x640 .f32) (v136 v137 v139 : FVec Ideal S8x640 .f32)
    (h3 : Grp v3) (h4 : v4 = ((B.q : ℝ) : EReal)) (h30 : R1 v30 B.mean) (h63 : R1 v63 B.rstd) (h110 : R8 v110 fun r d => dhxr B r d * (B.rstd d * B.q)) (h132 : R1 v132 B.og)
    (h108 : R1 (k0_pay108 v3 v63 v136 v137 v139) B.c3) (h15 : ∀ (s : Fin 1024) (d : Fin 640), x15 (ix2 s d) = ((B.dh s d : ℝ) : EReal)) :
    (∀ (s : Fin 1024) (d : Fin 640), d.val < 128 → (run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139 x1 x2 x3 x4 x5 x6 x7 x8 x9 x10 x11 x12 x13 x14 x15).1 (ix3 0 s d) = ((B.dx s d : ℝ) : EReal)) ∧ R11 B ((run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139 x1 x2 x3 x4 x5 x6 x7 x8 x9 x10 x11 x12 x13 x14 x15).2.1.1) ((run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139 x1 x2 x3 x4 x5 x6 x7 x8 x9 x10 x11 x12 x13 x14 x15).2.1.2.1) ((run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139 x1 x2 x3 x4 x5 x6 x7 x8 x9 x10 x11 x12 x13 x14 x15).2.1.2.2.1) ((run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139 x1 x2 x3 x4 x5 x6 x7 x8 x9 x10 x11 x12 x13 x14 x15).2.1.2.2.2.1) ((run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139 x1 x2 x3 x4 x5 x6 x7 x8 x9 x10 x11 x12 x13 x14 x15).2.1.2.2.2.2.1) ((run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139 x1 x2 x3 x4 x5 x6 x7 x8 x9 x10 x11 x12 x13 x14 x15).2.1.2.2.2.2.2.1) ((run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139 x1 x2 x3 x4 x5 x6 x7 x8 x9 x10 x11 x12 x13 x14 x15).2.1.2.2.2.2.2.2.1) ((run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139 x1 x2 x3 x4 x5 x6 x7 x8 x9 x10 x11 x12 x13 x14 x15).2.1.2.2.2.2.2.2.2.1) ((run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v4 v30 v63 v110 v132 v136 v137 v139 x1 x2 x3 x4 x5 x6 x7 x8 x9 x10 x11 x12 x13 x14 x15).2.1.2.2.2.2.2.2.2.2.1) := by
  have hp := mulf_at (mulf_at h63 h132) (bcast_at h4)
  have hq := c2_at h3 h63 h132 h110
  have d0 := dx0 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 x15 hI.h2 h15 v3 v4 v30 v63 v110 v132 v136 v137 v139 h30 hp hq h108
  unfold run11
  dsimp only
  refine ⟨fun s d hd => ?_, ⟨hp, hq, h108, d0.1, L1_1 h30, L1_1 hp, L1_1 hq, L1_1 h108, rfl⟩⟩
  exact read8 _ _ B.dx _ d0.2.1 s d (.inl (d0.2.2 (ix3 0 s d) s.isLt (by show _ ≤ d.val; omega) (by show d.val < _; omega)))

include hI in
theorem tail_spec (v30 v167 v169 v170 : FVec Ideal S1x640 .f32) (v177 : FVec Ideal S16x128 .bf16) (v178 v179 v180 v181 : FVec Ideal S1x128 .f32) (v182 : FVec Ideal S16x128 .bf16)
    (h30 : R1 v30 B.mean) (h : R11 B v167 v169 v170 v177 v178 v179 v180 v181 v182)
    (h15 : ∀ (s : Fin 1024) (d : Fin 640), x15 (ix2 s d) = ((B.dh s d : ℝ) : EReal))
    (h8 : ∀ (s : Fin 1024) (d : Fin 640), d.val < 128 → x8 (ix3 0 s d) = ((B.dx s d : ℝ) : EReal)) :
    (∀ (s : Fin 1024) (d : Fin 640), (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170 v177 v178 v179 v180 v181 v182 x1 x2 x3 x4 x5 x6 x7 x8 x9 x10 x11 x12 x13 x14 x15).1 (ix3 0 s d) = ((B.dx s d : ℝ) : EReal))
      ∧ ∀ (r : Fin 16) (d : Fin 640), (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 v30 v167 v169 v170 v177 v178 v179 v180 v181 v182 x1 x2 x3 x4 x5 x6 x7 x8 x9 x10 x11 x12 x13 x14 x15).2.1 (ix2 r d) = max (x9 (ix2 r d)) ((mxn (fun s => B.dx s d) 16 r : ℝ) : EReal) := by
  obtain ⟨h167, h169, h170, h177, h178, h179, h180, h181, rfl⟩ := h
  have d1 := dx1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 x15 hI.h2 h15 v178 v179 v180 v181 h178 h179 h180 h181
  have d2 := dx2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 x15 hI.h2 h15 v30 v167 v169 v170 h30 h167 h169 h170
  have d3 := dx3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 x15 hI.h2 h15 v30 v167 v169 v170 h30 h167 h169 h170
  have d4 := dx4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 B x2 x15 hI.h2 h15 v30 v167 v169 v170 h30 h167 h169 h170
  unfold runTail
  dsimp only
  refine ⟨fun s d => ?_, fun r d => ?_⟩
  · refine read8 _ _ B.dx _ ?_ s d ?_
    · exact List.forall_mem_append.2 ⟨d4.2.1, List.forall_mem_append.2 ⟨d3.2.1, List.forall_mem_append.2 ⟨d2.2.1, d1.2.1⟩⟩⟩
    · have hs := s.isLt
      by_cases c0 : d.val < 128
      · right; rw [harg8.read_unread]; exact h8 s d c0
      left
      by_cases c1 : d.val < 256
      · obtain ⟨p, hp, hm⟩ := d1.2.2 (ix3 0 s d) hs (by show _ ≤ d.val; omega) (by show d.val < _; omega)
        exact ⟨p, List.mem_append_right _ (List.mem_append_right _ (List.mem_append_right _ hp)), hm⟩
      by_cases c2 : d.val < 384
      · obtain ⟨p, hp, hm⟩ := d2.2.2 (ix3 0 s d) hs (by show _ ≤ d.val; omega) (by show d.val < _; omega)
        exact ⟨p, List.mem_append_right _ (List.mem_append_right _ (List.mem_append_left _ hp)), hm⟩
      by_cases c3 : d.val < 512
      · obtain ⟨p, hp, hm⟩ := d3.2.2 (ix3 0 s d) hs (by show _ ≤ d.val; omega) (by show d.val < _; omega)
        exact ⟨p, List.mem_append_right _ (List.mem_append_left _ hp), hm⟩
      · obtain ⟨p, hp, hm⟩ := d4.2.2 (ix3 0 s d) hs (by show _ ≤ d.val; omega) (by show d.val < _; omega)
        exact ⟨p, List.mem_append_left _ hp, hm⟩
  · refine (congrFun (View.read_writes_full _ _ _ _ _) _).trans ?_
    have e : (View.readAt (Elt Ideal) arg9.view (Rect.unit (s := S16x640) ![0, 0] ![16, 640] inb_S16x640_S16x640_0_0).toLoadRect (harg9.unread x9)) (ix2 r d) = x9 (ix2 r d) := by
      rw [View.readAt_eq_ld, harg9.read_unread]; pointwise []
    rw [← e]
    exact pay16_at _ _ _ _ _ _ (fun r d => mxn (fun s => B.dx s d) 16 r) h177 d1.1 d2.1 d3.1 d4.1 r d

end

end Cert.KernelIdeal.Own
-- ==== Proof.Value.Inputs.lean ====
/-
   What the first call's windows hold at a grid point, in the argument arrays' elements.
-/
module

public import proofs.«01_k».proof.Proof.KernelIdeal.Frame
public import proofs.«01_k».proof.Proof.Value.Point
public import Idealize.ShloMosaic.Lib.Pipeline.ValueKit.Point
public import Idealize.ShloMosaic.Lib.Claim

@[expose] public section

set_option maxRecDepth 65536
set_option maxHeartbeats 1000000

noncomputable section

namespace Cert.KernelIdeal.Own

open Cert.KernelIdeal.Gen Cert.Value
open Idealize.ShloMosaic Idealize.ShloMosaic.TcCoe Idealize.ShloMosaic.Tactic

/-- The argument arrays of a core hold the batch elements' data. -/
structure Reads (m : (ℓ : Loc nD τ sig) → Buf (Elt Ideal) ℓ) (c : Dev nD) (M : ℕ → Pt) : Prop where
  x : ∀ (b : Fin 36) (s : Fin 1024) (d : Fin 640), m ((c : Thread nD τ).loc main_arg0) (ix3 b s d) = (((M b).X s d : ℝ) : EReal)
  y : ∀ (b : Fin 36) (s : Fin 1024) (d : Fin 640), clampY (m ((c : Thread nD τ).loc main_arg5) (ix3 b s d)) = (M b).Y s d
  γ : ∀ (b : Fin 36) (d : Fin 640), m ((c : Thread nD τ).loc main_arg1) (ix1 d) = (((M b).γ d : ℝ) : EReal)
  β : ∀ (b : Fin 36) (d : Fin 640), m ((c : Thread nD τ).loc main_arg2) (ix1 d) = (M b).β d
  es : ∀ (b : Fin 36) (d : Fin 640), m ((c : Thread nD τ).loc main_arg3) (ix2 b d) = (((M b).es d : ℝ) : EReal)
  esh : ∀ (b : Fin 36) (d : Fin 640), m ((c : Thread nD τ).loc main_arg4) (ix2 b d) = (M b).esh d
  q : ∀ b : Fin 36, m ((c : Thread nD τ).loc main_arg6) ix0 = (((M b).q : ℝ) : EReal)

variable (m : (ℓ : Loc nD τ sig) → Buf (Elt Ideal) ℓ) (c : Dev nD)

/-- A point's coordinate is its number. -/
theorem coord (t : Fin cfg0.N) : (grid0.coords t 0).val = t.val := by
  revert t; decide +kernel

/-! Where each window's block lies. -/

theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem index7 : ∀ t : Fin cfg0.N, win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0)
theorem index0 : ∀ t : Fin cfg0.N, win0_0.index t 0 = 0 :=
  (by decide +kernel : ∀ t : Fin grid0.N, win0_0.index t 0 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

/-- The point's batch element. -/
def bat (t : Fin cfg0.N) : Fin 36 := ⟨t.val, lt_of_lt_of_eq t.isLt N_0⟩

/-! The input windows' elements. -/

theorem blk0 (t : Fin cfg0.N) : iblk m c 0 t (ix1 (n0 := 1) 0) = m ((c : Thread nD τ).loc main_arg6) ix0 := by
  blk_ext! [iblk, index0 t]

theorem blk1 (t : Fin cfg0.N) (s : Fin 1024) (d : Fin 640) :
    iblk m c 1 t (ix3 (n0 := 1) 0 s d) = m ((c : Thread nD τ).loc main_arg0) (ix3 (bat t) s d) := by
  blk_ext! [iblk, V_main_arg0, index1 t, bat]

theorem blk2 (t : Fin cfg0.N) (s : Fin 1024) (d : Fin 640) :
    iblk m c 2 t (ix3 (n0 := 1) 0 s d) = m ((c : Thread nD τ).loc main_arg5) (ix3 (bat t) s d) := by
  blk_ext! [iblk, V_main_arg5, index2 t, bat]

theorem blk3 (t : Fin cfg0.N) (d : Fin 640) :
    iblk m c 3 t (ix2 (n0 := 1) 0 d) = m ((c : Thread nD τ).loc main_arg1) (ix1 d) := by
  blk_ext! [iblk, index3 t]

theorem blk4 (t : Fin cfg0.N) (d : Fin 640) :
    iblk m c 4 t (ix2 (n0 := 1) 0 d) = m ((c : Thread nD τ).loc main_arg2) (ix1 d) := by
  blk_ext! [iblk, index4 t]

theorem blk5 (t : Fin cfg0.N) (b : Fin 36) (d : Fin 640) :
    iblk m c 5 t (ix2 b d) = m ((c : Thread nD τ).loc main_arg3) (ix2 b d) := by
  blk_ext! [iblk, V_main_arg3, index5 t]

theorem blk6 (t : Fin cfg0.N) (b : Fin 36) (d : Fin 640) :
    iblk m c 6 t (ix2 b d) = m ((c : Thread nD τ).loc main_arg4) (ix2 b d) := by
  blk_ext! [iblk, V_main_arg4, index6 t]

variable {m c} in
/-- The windows at a point hold its batch element's data. -/
theorem in_of_reads {M : ℕ → Pt} (h : Reads m c M) (t : Fin cfg0.N) (g : Vec Ideal S640x640 .bf16) (hg : Grp g) :
    In (M t.val) (grid0.coords t) (iblk m c 0 t) (iblk m c 1 t) (iblk m c 2 t) (iblk m c 3 t) (iblk m c 4 t) (iblk m c 5 t) (iblk m c 6 t) g where
  h1 := (blk0 m c t).trans (h.q (bat t))
  h2 s d := (blk1 m c t s d).trans (h.x (bat t) s d)
  h3 s d := (congrArg clampY (blk2 m c t s d)).trans (h.y (bat t) s d)
  h4 d := (blk3 m c t d).trans (h.γ (bat t) d)
  h5 d := (blk4 m c t d).trans (h.β (bat t) d)
  h6 d := (blk5 m c t _ d).trans (by have e : (grid0.coords t 0 : Fin 36) = bat t := Fin.ext (coord t); rw [e]; exact h.es (bat t) d)
  h7 d := (blk6 m c t _ d).trans (by have e : (grid0.coords t 0 : Fin 36) = bat t := Fin.ext (coord t); rw [e]; exact h.esh (bat t) d)
  h14 := hg

/-- The accumulators' first contents. -/
theorem zero46 (d : Fin 640) : k0_pay46 (F := Ideal) (ix2 0 d) = 0 := by
  unfold k0_pay46; pointwise
theorem zero47 (d : Fin 640) : k0_pay47 (F := Ideal) (ix2 0 d) = 0 := by
  unfold k0_pay47; pointwise
theorem zero48 (r : Fin 16) (d : Fin 640) : k0_pay48 (F := Ideal) (ix2 r d) = 0 := by
  unfold k0_pay48; pointwise

end Cert.KernelIdeal.Own
-- ==== Proof.Value.Body.lean ====
/-
   One grid point of the first call, whole: from a batch element's operands the body leaves its results.
-/
module

public import proofs.«01_k».proof.Proof.KernelIdeal.Core
public import proofs.«01_k».proof.Proof.Value.Point

@[expose] public section

set_option maxRecDepth 65536
set_option maxHeartbeats 4000000

noncomputable section

namespace Cert.KernelIdeal.Own

open Cert.KernelIdeal.Gen Cert.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- What a grid point leaves in the results' windows, from what it finds there. -/
structure Out (B : Pt) (i : grid0.Coords) (x9 : Vec Ideal S16x640 .f32) (x10 x11 : Vec Ideal S1x640 .f32) (x12 x13 : Vec Ideal S36x640 .f32)
    (y8 : Vec Ideal S1x1024x640 .bf16) (y9 : Vec Ideal S16x640 .f32) (y10 y11 : Vec Ideal S1x640 .f32) (y12 y13 : Vec Ideal S36x640 .f32) : Prop where
  h8 : ∀ (s : Fin 1024) (d : Fin 640), y8 (ix3 0 s d) = ((B.dx s d : ℝ) : EReal)
  h9 : ∀ (r : Fin 16) (d : Fin 640), y9 (ix2 r d) = max (x9 (ix2 r d)) ((mxn (fun s => B.dx s d) 16 r : ℝ) : EReal)
  h10 : ∀ d : Fin 640, y10 (ix2 0 d) = x10 (ix2 0 d) + ((B.oes d * B.sdhx d : ℝ) : EReal)
  h11 : ∀ d : Fin 640, y11 (ix2 0 d) = x11 (ix2 0 d) + ((B.oes d * B.sdh d : ℝ) : EReal)
  h12 : ∀ (r : Fin 36) (d : Fin 640), y12 (ix2 r d) = if r.val = (i 0).val then B.des d else x12 (ix2 r d)
  h13 : ∀ (r : Fin 36) (d : Fin 640), y13 (ix2 r d) = if r.val = (i 0).val then ((B.sdh d : ℝ) : EReal) else x13 (ix2 r d)

variable (c : Dev nD) (i : grid0.Coords) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
variable (x1 : Vec Ideal S1 .f32) (x2 : Vec Ideal S1x1024x640 .bf16) (x3 : Vec Ideal S1x1024x640 .fp8e5m2) (x4 : Vec Ideal S1x640 .f32) (x5 : Vec Ideal S1x640 .f32) (x6 : Vec Ideal S36x640 .f32) (x7 : Vec Ideal S36x640 .f32) (x8 : Vec Ideal S1x1024x640 .bf16) (x9 : Vec Ideal S16x640 .f32) (x10 : Vec Ideal S1x640 .f32) (x11 : Vec Ideal S1x640 .f32) (x12 : Vec Ideal S36x640 .f32) (x13 : Vec Ideal S36x640 .f32) (x14 : Vec Ideal S640x640 .bf16) (x15 : Vec Ideal S1024x640 .f32)

variable (B : Pt) (hI : In B i x1 x2 x3 x4 x5 x6 x7 x14)

include hI in
/-- The mean's stretch. -/
theorem step7 (r7 : Σ' (arg0 : BitVec 32) (v3 : Vec Ideal S640x640 .bf16) (v4 : Elt Ideal .f32) (v5 : FVec Ideal S8x128 .f32), FVec Ideal S1x640 .f32) (h7 : (runMean c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15).1 = r7) : Grp r7.2.1 ∧ r7.2.2.1 = ((B.q : ℝ) : EReal) ∧ r7.2.2.2.1 = k0_pay49 ∧ R1 (k0_pay56 r7.2.2.2.2) B.mean := by
  subst h7; exact mean_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 B hI

include hI in
/-- The variance's stretch. -/
theorem step8 (r7 : Σ' (arg0 : BitVec 32) (v3 : Vec Ideal S640x640 .bf16) (v4 : Elt Ideal .f32) (v5 : FVec Ideal S8x128 .f32), FVec Ideal S1x640 .f32) (r8 : Σ' (v30 : FVec Ideal S1x640 .f32), FVec Ideal S1x640 .f32) (s7 : Grp r7.2.1 ∧ r7.2.2.1 = ((B.q : ℝ) : EReal) ∧ r7.2.2.2.1 = k0_pay49 ∧ R1 (k0_pay56 r7.2.2.2.2) B.mean)
    (h8 : (run8 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.2.1) (r7.2.2.2.1) (r7.2.2.2.2) x1 x2 x3 x4 x5 x6 x7 x8 x9 x10 x11 x12 x13 x14 x15).1 = r8) : R1 r8.1 B.mean ∧ R1 r8.2 B.vare := by
  rw [s7.2.2.1] at h8; subst h8; exact run8_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 B hI _ _ s7.1 s7.2.2.2

include hI in
/-- The derivative's stretch, over the first four lane blocks. -/
theorem step9 (r7 : Σ' (arg0 : BitVec 32) (v3 : Vec Ideal S640x640 .bf16) (v4 : Elt Ideal .f32) (v5 : FVec Ideal S8x128 .f32), FVec Ideal S1x640 .f32) (r8 : Σ' (v30 : FVec Ideal S1x640 .f32), FVec Ideal S1x640 .f32) (y15 : Vec Ideal S1024x640 .f32) (r9 : Σ' (v63 : FVec Ideal S1x640 .f32) (v65 : FVec Ideal S1x640 .f32) (v67 : FVec Ideal S1x640 .f32) (v71 : FVec Ideal S1x640 .f32) (v77 : FVec Ideal S1x640 .f32) (v82_0 : FVec Ideal S8x128 .f32) (v82_1 : FVec Ideal S8x128 .f32) (v87_0 : FVec Ideal S8x128 .f32) (v87_1 : FVec Ideal S8x128 .f32) (v92_0 : FVec Ideal S8x128 .f32) (v92_1 : FVec Ideal S8x128 .f32) (v97_0 : FVec Ideal S8x128 .f32) (v97_1 : FVec Ideal S8x128 .f32) (v98 : FVec Ideal S1x128 .f32), FVec Ideal S1x128 .f32) (s5 : r7.2.2.2.1 = k0_pay49) (s8 : R1 r8.1 B.mean ∧ R1 r8.2 B.vare)
    (h9a : (run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.2.1) (r8.1) (r8.2) x1 x2 x3 x4 x5 x6 x7 x8 x9 x10 x11 x12 x13 x14 x15).1 = y15) (h9b : (run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.2.1) (r8.1) (r8.2) x1 x2 x3 x4 x5 x6 x7 x8 x9 x10 x11 x12 x13 x14 x15).2.1 = r9) : (∀ (s : Fin 1024) (d : Fin 640), d.val < 512 → y15 (ix2 s d) = ((B.dh s d : ℝ) : EReal)) ∧ R9 B (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) := by
  rw [s5] at h9a h9b; subst h9a; subst h9b; exact run9_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 B hI _ _ _ s8.1 s8.2

include hI in
/-- The derivative's last lane block, and the per-channel results. -/
theorem step10 (r7 : Σ' (arg0 : BitVec 32) (v3 : Vec Ideal S640x640 .bf16) (v4 : Elt Ideal .f32) (v5 : FVec Ideal S8x128 .f32), FVec Ideal S1x640 .f32) (y15 : Vec Ideal S1024x640 .f32) (r9 : Σ' (v63 : FVec Ideal S1x640 .f32) (v65 : FVec Ideal S1x640 .f32) (v67 : FVec Ideal S1x640 .f32) (v71 : FVec Ideal S1x640 .f32) (v77 : FVec Ideal S1x640 .f32) (v82_0 : FVec Ideal S8x128 .f32) (v82_1 : FVec Ideal S8x128 .f32) (v87_0 : FVec Ideal S8x128 .f32) (v87_1 : FVec Ideal S8x128 .f32) (v92_0 : FVec Ideal S8x128 .f32) (v92_1 : FVec Ideal S8x128 .f32) (v97_0 : FVec Ideal S8x128 .f32) (v97_1 : FVec Ideal S8x128 .f32) (v98 : FVec Ideal S1x128 .f32), FVec Ideal S1x128 .f32) (r10 : Σ' (v110 : FVec Ideal S8x640 .f32) (v132 : FVec Ideal S1x640 .f32) (v136 : FVec Ideal S8x640 .f32) (v137 : FVec Ideal S8x640 .f32), FVec Ideal S8x640 .f32) (y10 : Vec Ideal S1x640 .f32) (y11 : Vec Ideal S1x640 .f32) (y12 : Vec Ideal S36x640 .f32) (y13 : Vec Ideal S36x640 .f32) (z15 : Vec Ideal S1024x640 .f32) (s4 : r7.2.2.1 = ((B.q : ℝ) : EReal)) (s5 : r7.2.2.2.1 = k0_pay49)
    (s9 : (∀ (s : Fin 1024) (d : Fin 640), d.val < 512 → y15 (ix2 s d) = ((B.dh s d : ℝ) : EReal)) ∧ R9 B (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2))
    (h10a : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).1 = y10) (h10b : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.1 = y11) (h10c : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.1 = y12) (h10d : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.2.1 = y13) (h10e : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.2.2.1 = z15) (h10f : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.2.2.2.1 = r10) :
    (∀ d : Fin 640, y10 (ix2 0 d) = x10 (ix2 0 d) + ((B.oes d * B.sdhx d : ℝ) : EReal))
      ∧ (∀ d : Fin 640, y11 (ix2 0 d) = x11 (ix2 0 d) + ((B.oes d * B.sdh d : ℝ) : EReal))
      ∧ (∀ (r : Fin 36) (d : Fin 640), y12 (ix2 r d) = if r.val = (i 0).val then B.des d else x12 (ix2 r d))
      ∧ (∀ (r : Fin 36) (d : Fin 640), y13 (ix2 r d) = if r.val = (i 0).val then ((B.sdh d : ℝ) : EReal) else x13 (ix2 r d))
      ∧ (∀ (s : Fin 1024) (d : Fin 640), z15 (ix2 s d) = ((B.dh s d : ℝ) : EReal))
      ∧ R8 r10.1 (fun r d => dhxr B r d * (B.rstd d * B.q)) ∧ R1 r10.2.1 B.og
      ∧ ∀ v3, Grp v3 → R1 (k0_pay108 v3 r9.1 r10.2.2.1 r10.2.2.2.1 r10.2.2.2.2) B.c3 := by
  rw [s5] at h10a h10b h10c h10d h10e h10f
  subst h10a; subst h10b; subst h10c; subst h10d; subst h10e; subst h10f
  exact run10_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 y15 B hI _ _ _ _ _ _ _ _ _ _ _ _ _ _ _ _ _ s4 s9.2 s9.1

include hI in
/-- The input's derivative: the first lane block. -/
theorem step11 (r7 : Σ' (arg0 : BitVec 32) (v3 : Vec Ideal S640x640 .bf16) (v4 : Elt Ideal .f32) (v5 : FVec Ideal S8x128 .f32), FVec Ideal S1x640 .f32) (r8 : Σ' (v30 : FVec Ideal S1x640 .f32), FVec Ideal S1x640 .f32) (r9 : Σ' (v63 : FVec Ideal S1x640 .f32) (v65 : FVec Ideal S1x640 .f32) (v67 : FVec Ideal S1x640 .f32) (v71 : FVec Ideal S1x640 .f32) (v77 : FVec Ideal S1x640 .f32) (v82_0 : FVec Ideal S8x128 .f32) (v82_1 : FVec Ideal S8x128 .f32) (v87_0 : FVec Ideal S8x128 .f32) (v87_1 : FVec Ideal S8x128 .f32) (v92_0 : FVec Ideal S8x128 .f32) (v92_1 : FVec Ideal S8x128 .f32) (v97_0 : FVec Ideal S8x128 .f32) (v97_1 : FVec Ideal S8x128 .f32) (v98 : FVec Ideal S1x128 .f32), FVec Ideal S1x128 .f32) (r10 : Σ' (v110 : FVec Ideal S8x640 .f32) (v132 : FVec Ideal S1x640 .f32) (v136 : FVec Ideal S8x640 .f32) (v137 : FVec Ideal S8x640 .f32), FVec Ideal S8x640 .f32) (y10 : Vec Ideal S1x640 .f32) (y11 : Vec Ideal S1x640 .f32) (y12 : Vec Ideal S36x640 .f32) (y13 : Vec Ideal S36x640 .f32) (z15 : Vec Ideal S1024x640 .f32) (r11 : Σ' (v167 : FVec Ideal S1x640 .f32) (v169 : FVec Ideal S1x640 .f32) (v170 : FVec Ideal S1x640 .f32) (v177 : FVec Ideal S16x128 .bf16) (v178 : FVec Ideal S1x128 .f32) (v179 : FVec Ideal S1x128 .f32) (v180 : FVec Ideal S1x128 .f32) (v181 : FVec Ideal S1x128 .f32) (v182 : FVec Ideal S16x128 .bf16), BitVec 32) (y8 : Vec Ideal S1x1024x640 .bf16) (hG : Grp r7.2.1) (s4 : r7.2.2.1 = ((B.q : ℝ) : EReal)) (s8 : R1 r8.1 B.mean) (s63 : R1 r9.1 B.rstd)
    (g15 : ∀ (s : Fin 1024) (d : Fin 640), z15 (ix2 s d) = ((B.dh s d : ℝ) : EReal)) (g110 : R8 r10.1 (fun r d => dhxr B r d * (B.rstd d * B.q))) (g132 : R1 r10.2.1 B.og)
    (g108 : R1 (k0_pay108 r7.2.1 r9.1 r10.2.2.1 r10.2.2.2.1 r10.2.2.2.2) B.c3)
    (h11a : (run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.2.1) (r7.2.2.1) (r8.1) (r9.1) (r10.1) (r10.2.1) (r10.2.2.1) (r10.2.2.2.1) (r10.2.2.2.2) x1 x2 x3 x4 x5 x6 x7 x8 x9 y10 y11 y12 y13 x14 z15).1 = y8) (h11b : (run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.2.1) (r7.2.2.1) (r8.1) (r9.1) (r10.1) (r10.2.1) (r10.2.2.1) (r10.2.2.2.1) (r10.2.2.2.2) x1 x2 x3 x4 x5 x6 x7 x8 x9 y10 y11 y12 y13 x14 z15).2.1 = r11) : (∀ (s : Fin 1024) (d : Fin 640), d.val < 128 → y8 (ix3 0 s d) = ((B.dx s d : ℝ) : EReal)) ∧ R11 B (r11.1) (r11.2.1) (r11.2.2.1) (r11.2.2.2.1) (r11.2.2.2.2.1) (r11.2.2.2.2.2.1) (r11.2.2.2.2.2.2.1) (r11.2.2.2.2.2.2.2.1) (r11.2.2.2.2.2.2.2.2.1) := by
  subst h11a; subst h11b
  exact run11_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 y10 y11 y12 y13 x14 z15 B hI _ _ _ _ _ _ _ _ _ hG s4 s8 s63 g110 g132 g108 g15

include hI in
/-- The input's derivative: the other lane blocks, and the running maximum. -/
theorem stepT (r8 : Σ' (v30 : FVec Ideal S1x640 .f32), FVec Ideal S1x640 .f32) (y10 : Vec Ideal S1x640 .f32) (y11 : Vec Ideal S1x640 .f32) (y12 : Vec Ideal S36x640 .f32) (y13 : Vec Ideal S36x640 .f32) (z15 : Vec Ideal S1024x640 .f32) (r11 : Σ' (v167 : FVec Ideal S1x640 .f32) (v169 : FVec Ideal S1x640 .f32) (v170 : FVec Ideal S1x640 .f32) (v177 : FVec Ideal S16x128 .bf16) (v178 : FVec Ideal S1x128 .f32) (v179 : FVec Ideal S1x128 .f32) (v180 : FVec Ideal S1x128 .f32) (v181 : FVec Ideal S1x128 .f32) (v182 : FVec Ideal S16x128 .bf16), BitVec 32) (y8 : Vec Ideal S1x1024x640 .bf16) (z8 : Vec Ideal S1x1024x640 .bf16) (y9 : Vec Ideal S16x640 .f32) (s8 : R1 r8.1 B.mean)
    (s11 : (∀ (s : Fin 1024) (d : Fin 640), d.val < 128 → y8 (ix3 0 s d) = ((B.dx s d : ℝ) : EReal)) ∧ R11 B (r11.1) (r11.2.1) (r11.2.2.1) (r11.2.2.2.1) (r11.2.2.2.2.1) (r11.2.2.2.2.2.1) (r11.2.2.2.2.2.2.1) (r11.2.2.2.2.2.2.2.1) (r11.2.2.2.2.2.2.2.2.1))
    (g15 : ∀ (s : Fin 1024) (d : Fin 640), z15 (ix2 s d) = ((B.dh s d : ℝ) : EReal))
    (hta : (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 (r8.1) (r11.1) (r11.2.1) (r11.2.2.1) (r11.2.2.2.1) (r11.2.2.2.2.1) (r11.2.2.2.2.2.1) (r11.2.2.2.2.2.2.1) (r11.2.2.2.2.2.2.2.1) (r11.2.2.2.2.2.2.2.2.1) x1 x2 x3 x4 x5 x6 x7 y8 x9 y10 y11 y12 y13 x14 z15).1 = z8) (htb : (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 (r8.1) (r11.1) (r11.2.1) (r11.2.2.1) (r11.2.2.2.1) (r11.2.2.2.2.1) (r11.2.2.2.2.2.1) (r11.2.2.2.2.2.2.1) (r11.2.2.2.2.2.2.2.1) (r11.2.2.2.2.2.2.2.2.1) x1 x2 x3 x4 x5 x6 x7 y8 x9 y10 y11 y12 y13 x14 z15).2.1 = y9) : (∀ (s : Fin 1024) (d : Fin 640), z8 (ix3 0 s d) = ((B.dx s d : ℝ) : EReal))
      ∧ ∀ (r : Fin 16) (d : Fin 640), y9 (ix2 r d) = max (x9 (ix2 r d)) ((mxn (fun s => B.dx s d) 16 r : ℝ) : EReal) := by
  subst hta; subst htb
  exact tail_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 y8 x9 y10 y11 y12 y13 x14 z15 B hI _ _ _ _ _ _ _ _ _ _ s8 s11.2 g15 s11.1

include hI in
/-- The stretches together. -/
theorem core_out (r7 : Σ' (arg0 : BitVec 32) (v3 : Vec Ideal S640x640 .bf16) (v4 : Elt Ideal .f32) (v5 : FVec Ideal S8x128 .f32), FVec Ideal S1x640 .f32) (r8 : Σ' (v30 : FVec Ideal S1x640 .f32), FVec Ideal S1x640 .f32)
    (r9 : Σ' (v63 : FVec Ideal S1x640 .f32) (v65 : FVec Ideal S1x640 .f32) (v67 : FVec Ideal S1x640 .f32) (v71 : FVec Ideal S1x640 .f32) (v77 : FVec Ideal S1x640 .f32) (v82_0 : FVec Ideal S8x128 .f32) (v82_1 : FVec Ideal S8x128 .f32) (v87_0 : FVec Ideal S8x128 .f32) (v87_1 : FVec Ideal S8x128 .f32) (v92_0 : FVec Ideal S8x128 .f32) (v92_1 : FVec Ideal S8x128 .f32) (v97_0 : FVec Ideal S8x128 .f32) (v97_1 : FVec Ideal S8x128 .f32) (v98 : FVec Ideal S1x128 .f32), FVec Ideal S1x128 .f32) (y15 : Vec Ideal S1024x640 .f32)
    (r10 : Σ' (v110 : FVec Ideal S8x640 .f32) (v132 : FVec Ideal S1x640 .f32) (v136 : FVec Ideal S8x640 .f32) (v137 : FVec Ideal S8x640 .f32), FVec Ideal S8x640 .f32) (y10 y11 : Vec Ideal S1x640 .f32) (y12 y13 : Vec Ideal S36x640 .f32) (z15 : Vec Ideal S1024x640 .f32)
    (r11 : Σ' (v167 : FVec Ideal S1x640 .f32) (v169 : FVec Ideal S1x640 .f32) (v170 : FVec Ideal S1x640 .f32) (v177 : FVec Ideal S16x128 .bf16) (v178 : FVec Ideal S1x128 .f32) (v179 : FVec Ideal S1x128 .f32) (v180 : FVec Ideal S1x128 .f32) (v181 : FVec Ideal S1x128 .f32) (v182 : FVec Ideal S16x128 .bf16), BitVec 32) (y8 : Vec Ideal S1x1024x640 .bf16) (z8 : Vec Ideal S1x1024x640 .bf16) (y9 : Vec Ideal S16x640 .f32)
    (h7 : (runMean c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15).1 = r7)
    (h8 : (run8 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.2.1) (r7.2.2.2.1) (r7.2.2.2.2) x1 x2 x3 x4 x5 x6 x7 x8 x9 x10 x11 x12 x13 x14 x15).1 = r8)
    (h9a : (run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.2.1) (r8.1) (r8.2) x1 x2 x3 x4 x5 x6 x7 x8 x9 x10 x11 x12 x13 x14 x15).1 = y15)
    (h9b : (run9 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.2.1) (r8.1) (r8.2) x1 x2 x3 x4 x5 x6 x7 x8 x9 x10 x11 x12 x13 x14 x15).2.1 = r9)
    (h10a : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).1 = y10)
    (h10b : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.1 = y11)
    (h10c : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.1 = y12)
    (h10d : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.2.1 = y13)
    (h10e : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.2.2.1 = z15)
    (h10f : (run10 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.1) (r7.2.2.1) (r7.2.2.2.1) (r9.1) (r9.2.1) (r9.2.2.1) (r9.2.2.2.1) (r9.2.2.2.2.1) (r9.2.2.2.2.2.1) (r9.2.2.2.2.2.2.1) (r9.2.2.2.2.2.2.2.1) (r9.2.2.2.2.2.2.2.2.1) (r9.2.2.2.2.2.2.2.2.2.1) (r9.2.2.2.2.2.2.2.2.2.2.1) (r9.2.2.2.2.2.2.2.2.2.2.2.1) (r9.2.2.2.2.2.2.2.2.2.2.2.2.1) (r9.2.2.2.2.2.2.2.2.2.2.2.2.2.1) (r9.2.2.2.2.2.2.2.2.2.2.2.2.2.2) x1 x2 x3 x4 x5 x6 x7 x8 x9 x10 x11 x12 x13 x14 y15).2.2.2.2.2.1 = r10)
    (h11a : (run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.2.1) (r7.2.2.1) (r8.1) (r9.1) (r10.1) (r10.2.1) (r10.2.2.1) (r10.2.2.2.1) (r10.2.2.2.2) x1 x2 x3 x4 x5 x6 x7 x8 x9 y10 y11 y12 y13 x14 z15).1 = y8)
    (h11b : (run11 c i arg1 harg1 arg2 harg2 arg3 harg3 arg4 harg4 arg5 harg5 arg6 harg6 arg7 harg7 arg8 harg8 arg9 harg9 arg10 harg10 arg11 harg11 arg12 harg12 arg13 harg13 arg14 harg14 arg15 harg15 (r7.2.1) (r7.2.2.1) (r8.1) (r9.1) (r10.1) (r10.2.1) (r10.2.2.1) (r10.2.2.2.1) (r10.2.2.2.2) x1 x2 x3 x4 x5 x6 x7 x8 x9 y10 y11 y12 y13 x14 z15).2.1 = r11)
    (hta : (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 (r8.1) (r11.1) (r11.2.1) (r11.2.2.1) (r11.2.2.2.1) (r11.2.2.2.2.1) (r11.2.2.2.2.2.1) (r11.2.2.2.2.2.2.1) (r11.2.2.2.2.2.2.2.1) (r11.2.2.2.2.2.2.2.2.1) x1 x2 x3 x4 x5 x6 x7 y8 x9 y10 y11 y12 y13 x14 z15).1 = z8)
    (htb : (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 (r8.1) (r11.1) (r11.2.1) (r11.2.2.1) (r11.2.2.2.1) (r11.2.2.2.2.1) (r11.2.2.2.2.2.1) (r11.2.2.2.2.2.2.1) (r11.2.2.2.2.2.2.2.1) (r11.2.2.2.2.2.2.2.2.1) x1 x2 x3 x4 x5 x6 x7 y8 x9 y10 y11 y12 y13 x14 z15).2.1 = y9) : Out B i x9 x10 x11 x12 x13 z8 y9 y10 y11 y12 y13 := by
  have s7 := step7 c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 B hI r7 h7
  have s8 := step8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 B hI r7 r8 s7 h8
  have s9 := step9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 B hI r7 r8 y15 r9 s7.2.2.1 s8 h9a h9b
  have s10 := step10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 B hI r7 y15 r9 r10 y10 y11 y12 y13 z15 s7.2.1 s7.2.2.1 s9 h10a h10b h10c h10d h10e h10f
  have s11 := step11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x14 B hI r7 r8 r9 r10 y10 y11 y12 y13 z15 r11 y8 s7.1 s7.2.1 s8.1 s9.2.h63 s10.2.2.2.2.1 s10.2.2.2.2.2.1 s10.2.2.2.2.2.2.1 (s10.2.2.2.2.2.2.2 _ s7.1) h11a h11b
  have sT := stepT c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x9 x14 B hI r8 y10 y11 y12 y13 z15 r11 y8 z8 y9 s8.1 s11 s10.2.2.2.2.1 hta htb
  exact ⟨sT.1, sT.2, s10.1, s10.2.1, s10.2.2.1, s10.2.2.2.1⟩

include hI in
/-- The body past its first-point part. -/
theorem core_val :
    ∃ y8 y9 y10 y11 y12 y13 y15, Out B i x9 x10 x11 x12 x13 y8 y9 y10 y11 y12 y13 ∧ ∀ (E : Set ℕ) (K : PUnit → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 y8 y9 y10 y11 y12 y13 x14 y15 -∗ K ⟨⟩))
        ⊢ wp frame (wpE (defs₀ (F := Ideal)) Variants.none c none) E (coreSkel i arg1 harg1 arg2 harg2 arg3 harg3 arg4 harg4 arg5 harg5 arg6 harg6 arg7 harg7 arg8 harg8 arg9 harg9 arg10 harg10 arg11 harg11 arg12 harg12 arg13 harg13 arg14 harg14 arg15 harg15) K :=
  ⟨_, _, _, _, _, _, _, core_out c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 B hI _ _ _ _ _ _ _ _ _ _ _ _ _ _ rfl rfl rfl rfl rfl rfl rfl rfl rfl rfl rfl rfl rfl rfl, fun E K => core_run c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 _ _ _ _ _ _ _ _ _ _ _ _ _ _ rfl rfl rfl rfl rfl rfl rfl rfl rfl rfl rfl rfl rfl rfl E K⟩

/-- The body at the first point. -/
theorem body_first (hc : cond0_0 i) (hJ : ∀ g, Grp g → In B i x1 x2 x3 x4 x5 x6 x7 g) :
    ∃ y8 y9 y10 y11 y12 y13 y14 y15, Grp y14 ∧ Out B i (k0_pay48 (F := Ideal)) (k0_pay46 (F := Ideal)) (k0_pay47 (F := Ideal)) x12 x13 y8 y9 y10 y11 y12 y13 ∧ ∀ (E : Set ℕ) (K : PUnit → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 y8 y9 y10 y11 y12 y13 y14 y15 -∗ K ⟨⟩))
        ⊢ wp frame (wpE (defs₀ (F := Ideal)) Variants.none c none) E (cc0__dx_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have e9 : (runInit c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay17 k0_pay18 k0_pay19 x1 x2 x3 x4 x5 x6 x7 x8 x9 x10 x11 x12 x13 x14 x15).1 = k0_pay48 (F := Ideal) := by
    unfold runInit; dsimp only; exact View.read_writes_full _ _ _ _ _
  have e10 : (runInit c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay17 k0_pay18 k0_pay19 x1 x2 x3 x4 x5 x6 x7 x8 x9 x10 x11 x12 x13 x14 x15).2.1 = k0_pay46 (F := Ideal) := by
    unfold runInit; dsimp only; exact View.read_writes_full _ _ _ _ _
  have e11 : (runInit c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay17 k0_pay18 k0_pay19 x1 x2 x3 x4 x5 x6 x7 x8 x9 x10 x11 x12 x13 x14 x15).2.2.1 = k0_pay47 (F := Ideal) := by
    unfold runInit; dsimp only; exact View.read_writes_full _ _ _ _ _
  have e14 : (runInit c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay17 k0_pay18 k0_pay19 x1 x2 x3 x4 x5 x6 x7 x8 x9 x10 x11 x12 x13 x14 x15).2.2.2.1 = k0_pay45 (F := Ideal) k0_pay17 k0_pay18 k0_pay19 := by
    unfold runInit; dsimp only; exact View.read_writes_full _ _ _ _ _
  have hG : Grp (runInit c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay17 k0_pay18 k0_pay19 x1 x2 x3 x4 x5 x6 x7 x8 x9 x10 x11 x12 x13 x14 x15).2.2.2.1 := e14 ▸ pay45_at
  rw [body_pos i arg1 harg1 arg2 harg2 arg3 harg3 arg4 harg4 arg5 harg5 arg6 harg6 arg7 harg7 arg8 harg8 arg9 harg9 arg10 harg10 arg11 harg11 arg12 harg12 arg13 harg13 arg14 harg14 arg15 harg15 hc]
  obtain ⟨y8, y9, y10, y11, y12, y13, y15, hO, hrun⟩ := core_val c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 _ _ _ x12 x13 _ x15 B (hJ _ hG)
  exact ⟨y8, y9, y10, y11, y12, y13, _, y15, hG, e9 ▸ e10 ▸ e11 ▸ hO, fun E K =>
    comp (fun E K => (runInit c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay17 k0_pay18 k0_pay19 x1 x2 x3 x4 x5 x6 x7 x8 x9 x10 x11 x12 x13 x14 x15).2.2.2.2.2 E K) (hrun E K)⟩

include hI in
/-- The body at a later point. -/
theorem body_next (hc : ¬cond0_0 i) :
    ∃ y8 y9 y10 y11 y12 y13 y15, Out B i x9 x10 x11 x12 x13 y8 y9 y10 y11 y12 y13 ∧ ∀ (E : Set ℕ) (K : PUnit → sProp 𝕄),
      iprop(held c arg1 arg2 arg3 arg4 arg5 arg6 arg7 arg8 arg9 arg10 arg11 arg12 arg13 arg14 arg15 x1 x2 x3 x4 x5 x6 x7 x8 x9 x10 x11 x12 x13 x14 x15 ∗ (held c arg1 arg2 arg3 arg4 arg5 arg6 arg7 arg8 arg9 arg10 arg11 arg12 arg13 arg14 arg15 x1 x2 x3 x4 x5 x6 x7 y8 y9 y10 y11 y12 y13 x14 y15 -∗ K ⟨⟩))
        ⊢ wp frame (wpE (defs₀ (F := Ideal)) Variants.none c none) E (cc0__dx_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  rw [body_neg i arg1 harg1 arg2 harg2 arg3 harg3 arg4 harg4 arg5 harg5 arg6 harg6 arg7 harg7 arg8 harg8 arg9 harg9 arg10 harg10 arg11 harg11 arg12 harg12 arg13 harg13 arg14 harg14 arg15 harg15 hc]
  exact core_val c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 B hI

end Cert.KernelIdeal.Own
-- ==== Proof.Value.Run.lean ====
/-
   The first call's run over the reals: point after point, the results' windows hold the batch elements' results so far.
-/
module

public import proofs.«01_k».proof.Proof.Value.Inputs
public import proofs.«01_k».proof.Proof.Value.Body
public import Idealize.ShloMosaic.Lib.Pipeline.DatRel
public import Idealize.ShloMosaic.Lib.Pipeline.ArrRel

@[expose] public section

set_option maxRecDepth 65536
set_option maxHeartbeats 4000000

noncomputable section

namespace Cert.KernelIdeal.Own

open Cert.KernelIdeal.Gen Cert.Value Finset
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)

local notation "𝕄" => MT nD τ sig Unit (Elt Ideal) ℕ (UR sig nD τ) ℕ

variable (M : ℕ → Pt)

/-- The largest magnitude so far, of the rows that leave `r` on division by 16. -/
def mxk (r d : ℕ) : ℕ → ℝ
  | 0 => 0
  | n + 1 => max (mxk r d n) (mxn (fun s => (M n).dx s d) 16 r)

/-! What each result's window holds after `n` batch elements. -/

def A8 (n : ℕ) (y : Vec Ideal S1x1024x640 .bf16) : Prop := ∀ (s : Fin 1024) (d : Fin 640), y (ix3 0 s d) = (((M n).dx s d : ℝ) : EReal)
def A9 (n : ℕ) (y : Vec Ideal S16x640 .f32) : Prop := ∀ (r : Fin 16) (d : Fin 640), y (ix2 r d) = ((mxk M r d n : ℝ) : EReal)
def A10 (n : ℕ) (y : Vec Ideal S1x640 .f32) : Prop :=
  ∀ d : Fin 640, y (ix2 0 d) = ((∑ b ∈ range n, (M b).oes d * (M b).sdhx d : ℝ) : EReal)
def A11 (n : ℕ) (y : Vec Ideal S1x640 .f32) : Prop :=
  ∀ d : Fin 640, y (ix2 0 d) = ((∑ b ∈ range n, (M b).oes d * (M b).sdh d : ℝ) : EReal)
def A12 (n : ℕ) (y : Vec Ideal S36x640 .f32) : Prop :=
  ∀ (r : Fin 36) (d : Fin 640), r.val < n → y (ix2 r d) = (M r).des d
def A13 (n : ℕ) (y : Vec Ideal S36x640 .f32) : Prop :=
  ∀ (r : Fin 36) (d : Fin 640), r.val < n → y (ix2 r d) = (((M r).sdh d : ℝ) : EReal)

variable {M}

theorem A9_zero : A9 M 0 (k0_pay48 (F := Ideal)) := fun r d => zero48 r d
theorem A10_zero : A10 M 0 (k0_pay46 (F := Ideal)) := fun d => (zero46 d).trans (by simp)
theorem A11_zero : A11 M 0 (k0_pay47 (F := Ideal)) := fun d => (zero47 d).trans (by simp)

/-- One more batch element. -/
theorem acc_succ {i : grid0.Coords} {n : ℕ} (hi : (i 0).val = n) {x9 x10 x11 x12 x13 y8 y9 y10 y11 y12 y13}
    (hO : Out (M n) i x9 x10 x11 x12 x13 y8 y9 y10 y11 y12 y13) (h9 : A9 M n x9) (h10 : A10 M n x10) (h11 : A11 M n x11)
    (h12 : A12 M n x12) (h13 : A13 M n x13) :
    A8 M n y8 ∧ A9 M (n + 1) y9 ∧ A10 M (n + 1) y10 ∧ A11 M (n + 1) y11 ∧ A12 M (n + 1) y12 ∧ A13 M (n + 1) y13 := by
  refine ⟨hO.h8, fun r d => ?_, fun d => ?_, fun d => ?_, fun r d hr => ?_, fun r d hr => ?_⟩
  · rw [hO.h9, h9 r d, ← coe_max']; rfl
  · rw [hO.h10, h10 d, ← EReal.coe_add, sum_range_succ]
  · rw [hO.h11, h11 d, ← EReal.coe_add, sum_range_succ]
  · rw [hO.h12, hi]
    split_ifs with h
    · rw [h]
    · exact h12 r d (by omega)
  · rw [hO.h13, hi]
    split_ifs with h
    · rw [h]
    · exact h13 r d (by omega)

variable (m : (ℓ : Loc nD τ sig) → Buf (Elt Ideal) ℓ) (ρ : Dev nD → PrngReg)

/-- The body at any point, from the results' windows at the batch elements before it. -/
theorem body_point (c : Dev nD) (t : Fin cfg0.N) (hR : Reads m c M) (arg1 : Memref sig .tc .smem S1 .f32) (harg1 : arg1.IsWhole) (arg2 : Memref sig .tc .vmem S1x1024x640 .bf16) (harg2 : arg2.IsWhole) (arg3 : Memref sig .tc .vmem S1x1024x640 .fp8e5m2) (harg3 : arg3.IsWhole) (arg4 : Memref sig .tc .vmem S1x640 .f32) (harg4 : arg4.IsWhole) (arg5 : Memref sig .tc .vmem S1x640 .f32) (harg5 : arg5.IsWhole) (arg6 : Memref sig .tc .vmem S36x640 .f32) (harg6 : arg6.IsWhole) (arg7 : Memref sig .tc .vmem S36x640 .f32) (harg7 : arg7.IsWhole) (arg8 : Memref sig .tc .vmem S1x1024x640 .bf16) (harg8 : arg8.IsWhole) (arg9 : Memref sig .tc .vmem S16x640 .f32) (harg9 : arg9.IsWhole) (arg10 : Memref sig .tc .vmem S1x640 .f32) (harg10 : arg10.IsWhole) (arg11 : Memref sig .tc .vmem S1x640 .f32) (harg11 : arg11.IsWhole) (arg12 : Memref sig .tc .vmem S36x640 .f32) (harg12 : arg12.IsWhole) (arg13 : Memref sig .tc .vmem S36x640 .f32) (harg13 : arg13.IsWhole) (arg14 : Memref sig .tc .vmem S640x640 .bf16) (harg14 : arg14.IsWhole) (arg15 : Memref sig .tc .vmem S1024x640 .f32) (harg15 : arg15.IsWhole)
    (x8 : Vec Ideal S1x1024x640 .bf16) (x9 : Vec Ideal S16x640 .f32) (x10 x11 : Vec Ideal S1x640 .f32) (x12 x13 : Vec Ideal S36x640 .f32) (x14 : Vec Ideal S640x640 .bf16) (x15 : Vec Ideal S1024x640 .f32)
    (h9 : t.val ≠ 0 → A9 M t.val x9) (h10 : t.val ≠ 0 → A10 M t.val x10) (h11 : t.val ≠ 0 → A11 M t.val x11)
    (h12 : t.val ≠ 0 → A12 M t.val x12) (h13 : t.val ≠ 0 → A13 M t.val x13) (h14 : t.val ≠ 0 → Grp x14) :
    ∃ y8 y9 y10 y11 y12 y13 y14 y15, Grp y14
      ∧ (A8 M t.val y8 ∧ A9 M (t.val + 1) y9 ∧ A10 M (t.val + 1) y10 ∧ A11 M (t.val + 1) y11 ∧ A12 M (t.val + 1) y12 ∧ A13 M (t.val + 1) y13)
      ∧ ∀ (E : Set ℕ) (K : PUnit → sProp 𝕄),
        iprop(held c arg1 arg2 arg3 arg4 arg5 arg6 arg7 arg8 arg9 arg10 arg11 arg12 arg13 arg14 arg15 (iblk m c 0 t) (iblk m c 1 t) (iblk m c 2 t) (iblk m c 3 t) (iblk m c 4 t) (iblk m c 5 t) (iblk m c 6 t) x8 x9 x10 x11 x12 x13 x14 x15
          ∗ (held c arg1 arg2 arg3 arg4 arg5 arg6 arg7 arg8 arg9 arg10 arg11 arg12 arg13 arg14 arg15 (iblk m c 0 t) (iblk m c 1 t) (iblk m c 2 t) (iblk m c 3 t) (iblk m c 4 t) (iblk m c 5 t) (iblk m c 6 t) y8 y9 y10 y11 y12 y13 y14 y15 -∗ K ⟨⟩))
          ⊢ wp Idealize.ShloMosaic.frame (wpE (defs₀ (F := Ideal)) Variants.none c none) E (cc0__dx_body (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have hN : t.val < 36 := lt_of_lt_of_eq t.isLt N_0
  by_cases ht : t.val = 0
  · have hc : cond0_0 (grid0.coords t) := (hcond0_0 t).2 (by omega)
    obtain ⟨y8, y9, y10, y11, y12, y13, y14, y15, hG, hO, hrun⟩ := body_first c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15
      (iblk m c 0 t) (iblk m c 1 t) (iblk m c 2 t) (iblk m c 3 t) (iblk m c 4 t) (iblk m c 5 t) (iblk m c 6 t) x8 x9 x10 x11 x12 x13 x14 x15 (M t.val) hc fun g hg => in_of_reads hR t g hg
    refine ⟨y8, y9, y10, y11, y12, y13, y14, y15, hG, acc_succ (coord t) hO ?_ ?_ ?_ ?_ ?_, hrun⟩
    · rw [ht]; exact A9_zero
    · rw [ht]; exact A10_zero
    · rw [ht]; exact A11_zero
    · rw [ht]; exact fun r d h => absurd h (Nat.not_lt_zero _)
    · rw [ht]; exact fun r d h => absurd h (Nat.not_lt_zero _)
  · have hc : ¬cond0_0 (grid0.coords t) := fun h => ht (by have := (hcond0_0 t).1 h; omega)
    obtain ⟨y8, y9, y10, y11, y12, y13, y15, hO, hrun⟩ := body_next c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15
      (iblk m c 0 t) (iblk m c 1 t) (iblk m c 2 t) (iblk m c 3 t) (iblk m c 4 t) (iblk m c 5 t) (iblk m c 6 t) x8 x9 x10 x11 x12 x13 x14 x15 (M t.val) (in_of_reads hR t x14 (h14 ht)) hc
    exact ⟨y8, y9, y10, y11, y12, y13, x14, y15, h14 ht,
      acc_succ (coord t) hO (h9 ht) (h10 ht) (h11 ht) (h12 ht) (h13 ht), hrun⟩

/-- What the body holds besides its windows before point `t`: the group matrix once it is built, the other scratch buffer
    at some contents, the generator register. -/
def ΦV (c : Dev nD) (t : Fin (cfg0.N + 1)) : sProp 𝕄 :=
  iprop(iprop((∃ d, ⌜t.val ≠ 0 → Grp d⌝ ∗ owns (c : Thread nD τ) (Memref.whole cc0_scratch0) fullShare d)
    ∗ (∃ d, owns (c : Thread nD τ) (Memref.whole cc0_scratch1) fullShare d)) ∗ (∃ r, prngReg c r))

/-- The pipeline's proof data. -/
def datv (c : Dev nD) : Dat τ (Elt Ideal) Unit ℕ (UR sig nD τ) ℕ cfg0 c := { dats m 0 c with Φ := ΦV c }

/-- What each result's window is held to after point `t`. -/
def Rl (M : ℕ → Pt) (w : Fin cfg0.W) (t : Fin cfg0.N) (X : (cfg0.win w).block.Idx → Elt Ideal (cfg0.win w).elt) : Prop :=
  match w, X with
  | ⟨7, _⟩, X => A8 M t.val X
  | ⟨8, _⟩, X => A9 M (t.val + 1) X
  | ⟨9, _⟩, X => A10 M (t.val + 1) X
  | ⟨10, _⟩, X => A11 M (t.val + 1) X
  | ⟨11, _⟩, X => A12 M (t.val + 1) X
  | ⟨12, _⟩, X => A13 M (t.val + 1) X
  | _, _ => True

variable (M)

/-- What a window written back at the last point only holds when the body meets it after the first point. -/
theorem found (c : Dev nD) (w : Fin cfg0.W) (hw : (cfg0.win w).isOut = true) (hf : forgets0 w = true)
    (hfl : ∀ u : Fin cfg0.N, (cfg0.win w).flush u = true ↔ u.val % 36 = 35) (t : Fin cfg0.N) (ht : t.val ≠ 0) (X)
    (h : ((datv m c).toRRel forgets0 (Rl M)).Finds w t X) :
    Rl M w ⟨t.val - 1, Nat.lt_of_le_of_lt (Nat.sub_le _ _) t.isLt⟩ X := by
  have hN : t.val < 36 := lt_of_lt_of_eq t.isLt N_0
  rcases (Pipeline.RDat.finds_of_pos _ ((cfg0.win w).fetch_out hw t) ht X).1 h with h | h
  · have := (hfl _).1 h
    dsimp only at this
    omega
  · exact (datv m c).toRRel_leaves hf h

/-- What the body is called with at point `t`. -/
def preV (c : Dev nD) (t : Fin cfg0.N) : sProp 𝕄 :=
  iprop((datv m c).Φ t.castSucc ∗ (datv m c).owesAt () t.castSucc
    ∗ (∃ d, owns (c : Thread nD τ) (st0_0 t) fullShare ((datv m c).before 0 t d))
    ∗ (∃ d, owns (c : Thread nD τ) (st0_1 t) fullShare ((datv m c).before 1 t d))
    ∗ (∃ d, owns (c : Thread nD τ) (st0_2 t) fullShare ((datv m c).before 2 t d))
    ∗ (∃ d, owns (c : Thread nD τ) (st0_3 t) fullShare ((datv m c).before 3 t d))
    ∗ (∃ d, owns (c : Thread nD τ) (st0_4 t) fullShare ((datv m c).before 4 t d))
    ∗ (∃ d, owns (c : Thread nD τ) (st0_5 t) fullShare ((datv m c).before 5 t d))
    ∗ (∃ d, owns (c : Thread nD τ) (st0_6 t) fullShare ((datv m c).before 6 t d))
    ∗ (∃ Y, ⌜((datv m c).toRRel forgets0 (Rl M)).Finds 7 t Y⌝ ∗ owns (c : Thread nD τ) (st0_7 t) fullShare Y)
    ∗ (∃ Y, ⌜((datv m c).toRRel forgets0 (Rl M)).Finds 8 t Y⌝ ∗ owns (c : Thread nD τ) (st0_8 t) fullShare Y)
    ∗ (∃ Y, ⌜((datv m c).toRRel forgets0 (Rl M)).Finds 9 t Y⌝ ∗ owns (c : Thread nD τ) (st0_9 t) fullShare Y)
    ∗ (∃ Y, ⌜((datv m c).toRRel forgets0 (Rl M)).Finds 10 t Y⌝ ∗ owns (c : Thread nD τ) (st0_10 t) fullShare Y)
    ∗ (∃ Y, ⌜((datv m c).toRRel forgets0 (Rl M)).Finds 11 t Y⌝ ∗ owns (c : Thread nD τ) (st0_11 t) fullShare Y)
    ∗ (∃ Y, ⌜((datv m c).toRRel forgets0 (Rl M)).Finds 12 t Y⌝ ∗ owns (c : Thread nD τ) (st0_12 t) fullShare Y))

/-- What it returns. -/
def postV (c : Dev nD) (t : Fin cfg0.N) : sProp 𝕄 :=
  iprop((datv m c).Φ t.succ ∗ (datv m c).owesAt () t.succ
    ∗ owns (c : Thread nD τ) (st0_0 t) fullShare ((datv m c).after 0 t)
    ∗ owns (c : Thread nD τ) (st0_1 t) fullShare ((datv m c).after 1 t)
    ∗ owns (c : Thread nD τ) (st0_2 t) fullShare ((datv m c).after 2 t)
    ∗ owns (c : Thread nD τ) (st0_3 t) fullShare ((datv m c).after 3 t)
    ∗ owns (c : Thread nD τ) (st0_4 t) fullShare ((datv m c).after 4 t)
    ∗ owns (c : Thread nD τ) (st0_5 t) fullShare ((datv m c).after 5 t)
    ∗ owns (c : Thread nD τ) (st0_6 t) fullShare ((datv m c).after 6 t)
    ∗ (∃ X, ⌜Rl M 7 t X⌝ ∗ owns (c : Thread nD τ) (st0_7 t) fullShare X)
    ∗ (∃ X, ⌜Rl M 8 t X⌝ ∗ owns (c : Thread nD τ) (st0_8 t) fullShare X)
    ∗ (∃ X, ⌜Rl M 9 t X⌝ ∗ owns (c : Thread nD τ) (st0_9 t) fullShare X)
    ∗ (∃ X, ⌜Rl M 10 t X⌝ ∗ owns (c : Thread nD τ) (st0_10 t) fullShare X)
    ∗ (∃ X, ⌜Rl M 11 t X⌝ ∗ owns (c : Thread nD τ) (st0_11 t) fullShare X)
    ∗ (∃ X, ⌜Rl M 12 t X⌝ ∗ owns (c : Thread nD τ) (st0_12 t) fullShare X))

theorem beforeV_0 (c : Dev nD) (t : Fin cfg0.N) (d) : (datv m c).before 0 t d = iblk m c 0 t :=
  before0_0_of m (datv m c) rfl (fun _ => rfl) t d
theorem beforeV_1 (c : Dev nD) (t : Fin cfg0.N) (d) : (datv m c).before 1 t d = iblk m c 1 t :=
  before0_1_of m (datv m c) rfl (fun _ => rfl) t d
theorem beforeV_2 (c : Dev nD) (t : Fin cfg0.N) (d) : (datv m c).before 2 t d = iblk m c 2 t :=
  before0_2_of m (datv m c) rfl (fun _ => rfl) t d
theorem beforeV_3 (c : Dev nD) (t : Fin cfg0.N) (d) : (datv m c).before 3 t d = iblk m c 3 t :=
  before0_3_of m (datv m c) rfl (fun _ => rfl) t d
theorem beforeV_4 (c : Dev nD) (t : Fin cfg0.N) (d) : (datv m c).before 4 t d = iblk m c 4 t :=
  before0_4_of m (datv m c) rfl (fun _ => rfl) t d
theorem beforeV_5 (c : Dev nD) (t : Fin cfg0.N) (d) : (datv m c).before 5 t d = iblk m c 5 t :=
  before0_5_of m (datv m c) rfl (fun _ => rfl) t d
theorem beforeV_6 (c : Dev nD) (t : Fin cfg0.N) (d) : (datv m c).before 6 t d = iblk m c 6 t :=
  before0_6_of m (datv m c) rfl (fun _ => rfl) t d

/-- The body at any point: what it is called with gives the fifteen buffers, and the buffers it leaves give what it returns. -/
theorem soundV (c : Dev nD) (hR : Reads m c M) (t : Fin cfg0.N) :
    preV M m c t ⊢ wp Idealize.ShloMosaic.frame (wpE (defs₀ (F := Ideal)) Variants.none c none) Set.univ (bodyAt0 t) (fun _ => postV M m c t) := by
  unfold preV postV bodyAt0
  simp only [beforeV_0, beforeV_1, beforeV_2, beforeV_3, beforeV_4, beforeV_5, beforeV_6]
  rw [show (datv m c).owesAt () t.succ = (datv m c).owesAt () t.castSucc from rfl,
    show (datv m c).Φ t.castSucc = ΦV c t.castSucc from rfl, show (datv m c).Φ t.succ = ΦV c t.succ from rfl]
  unfold ΦV
  iintro ⟨⟨⟨⟨%e14, %h14, HS0⟩, ⟨%e15, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, %h7, H7⟩, ⟨%d8, %h8, H8⟩, ⟨%d9, %h9, H9⟩, ⟨%d10, %h10, H10⟩, ⟨%d11, %h11, H11⟩, ⟨%d12, %h12, H12⟩⟩
  have e : t.val ≠ 0 → t.val - 1 + 1 = t.val := fun h => by omega
  have g8 : t.val ≠ 0 → A9 M t.val d8 := fun ht => by
    have h := found M m c 8 rfl rfl flush0_8 t ht d8 h8; rw [← e ht]; exact h
  have g9 : t.val ≠ 0 → A10 M t.val d9 := fun ht => by
    have h := found M m c 9 rfl rfl flush0_9 t ht d9 h9; rw [← e ht]; exact h
  have g10 : t.val ≠ 0 → A11 M t.val d10 := fun ht => by
    have h := found M m c 10 rfl rfl flush0_10 t ht d10 h10; rw [← e ht]; exact h
  have g11 : t.val ≠ 0 → A12 M t.val d11 := fun ht => by
    have h := found M m c 11 rfl rfl flush0_11 t ht d11 h11; rw [← e ht]; exact h
  have g12 : t.val ≠ 0 → A13 M t.val d12 := fun ht => by
    have h := found M m c 12 rfl rfl flush0_12 t ht d12 h12; rw [← e ht]; exact h
  obtain ⟨y8, y9, y10, y11, y12, y13, y14, y15, hG, ⟨a8, a9, a10, a11, a12, a13⟩, hrun⟩ := body_point m c t hR
    (win0_0.stage ((cfg0.slots t) 0)) (hstage0_0 (((cfg0.slots t) 0).cast nbuf0_0)) (win0_1.stage ((cfg0.slots t) 1)) (hstage0_1 (((cfg0.slots t) 1).cast nbuf0_1)) (win0_2.stage ((cfg0.slots t) 2)) (hstage0_2 (((cfg0.slots t) 2).cast nbuf0_2)) (win0_3.stage ((cfg0.slots t) 3)) (hstage0_3 (((cfg0.slots t) 3).cast nbuf0_3)) (win0_4.stage ((cfg0.slots t) 4)) (hstage0_4 (((cfg0.slots t) 4).cast nbuf0_4)) (win0_5.stage ((cfg0.slots t) 5)) (hstage0_5 (((cfg0.slots t) 5).cast nbuf0_5)) (win0_6.stage ((cfg0.slots t) 6)) (hstage0_6 (((cfg0.slots t) 6).cast nbuf0_6)) (win0_7.stage ((cfg0.slots t) 7)) (hstage0_7 (((cfg0.slots t) 7).cast nbuf0_7)) (win0_8.stage ((cfg0.slots t) 8)) (hstage0_8 (((cfg0.slots t) 8).cast nbuf0_8)) (win0_9.stage ((cfg0.slots t) 9)) (hstage0_9 (((cfg0.slots t) 9).cast nbuf0_9)) (win0_10.stage ((cfg0.slots t) 10)) (hstage0_10 (((cfg0.slots t) 10).cast nbuf0_10)) (win0_11.stage ((cfg0.slots t) 11)) (hstage0_11 (((cfg0.slots t) 11).cast nbuf0_11)) (win0_12.stage ((cfg0.slots t) 12)) (hstage0_12 (((cfg0.slots t) 12).cast nbuf0_12)) (Memref.whole cc0_scratch0) (Memref.isWhole_whole _) (Memref.whole cc0_scratch1) (Memref.isWhole_whole _)
    d7 d8 d9 d10 d11 d12 e14 e15 g8 g9 g10 g11 g12 h14
  iapply (hrun Set.univ _)
  isplitl [H0 H1 H2 H3 H4 H5 H6 H7 H8 H9 H10 H11 H12 HS0 HS1]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    iexact HS1
  · unfold held
    iintro ⟨HA1, HA2, HA3, HA4, HA5, HA6, HA7, HA8, HA9, HA10, HA11, HA12, HA13, HA14, HA15⟩
    isplitl [HA14 HA15 Hg]
    · isplitl [HA14 HA15]
      · isplitl [HA14]
        · iexists y14
          isplitr
          · ipureintro; exact fun _ => hG
          · iexact HA14
        · iexists _; iexact HA15
      iexact Hg
    isplitl [Ho]; · iexact Ho
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]
    · iexists y8
      isplitr
      · ipureintro; exact a8
      · iexact HA8
    isplitl [HA9]
    · iexists y9
      isplitr
      · ipureintro; exact a9
      · iexact HA9
    isplitl [HA10]
    · iexists y10
      isplitr
      · ipureintro; exact a10
      · iexact HA10
    isplitl [HA11]
    · iexists y11
      isplitr
      · ipureintro; exact a11
      · iexact HA11
    isplitl [HA12]
    · iexists y12
      isplitr
      · ipureintro; exact a12
      · iexact HA12
    iexists y13
    isplitr
    · ipureintro; exact a13
    · iexact HA13

/-- The body obligation at every point. -/
theorem obligationV (c : Dev nD) (hR : Reads m c M) :
    BodyObligationRel (datv m c) (defs₀ (F := Ideal)) Variants.none () Set.univ forgets0 (Rl M) := fun t => by
  rw [bigSep_W0, bigSep_W0, defs₀_row]
  exact triple_restated (soundV M m c hR t) rfl .rfl fun _ => .rfl

set_option backward.isDefEq.respectTransparency.types false in
/-- The launch: the run ends with the arrays as the pipeline leaves them. -/
theorem run_value (hR : ∀ c, Reads m c M) : θ_run defs (onTc (τ := τ) (main (F := Ideal))) (s₀ m ρ)
    (Pipeline.RDat.FramePost (cfgs 0) (fun c => (datv m c).toRRel forgets0 (Rl M)) (V m)) :=
  Pipeline.RDat.θ_run_frame_track cfgs (0 : Fin 1) launch0 defs₀ Variants.none (fun c => (datv m c).toRRel forgets0 (Rl M)) m ρ main
    (hbody := fun c => (obligationV M m c (hR c)).toRRel) (hshare := fun c => (datv m c).share_full fun _ => rfl)
    (howed := fun _ _ => rfl) (V := V m) (hmain := hmain m Variants.none) (hA := fun _ _ => rfl)
    (hin := fun c => by
      rw [PhiA0_eq]
      show _ ⊢ ΦV c 0
      unfold ΦV
      iintro ⟨⟨⟨%e14, HS0⟩, HS1⟩, Hg⟩
      isplitl [HS0 HS1]
      · isplitl [HS0]
        · iexists e14
          isplitr
          · ipureintro; exact fun h => absurd rfl h
          · iexact HS0
        · iexact HS1
      · iexact Hg)
    (hout := fun c => by
      rw [PhiA0_eq]
      show ΦV c _ ⊢ _
      unfold ΦV
      iintro ⟨⟨⟨%e14, -, HS0⟩, HS1⟩, Hg⟩
      isplitl [HS0 HS1]
      · isplitl [HS0]
        · iexists e14; iexact HS0
        · iexact HS1
      · iexact Hg)

end Cert.KernelIdeal.Own
-- ==== Proof.Value.RefOps.lean ====
/-
   The reference's results, an element at a time, in the batch elements' data.
-/
module

public import proofs.«01_k».proof.Proof.Gen.ReferenceIdeal.Value
public import proofs.«01_k».proof.Proof.Value.Run

@[expose] public section

set_option maxRecDepth 65536
set_option maxHeartbeats 1000000

noncomputable section

namespace Cert.ReferenceIdeal.Own

open Cert.ReferenceIdeal Cert.ReferenceIdeal.Gen Cert.Value
open Idealize.ShloMosaic Idealize.ShloMosaic.TcCoe
open Cert.KernelIdeal.Own (max4 coe_max' one_sub_coe one_add_coe)
open Finset (range)

/-- A whole tensor, and one row a batch element, hold reals. -/
def R3 (v : FVec Ideal S36x1024x640 .f32) (W : ℕ → ℕ → ℕ → ℝ) : Prop :=
  ∀ (b : Fin 36) (s : Fin 1024) (d : Fin 640), v (ix3 b s d) = ((W b s d : ℝ) : EReal)
def R2 (v : FVec Ideal S36x640 .f32) (W : ℕ → ℕ → ℝ) : Prop := ∀ (b : Fin 36) (d : Fin 640), v (ix2 b d) = ((W b d : ℝ) : EReal)

/-- The sum over the rows. -/
def colR (w : FVec Ideal S36x1024x640 .f32) : FVec Ideal S36x640 .f32 :=
  multiReduction .add [1] S36x640 w 0x00000000#32 reduces_S36x1024x640_S36x640 (.inl rfl) rfl

/-- The mean over a group's channels and the rows, from the sums over the rows. -/
def gmean (w : FVec Ideal S36x640 .f32) : FVec Ideal S36x640 .f32 :=
  shapeCast S36x640 (broadcastTo S36x32x20 (shapeCast S36x32x1 (divf (multiReduction .add [2] S36x32
    (shapeCast S36x32x20 w shapeCasts_S36x640_S36x32x20) 0x00000000#32 reduces_S36x32x20_S36x32 (.inl rfl) rfl)
    (broadcast S36x32 (Scalar.ofBits .f32 0x46A00000#32))) shapeCasts_S36x32_S36x32x1) broadcasts_S36x32x1_S36x32x20) shapeCasts_S36x32x20_S36x640

theorem colR_at {w : FVec Ideal S36x1024x640 .f32} {W : ℕ → ℕ → ℕ → ℝ} (hw : R3 w W) : R2 (colR w) (fun b d => col fun s => W b s d) := by
  intro b d
  pointwise [colR]
  unfold col
  rw [coe_sum, Finset.sum_range]
  exact Finset.sum_congr rfl fun s _ => hw b s d

theorem gmean_at {w : FVec Ideal S36x640 .f32} {W : ℕ → ℕ → ℝ} (hw : R2 w W) : R2 (gmean w) (fun b d => gsum (W b) d / 20480) := by
  intro b d
  pointwise [gmean]
  have e : ∑ x : Fin 20, w (ix2 b ⟨d.val / 20 * 20 + x.val, by omega⟩) = ((gsum (W b) d : ℝ) : EReal) := by
    rw [gsum_eq _ _ d.isLt, coe_sum, Finset.sum_range]
    refine Finset.sum_congr rfl fun x _ => (hw b _).trans ?_
    show ((W b (d.val / 20 * 20 + x.val) : ℝ) : EReal) = _
    rw [Nat.mul_comm]
  rw [e, ofBits_20480, Ideal.div_coe (by norm_num), ← EReal.coe_mul, mul_one_div]

variable {M : ℕ → Pt} {x0 : Vec Ideal S36x1024x640 .bf16} {x5 : Vec Ideal S36x1024x640 .fp8e5m2} {x6 : Vec Ideal S1x1 .f32}

theorem pay1_at (hY : ∀ (b : Fin 36) (s : Fin 1024) (d : Fin 640), clampY (x5 (ix3 b s d)) = (M b).Y s d)
    (hq : ∀ b : Fin 36, x6 (ix2 0 0) = (((M b).q : ℝ) : EReal)) : R3 (k0_pay1 x5 x6) fun b s d => (M b).Y s d * (M b).q := by
  intro b s d
  pointwise [k0_pay1]
  simp only [clampY_eq, hY, hq b, ← EReal.coe_mul]

theorem pay4_at (hx : ∀ (b : Fin 36) (s : Fin 1024) (d : Fin 640), x0 (ix3 b s d) = (((M b).X s d : ℝ) : EReal)) :
    R3 (k0_pay4 x0) fun b s d => (M b).xc s d := by
  intro b s d
  have h := gmean_at (colR_at (w := extf .f32 x0 bitsLt_bf16_f32) (W := fun b s d => (M b).X s d) (by
    intro b s d; pointwise; exact hx b s d)) b d
  show subf (extf .f32 x0 bitsLt_bf16_f32) (broadcastTo S36x1024x640 (shapeCast S36x1x640 (gmean (colR (extf .f32 x0 bitsLt_bf16_f32)))
    shapeCasts_S36x640_S36x1x640) broadcasts_S36x1x640_S36x1024x640) (ix3 b s d) = _
  pointwise
  rw [h, hx, ← EReal.coe_sub]
  rfl

theorem pay5_at (hxc : R3 (k0_pay4 x0) fun b s d => (M b).xc s d) : R2 (k0_pay5 x0) fun b d => (M b).rstd d := by
  intro b d
  have h := gmean_at (colR_at (w := mulf (k0_pay4 x0) (k0_pay4 x0)) (W := fun b s d => (M b).xc s d * (M b).xc s d) (by
    intro b s d; pointwise; simp only [hxc b s d, ← EReal.coe_mul])) b d
  show rsqrt (addf (gmean (colR (mulf (k0_pay4 x0) (k0_pay4 x0)))) (broadcast S36x640 (Scalar.ofBits .f32 0x3727C5AC#32))) (ix2 b d) = _
  pointwise
  rw [h, ofBits_eps, ← EReal.coe_add]
  have hp : 0 < gsum (fun e => col fun s => (M b).xc s e * (M b).xc s e) d / 20480 + eps := (M b).vare_pos d
  rw [Ideal.rsqrt_coe, if_neg (not_lt.2 hp.le), if_neg hp.ne']
  rfl

variable {v11 v26 v47 v65 : FVec Ideal S36x1024x640 .f32} {v13 v15 : FVec Ideal S1x640 .f32} {v38 v40 v42 v44 v66 v68 : FVec Ideal S36x640 .f32}
  {v39 v43 : FVec Ideal S36x1x640 .f32}

theorem pay7_at (h : R2 v40 fun b d => (M b).es d) : R2 (k0_pay7 v40) fun b d => (M b).oes d := by
  intro b d
  pointwise [k0_pay7]
  simp only [h b d, one_add_coe]
  rfl

theorem pay9_at (h26 : R3 v26 fun b s d => (M b).xc s d) (h38 : R2 v38 fun b d => (M b).rstd d) :
    R3 (k0_pay9 v26 v38) fun b s d => (M b).xc s d * (M b).rstd d := by
  intro b s d
  pointwise [k0_pay9, k0_pay6]
  simp only [h26 b s d, h38 b d, ← EReal.coe_mul]

/-- What the reference's derivatives are computed from. -/
structure In (M : ℕ → Pt) (v11 v26 : FVec Ideal S36x1024x640 .f32) (v13 v15 : FVec Ideal S1x640 .f32) (v38 v40 v44 : FVec Ideal S36x640 .f32) : Prop where
  dy : R3 v11 fun b s d => (M b).Y s d * (M b).q
  γ : ∀ (b : Fin 36) (d : Fin 640), v13 (ix2 0 d) = (((M b).γ d : ℝ) : EReal)
  β : ∀ (b : Fin 36) (d : Fin 640), v15 (ix2 0 d) = (M b).β d
  xc : R3 v26 fun b s d => (M b).xc s d
  rstd : R2 v38 fun b d => (M b).rstd d
  es : R2 v40 fun b d => (M b).es d
  esh : ∀ (b : Fin 36) (d : Fin 640), v44 (ix2 b d) = (M b).esh d

section
variable (H : In M v11 v26 v13 v15 v38 v40 v44)
include H

theorem pay10_at : R3 (k0_pay10 v11 v13 v15 v26 v38 v40 v44) fun b s d => (M b).dh s d * (M b).q := by
  intro b s d
  pointwise [k0_pay10, k0_pay9, k0_pay6, k0_pay8, k0_pay7]
  simp only [H.dy b s d, H.γ b d, H.β b d, H.xc b s d, H.rstd b d, H.es b d, H.esh b d, ← EReal.coe_mul, one_add_coe]
  rw [show ((((M b).xc s d * (M b).rstd d * (M b).γ d : ℝ) : EReal) + (M b).β d) * ((1 + (M b).es d : ℝ) : EReal) + (M b).esh d = (M b).h s d from (M b).h_ref s d]
  exact (M b).dh_ref s d

theorem pay11_at : R2 (k0_pay11 v11 v13 v15 v26 v38 v40 v44) fun b d => (M b).sdh d := by
  intro b d
  show _ = (((M b).sdh d : ℝ) : EReal)
  rw [← (M b).sdh_ref d]
  exact colR_at (pay10_at H) b d

theorem pay12_at : R2 (k0_pay12 v11 v13 v15 v26 v38 v40 v44) fun b d => (M b).sdhx d := by
  intro b d
  show _ = (((M b).sdhx d : ℝ) : EReal)
  rw [← (M b).sdhx_ref d]
  refine colR_at (w := mulf (k0_pay10 v11 v13 v15 v26 v38 v40 v44) (k0_pay9 v26 v38)) (W := fun b s d => (M b).dh s d * (M b).q * ((M b).xc s d * (M b).rstd d)) ?_ b d
  intro b s d
  pointwise
  rw [pay10_at H b s d, pay9_at H.xc H.rstd b s d, ← EReal.coe_mul]

theorem pay13_at (d : Fin 640) : k0_pay13 v11 v13 v15 v26 v38 v40 v44 (ix2 0 d) = ((∑ b ∈ range 36, (M b).oes d * (M b).sdhx d : ℝ) : EReal) := by
  pointwise [k0_pay13]
  rw [coe_sum, Finset.sum_range]
  refine Finset.sum_congr rfl fun b _ => ?_
  rw [pay7_at H.es b d, pay12_at H b d, ← EReal.coe_mul]

theorem pay14_at (d : Fin 640) : k0_pay14 v11 v13 v15 v26 v38 v40 v44 (ix2 0 d) = ((∑ b ∈ range 36, (M b).oes d * (M b).sdh d : ℝ) : EReal) := by
  pointwise [k0_pay14]
  rw [coe_sum, Finset.sum_range]
  refine Finset.sum_congr rfl fun b _ => ?_
  rw [pay7_at H.es b d, pay11_at H b d, ← EReal.coe_mul]

theorem pay15_at (b : Fin 36) (d : Fin 640) : k0_pay15 v11 v13 v15 v26 v38 v40 v44 (ix2 b d) = (M b).des d := by
  pointwise [k0_pay15]
  rw [pay12_at H b d, pay11_at H b d, H.γ b d, H.β b d, ← EReal.coe_mul]
  rfl

theorem pay16_at : R3 (k0_pay16 v13 (k0_pay6 v38) (k0_pay7 v40) (k0_pay8 v40) (k0_pay9 v26 v38) (k0_pay10 v11 v13 v15 v26 v38 v40 v44)
      (k0_pay11 v11 v13 v15 v26 v38 v40 v44) (k0_pay12 v11 v13 v15 v26 v38 v40 v44)) fun b s d => (M b).dx s d := by
  intro b s d
  have hs : ∀ (p : FVec Ideal S36x640 .f32) (P : ℕ → ℕ → ℝ), R2 p P →
      R2 (gmean (mulf (mulf (k0_pay7 v40) (broadcastTo S36x640 v13 broadcasts_S1x640_S36x640)) p)) fun b d => gsum (fun e => (M b).oes e * (M b).γ e * P b e) d / 20480 := by
    intro p P hp
    refine gmean_at fun b d => ?_
    pointwise
    rw [pay7_at H.es b d, H.γ b d, hp b d, ← EReal.coe_mul, ← EReal.coe_mul]
  have h1 := hs _ _ (pay11_at H) b d
  have h2 := hs _ _ (pay12_at H) b d
  simp only [Pt.gm_ref, Pt.gxm_ref] at h1 h2
  have e9 := pay9_at H.xc H.rstd b s d
  have e10 := pay10_at H b s d
  have e7 := pay7_at H.es b d
  have e38 := H.rstd b d
  have eg := H.γ b d
  simp only [] at e9 e10 e7 e38
  show _ = (((M b).dx s d : ℝ) : EReal)
  rw [← (M b).dx_ref s d]
  generalize k0_pay10 v11 v13 v15 v26 v38 v40 v44 = p10 at *
  generalize k0_pay11 v11 v13 v15 v26 v38 v40 v44 = p11 at *
  generalize k0_pay12 v11 v13 v15 v26 v38 v40 v44 = p12 at *
  generalize k0_pay9 v26 v38 = p9 at *
  unfold k0_pay8
  generalize k0_pay7 (F := Ideal) v40 = p7 at *
  show mulf (broadcastTo S36x1024x640 (k0_pay6 v38) broadcasts_S36x1x640_S36x1024x640) (subf (subf (mulf (mulf p10
      (broadcastTo S36x1024x640 (shapeCast S36x1x640 p7 shapeCasts_S36x640_S36x1x640) broadcasts_S36x1x640_S36x1024x640))
      (broadcastTo S36x1024x640 (shapeCast S1x1x640 v13 shapeCasts_S1x640_S1x1x640) broadcasts_S1x1x640_S36x1024x640))
      (broadcastTo S36x1024x640 (shapeCast S36x1x640 (gmean (mulf (mulf p7 (broadcastTo S36x640 v13 broadcasts_S1x640_S36x640)) p11))
        shapeCasts_S36x640_S36x1x640) broadcasts_S36x1x640_S36x1024x640))
      (mulf p9 (broadcastTo S36x1024x640 (shapeCast S36x1x640 (gmean (mulf (mulf p7 (broadcastTo S36x640 v13 broadcasts_S1x640_S36x640)) p12))
        shapeCasts_S36x640_S36x1x640) broadcasts_S36x1x640_S36x1024x640))) (ix3 b s d) = _
  pointwise [k0_pay6]
  rw [h1, h2, e9, e10, e7, e38, eg]
  simp only [← EReal.coe_sub, ← EReal.coe_mul]

end

/-- The largest magnitude in the rows congruent to `r`, from a running maximum over blocks of rows, and over batch elements. -/
theorem le_mxn (F : ℕ → ℝ) (n r k : ℕ) (hk : k < 4 * n) : |F (k * 16 + r)| ≤ Cert.KernelIdeal.Own.mxn F n r := by
  induction n with
  | zero => omega
  | succ n ih =>
    rw [Cert.KernelIdeal.Own.mxn_succ]
    by_cases h : k < 4 * n
    · exact le_max_of_le_left (ih h)
    · refine le_max_of_le_right ?_
      unfold max4
      obtain rfl | rfl | rfl | rfl : k = 4 * n ∨ k = 4 * n + 1 ∨ k = 4 * n + 2 ∨ k = 4 * n + 3 := by omega
      · exact le_max_of_le_left (le_max_of_le_left (le_max_of_le_left (le_of_eq (by congr 2; omega))))
      · exact le_max_of_le_left (le_max_of_le_left (le_max_of_le_right (le_of_eq (by congr 2; omega))))
      · exact le_max_of_le_left (le_max_of_le_right (le_of_eq (by congr 2; omega)))
      · exact le_max_of_le_right (le_of_eq (by congr 2; omega))

theorem mxn_le (F : ℕ → ℝ) (n r : ℕ) (c : ℝ) (h0 : 0 ≤ c) (hc : ∀ k < 4 * n, |F (k * 16 + r)| ≤ c) : Cert.KernelIdeal.Own.mxn F n r ≤ c := by
  induction n with
  | zero => exact h0
  | succ n ih =>
    rw [Cert.KernelIdeal.Own.mxn_succ]
    refine max_le (ih fun k hk => hc k (by omega)) ?_
    unfold max4
    refine max_le (max_le (max_le ?_ ?_) ?_) ?_
    · refine le_of_eq_of_le ?_ (hc (4 * n) (by omega))
      show |F _| = |F _|
      congr 2; omega
    · refine le_of_eq_of_le ?_ (hc (4 * n + 1) (by omega))
      show |F _| = |F _|
      congr 2; omega
    · refine le_of_eq_of_le ?_ (hc (4 * n + 2) (by omega))
      show |F _| = |F _|
      congr 2; omega
    · refine le_of_eq_of_le ?_ (hc (4 * n + 3) (by omega))
      show |F _| = |F _|
      congr 2; omega

theorem le_mxk (M : ℕ → Pt) (r d n b k : ℕ) (hb : b < n) (hk : k < 64) : |(M b).dx (k * 16 + r) d| ≤ Cert.KernelIdeal.Own.mxk M r d n := by
  induction n with
  | zero => omega
  | succ n ih =>
    show _ ≤ max (Cert.KernelIdeal.Own.mxk M r d n) (Cert.KernelIdeal.Own.mxn (fun s => (M n).dx s d) 16 r)
    by_cases h : b < n
    · exact le_max_of_le_left (ih h)
    · obtain rfl : b = n := by omega
      exact le_max_of_le_right (le_mxn (fun s => (M b).dx s d) 16 r k (by omega))

theorem mxk_le (M : ℕ → Pt) (r d n : ℕ) (c : ℝ) (h0 : 0 ≤ c) (hc : ∀ b < n, ∀ k < 64, |(M b).dx (k * 16 + r) d| ≤ c) : Cert.KernelIdeal.Own.mxk M r d n ≤ c := by
  induction n with
  | zero => exact h0
  | succ n ih => exact max_le (ih fun b hb => hc b (by omega)) (mxn_le _ 16 r c h0 fun k hk => hc n (by omega) k (by omega))

theorem abs_coe (x : ℝ) : FloatOps.absf (F := Ideal) (φ := .f32) (x : EReal) = ((|x| : ℝ) : EReal) := by
  show max (x : EReal) (-(x : EReal)) = _
  rw [← EReal.coe_neg, ← coe_max']; rfl

theorem ofBits_ninf : Ideal.ofBits .f32 4286578688#32 = ⊥ := by
  simp [Ideal.ofBits, Ideal.ieee]

theorem mx_at (v : FVec Ideal S36x1024x640 .f32) (hv : R3 v fun b s d => (M b).dx s d) (r : Fin 16) (d : Fin 640) :
    multiReduction .maximumf [0] S16x640 (shapeCast S2304x16x640 (absf v) shapeCasts_S36x1024x640_S2304x16x640) 0xFF800000#32 reduces_S2304x16x640_S16x640 (.inl rfl) rfl (ix2 r d)
      = ((Cert.KernelIdeal.Own.mxk M r d 36 : ℝ) : EReal) := by
  pointwise
  simp only [hv _ _ d, abs_coe, ofBits_ninf]
  have hle : ∀ x : Fin 2304, |(M (x.val / 64)).dx (x.val % 64 * 16 + r.val) d| ≤ Cert.KernelIdeal.Own.mxk M r d 36 := fun x =>
    le_mxk M r d 36 _ _ (by omega) (Nat.mod_lt _ (by norm_num))
  have hex : ∃ x : Fin 2304, Cert.KernelIdeal.Own.mxk M r d 36 ≤ |(M (x.val / 64)).dx (x.val % 64 * 16 + r.val) d| := by
    obtain ⟨x, -, hx⟩ := Finset.exists_max_image (Finset.univ : Finset (Fin 2304)) (fun x => |(M (x.val / 64)).dx (x.val % 64 * 16 + r.val) d|) ⟨0, Finset.mem_univ _⟩
    refine ⟨x, mxk_le M r d 36 _ (abs_nonneg _) fun b hb k hk => ?_⟩
    have h := hx ⟨b * 64 + k, by omega⟩ (Finset.mem_univ _)
    simp only [] at h
    rw [show (b * 64 + k) / 64 = b by omega, show (b * 64 + k) % 64 = k by omega] at h
    exact h
  refine le_antisymm ?_ ?_
  · rw [Finset.fold_max_le]
    exact ⟨bot_le, fun x _ => EReal.coe_le_coe_iff.mpr (hle x)⟩
  · rw [Finset.le_fold_max]
    obtain ⟨x, hx⟩ := hex
    exact Or.inr ⟨x, Finset.mem_univ _, EReal.coe_le_coe_iff.mpr hx⟩

end Cert.ReferenceIdeal.Own
-- ==== Proof.Value.Ref.lean ====
/-
   What the reference's run leaves in its results, in the batch elements' data.
-/
module

public import proofs.«01_k».proof.Proof.Value.RefOps

@[expose] public section

set_option maxRecDepth 65536
set_option maxHeartbeats 1000000

noncomputable section

namespace Cert.Value

open Idealize.ShloMosaic Idealize.ShloMosaic.TcCoe
open Cert.KernelIdeal (S36x1024x640 S16x640 S1x640 S36x640)
open Finset (range)

/-! The six results, in the batch elements' data. -/

def G0 (M : ℕ → Pt) : S36x1024x640.Idx → EReal := fun i => (((M (i 0).val).dx (i 1).val (i 2).val : ℝ) : EReal)
def G1 (M : ℕ → Pt) : S16x640.Idx → EReal := fun i => ((Cert.KernelIdeal.Own.mxk M (i 0).val (i 1).val 36 : ℝ) : EReal)
def G2 (M : ℕ → Pt) : S1x640.Idx → EReal := fun i => ((∑ b ∈ range 36, (M b).oes (i 1).val * (M b).sdhx (i 1).val : ℝ) : EReal)
def G3 (M : ℕ → Pt) : S1x640.Idx → EReal := fun i => ((∑ b ∈ range 36, (M b).oes (i 1).val * (M b).sdh (i 1).val : ℝ) : EReal)
def G4 (M : ℕ → Pt) : S36x640.Idx → EReal := fun i => (M (i 0).val).des (i 1).val
def G5 (M : ℕ → Pt) : S36x640.Idx → EReal := fun i => (((M (i 0).val).sdh (i 1).val : ℝ) : EReal)

end Cert.Value

namespace Cert.ReferenceIdeal.Own

open Cert.ReferenceIdeal Cert.ReferenceIdeal.Gen Cert.Value
open Idealize.ShloMosaic Idealize.ShloMosaic.TcCoe Idealize.ShloMosaic.Tactic Idealize.SL.Sem
open Idealize.ShloMosaic.Pipeline (Dat)
open Finset (range)

/-- The reference's argument arrays hold the batch elements' data. -/
structure Reads (m : (ℓ : Loc nD τ sig) → Buf (Elt Ideal) ℓ) (c : Dev nD) (M : ℕ → Pt) : Prop where
  x : ∀ (b : Fin 36) (s : Fin 1024) (d : Fin 640), m ((c : Thread nD τ).loc main_arg0) (ix3 b s d) = (((M b).X s d : ℝ) : EReal)
  y : ∀ (b : Fin 36) (s : Fin 1024) (d : Fin 640), clampY (m ((c : Thread nD τ).loc main_arg5) (ix3 b s d)) = (M b).Y s d
  γ : ∀ (b : Fin 36) (d : Fin 640), m ((c : Thread nD τ).loc main_arg1) (ix1 d) = (((M b).γ d : ℝ) : EReal)
  β : ∀ (b : Fin 36) (d : Fin 640), m ((c : Thread nD τ).loc main_arg2) (ix1 d) = (M b).β d
  es : ∀ (b : Fin 36) (d : Fin 640), m ((c : Thread nD τ).loc main_arg3) (ix2 b d) = (((M b).es d : ℝ) : EReal)
  esh : ∀ (b : Fin 36) (d : Fin 640), m ((c : Thread nD τ).loc main_arg4) (ix2 b d) = (M b).esh d
  q : ∀ b : Fin 36, m ((c : Thread nD τ).loc main_arg6) ix0 = (((M b).q : ℝ) : EReal)

variable (m : (ℓ : Loc nD τ sig) → Buf (Elt Ideal) ℓ) (c : Dev nD)

theorem index0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)
theorem index5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

theorem blk0 (t : Fin cfg0.N) (b : Fin 36) (s : Fin 1024) (d : Fin 640) :
    iblk m c 0 t (ix3 b s d) = m ((c : Thread nD τ).loc main_arg0) (ix3 b s d) := by
  blk_ext! [iblk, V_main_arg0, index0 t]
theorem blk5 (t : Fin cfg0.N) (b : Fin 36) (s : Fin 1024) (d : Fin 640) :
    iblk m c 5 t (ix3 b s d) = m ((c : Thread nD τ).loc main_arg5) (ix3 b s d) := by
  blk_ext! [iblk, V_main_arg5, index5 t]
theorem blk1 (t : Fin cfg0.N) (d : Fin 640) : iblk m c 1 t (ix2 (n0 := 1) 0 d) = m ((c : Thread nD τ).loc main_arg1) (ix1 d) := by
  blk_ext! [iblk, index1 t]
theorem blk2 (t : Fin cfg0.N) (d : Fin 640) : iblk m c 2 t (ix2 (n0 := 1) 0 d) = m ((c : Thread nD τ).loc main_arg2) (ix1 d) := by
  blk_ext! [iblk, index2 t]
theorem blk3 (t : Fin cfg0.N) (b : Fin 36) (d : Fin 640) : iblk m c 3 t (ix2 b d) = m ((c : Thread nD τ).loc main_arg3) (ix2 b d) := by
  blk_ext! [iblk, V_main_arg3, index3 t]
theorem blk4 (t : Fin cfg0.N) (b : Fin 36) (d : Fin 640) : iblk m c 4 t (ix2 b d) = m ((c : Thread nD τ).loc main_arg4) (ix2 b d) := by
  blk_ext! [iblk, V_main_arg4, index4 t]
theorem blk6 (t : Fin cfg0.N) : iblk m c 6 t (ix2 (n0 := 1) (n1 := 1) 0 0) = m ((c : Thread nD τ).loc main_arg6) ix0 := by
  blk_ext! [iblk, index6 t]

theorem ld_0 (v : Vec Ideal S36x1024x640 .bf16) : View.ld v r0_0 = v := View.ld_unit_lit _ _ (by decide)
theorem ld_5 (v : Vec Ideal S36x1024x640 .fp8e5m2) : View.ld v r0_0 = v := View.ld_unit_lit _ _ (by decide)
theorem ld_1 (v : Vec Ideal S1x640 .f32) : View.ld v r0_2 = v := View.ld_unit_lit _ _ (by decide)
theorem ld_3 (v : Vec Ideal S36x640 .f32) : View.ld v r0_3 = v := View.ld_unit_lit _ _ (by decide)
theorem ld_6 (v : Vec Ideal S1x1 .f32) : View.ld v r0_1 = v := View.ld_unit_lit _ _ (by decide)

/-- What the reference's derivatives are computed from, from the windows' contents. -/
structure Blk (M : ℕ → Pt) (x0 : Vec Ideal S36x1024x640 .bf16) (x1 x2 : Vec Ideal S1x640 .f32) (x3 x4 : Vec Ideal S36x640 .f32)
    (x5 : Vec Ideal S36x1024x640 .fp8e5m2) (x6 : Vec Ideal S1x1 .f32) : Prop where
  h0 : ∀ (b : Fin 36) (s : Fin 1024) (d : Fin 640), x0 (ix3 b s d) = (((M b).X s d : ℝ) : EReal)
  h1 : ∀ (b : Fin 36) (d : Fin 640), x1 (ix2 0 d) = (((M b).γ d : ℝ) : EReal)
  h2 : ∀ (b : Fin 36) (d : Fin 640), x2 (ix2 0 d) = (M b).β d
  h3 : R2 x3 fun b d => (M b).es d
  h4 : ∀ (b : Fin 36) (d : Fin 640), x4 (ix2 b d) = (M b).esh d
  h5 : ∀ (b : Fin 36) (s : Fin 1024) (d : Fin 640), clampY (x5 (ix3 b s d)) = (M b).Y s d
  h6 : ∀ b : Fin 36, x6 (ix2 0 0) = (((M b).q : ℝ) : EReal)

section
variable {M : ℕ → Pt} {x0 : Vec Ideal S36x1024x640 .bf16} {x1 x2 : Vec Ideal S1x640 .f32} {x3 x4 : Vec Ideal S36x640 .f32}
  {x5 : Vec Ideal S36x1024x640 .fp8e5m2} {x6 : Vec Ideal S1x1 .f32} (H : Blk M x0 x1 x2 x3 x4 x5 x6)
include H

theorem in_of_blk : In M (k0_pay1 x5 x6) (k0_pay4 x0) (k0_pay2 x1) (k0_pay3 x2) (k0_pay5 x0) x3 x4 where
  dy := pay1_at H.h5 H.h6
  γ b d := by unfold k0_pay2; pointwise; exact H.h1 b d
  β b d := by unfold k0_pay3; pointwise; exact H.h2 b d
  xc := pay4_at H.h0
  rstd := pay5_at (pay4_at H.h0)
  es := H.h3
  esh := H.h4

theorem out7_at : out0_7 x0 x1 x2 x3 x4 x5 x6 = G0 M := by
  unfold out0_7 k0_pay20 k0_pay24 k0_pay25 k0_pay26 k0_pay27 k0_pay28 k0_pay29 k0_pay30 k0_pay19 k0_pay20 k0_pay21 k0_pay22 k0_pay23
  rw [View.canon_cons_unit_lit _ _ _ (by decide)]
  simp only [ld_0, ld_1, ld_3, ld_5, ld_6]
  funext i
  obtain ⟨b, s, d, rfl⟩ : ∃ (b : Fin 36) (s : Fin 1024) (d : Fin 640), i = ix3 b s d := ⟨i 0, i 1, i 2, by funext a; match a with | 0 => rfl | 1 => rfl | 2 => rfl⟩
  exact pay16_at (in_of_blk H) b s d

theorem out8_at : out0_8 x0 x1 x2 x3 x4 x5 x6 = G1 M := by
  unfold out0_8 k0_pay20 k0_pay24 k0_pay25 k0_pay26 k0_pay27 k0_pay28 k0_pay29 k0_pay30 k0_pay19 k0_pay20 k0_pay21 k0_pay22 k0_pay23
  rw [View.canon_cons_unit_lit _ _ _ (by decide)]
  simp only [ld_0, ld_1, ld_3, ld_5, ld_6]
  funext i
  obtain ⟨r, d, rfl⟩ : ∃ (r : Fin 16) (d : Fin 640), i = ix2 r d := ⟨i 0, i 1, by funext a; match a with | 0 => rfl | 1 => rfl⟩
  exact mx_at _ (pay16_at (in_of_blk H)) r d

theorem out9_at : out0_9 x0 x1 x2 x3 x4 x5 x6 = G2 M := by
  unfold out0_9 k0_pay19 k0_pay20 k0_pay21 k0_pay22 k0_pay23
  rw [View.canon_cons_unit_lit _ _ _ (by decide)]
  simp only [ld_0, ld_1, ld_3, ld_5, ld_6]
  funext i
  obtain ⟨d, rfl⟩ : ∃ (d : Fin 640), i = ix2 0 d := ⟨i 1, by funext a; match a with | 0 => exact Subsingleton.elim (α := Fin 1) _ _ | 1 => rfl⟩
  exact pay13_at (in_of_blk H) d

theorem out10_at : out0_10 x0 x1 x2 x3 x4 x5 x6 = G3 M := by
  unfold out0_10 k0_pay19 k0_pay20 k0_pay21 k0_pay22 k0_pay23
  rw [View.canon_cons_unit_lit _ _ _ (by decide)]
  simp only [ld_0, ld_1, ld_3, ld_5, ld_6]
  funext i
  obtain ⟨d, rfl⟩ : ∃ (d : Fin 640), i = ix2 0 d := ⟨i 1, by funext a; match a with | 0 => exact Subsingleton.elim (α := Fin 1) _ _ | 1 => rfl⟩
  exact pay14_at (in_of_blk H) d

theorem out11_at : out0_11 x0 x1 x2 x3 x4 x5 x6 = G4 M := by
  unfold out0_11 k0_pay19 k0_pay20 k0_pay21 k0_pay22 k0_pay23
  rw [View.canon_cons_unit_lit _ _ _ (by decide)]
  simp only [ld_0, ld_1, ld_3, ld_5, ld_6]
  funext i
  obtain ⟨b, d, rfl⟩ : ∃ (b : Fin 36) (d : Fin 640), i = ix2 b d := ⟨i 0, i 1, by funext a; match a with | 0 => rfl | 1 => rfl⟩
  exact pay15_at (in_of_blk H) b d

theorem out12_at : out0_12 x0 x1 x2 x3 x4 x5 x6 = G5 M := by
  unfold out0_12 k0_pay29 k0_pay19 k0_pay20 k0_pay21 k0_pay22 k0_pay23
  rw [View.canon_cons_unit_lit _ _ _ (by decide)]
  simp only [ld_0, ld_1, ld_3, ld_5, ld_6]
  funext i
  obtain ⟨b, d, rfl⟩ : ∃ (b : Fin 36) (d : Fin 640), i = ix2 b d := ⟨i 0, i 1, by funext a; match a with | 0 => rfl | 1 => rfl⟩
  exact pay11_at (in_of_blk H) b d

end

variable {m c} {M : ℕ → Pt}

theorem blk_of_reads (h : Reads m c M) (t : Fin cfg0.N) :
    Blk M (iblk m c 0 t) (iblk m c 1 t) (iblk m c 2 t) (iblk m c 3 t) (iblk m c 4 t) (iblk m c 5 t) (iblk m c 6 t) where
  h0 b s d := (blk0 m c t b s d).trans (h.x b s d)
  h1 b d := (blk1 m c t d).trans (h.γ b d)
  h2 b d := (blk2 m c t d).trans (h.β b d)
  h3 b d := (blk3 m c t b d).trans (h.es b d)
  h4 b d := (blk4 m c t b d).trans (h.esh b d)
  h5 b s d := (congrArg clampY (blk5 m c t b s d)).trans (h.y b s d)
  h6 b := (blk6 m c t).trans (h.q b)

/-- The grid's one point. -/
abbrev t₀ : Fin cfg0.N := ⟨0, by decide⟩

theorem arr7 (h : Reads m c M) : (dats m 0 c).arrAt 7 cfg0.N = G0 M := by
  funext j
  refine ((dats m 0 c).arrAt_emb_eq_after_last 7 t₀ (by decide +kernel) j).trans ?_
  show (dats m 0 c).after 7 t₀ _ = _
  rw [after0_7]
  exact congrFun (out7_at (blk_of_reads h t₀)) j
theorem arr8 (h : Reads m c M) : (dats m 0 c).arrAt 8 cfg0.N = G1 M := by
  funext j
  refine ((dats m 0 c).arrAt_emb_eq_after_last 8 t₀ (by decide +kernel) j).trans ?_
  show (dats m 0 c).after 8 t₀ _ = _
  rw [after0_8]
  exact congrFun (out8_at (blk_of_reads h t₀)) j
theorem arr9 (h : Reads m c M) : (dats m 0 c).arrAt 9 cfg0.N = G2 M := by
  funext j
  refine ((dats m 0 c).arrAt_emb_eq_after_last 9 t₀ (by decide +kernel) j).trans ?_
  show (dats m 0 c).after 9 t₀ _ = _
  rw [after0_9]
  exact congrFun (out9_at (blk_of_reads h t₀)) j
theorem arr10 (h : Reads m c M) : (dats m 0 c).arrAt 10 cfg0.N = G3 M := by
  funext j
  refine ((dats m 0 c).arrAt_emb_eq_after_last 10 t₀ (by decide +kernel) j).trans ?_
  show (dats m 0 c).after 10 t₀ _ = _
  rw [after0_10]
  exact congrFun (out10_at (blk_of_reads h t₀)) j
theorem arr11 (h : Reads m c M) : (dats m 0 c).arrAt 11 cfg0.N = G4 M := by
  funext j
  refine ((dats m 0 c).arrAt_emb_eq_after_last 11 t₀ (by decide +kernel) j).trans ?_
  show (dats m 0 c).after 11 t₀ _ = _
  rw [after0_11]
  exact congrFun (out11_at (blk_of_reads h t₀)) j
theorem arr12 (h : Reads m c M) : (dats m 0 c).arrAt 12 cfg0.N = G5 M := by
  funext j
  refine ((dats m 0 c).arrAt_emb_eq_after_last 12 t₀ (by decide +kernel) j).trans ?_
  show (dats m 0 c).after 12 t₀ _ = _
  rw [after0_12]
  exact congrFun (out12_at (blk_of_reads h t₀)) j

end Cert.ReferenceIdeal.Own
-- ==== Proof.Value.Post.lean ====
/-
   What the kernel's run leaves in its results, in the batch elements' data.
-/
module

public import proofs.«01_k».proof.Proof.Value.Ref

@[expose] public section

set_option maxRecDepth 65536
set_option maxHeartbeats 1000000

noncomputable section

namespace Cert.KernelIdeal.Own

open Cert.KernelIdeal Cert.KernelIdeal.Gen Cert.Value
open Idealize.ShloMosaic Idealize.ShloMosaic.TcCoe Idealize.ShloMosaic.Tactic Idealize.SL.Sem
open Idealize.ShloMosaic.Pipeline (Dat RDat)

/-- The grid's last point. -/
abbrev t35 : Fin cfg0.N := ⟨35, by decide⟩

theorem idx_inj7 : ∀ t t' : Fin cfg0.N, win0_7.index t = win0_7.index t' → t = t' := fun t t' h => by
  have h0 := (index7 t).1
  rw [h, (index7 t').1] at h0
  exact Fin.ext h0.symm

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

theorem flush7 : ∀ t : Fin cfg0.N, (cfg0.win 7).flush t = true :=
  (by decide +kernel : ∀ t : Fin grid0.N, (cfg0.win 7).flush t = true)

variable {M : ℕ → Pt} {m : (ℓ : Loc nD τ sig) → Buf (Elt Ideal) ℓ} {r : PUnit × MemSt nD τ sig (Elt Ideal)}
  (h : Pipeline.RDat.FramePost (cfgs 0) (fun c => (datv m c).toRRel forgets0 (Rl M)) (V m) r) (c : Dev nD)
include h

theorem res8 : r.2.mem ((c : Thread nD τ).loc main_v3_1) = G1 M := by
  funext j
  obtain ⟨X, hX, e⟩ := RDat.ArrAt.emb_eq_of_wholeAt ((h c).1 8) (t₀ := t35) (by decide +kernel)
  have hx : A9 M 36 X := (datv m c).toRRel_leaves rfl hX
  refine (e j).trans (Eq.trans (congrArg X (?_ : _ = ix2 (j 0) (j 1))) (hx (j 0) (j 1)))
  funext a
  match a with | 0 => rfl | 1 => rfl

theorem res9 : r.2.mem ((c : Thread nD τ).loc main_v3_2) = G2 M := by
  funext j
  obtain ⟨X, hX, e⟩ := RDat.ArrAt.emb_eq_of_wholeAt ((h c).1 9) (t₀ := t35) (by decide +kernel)
  have hx : A10 M 36 X := (datv m c).toRRel_leaves rfl hX
  refine (e j).trans (Eq.trans (congrArg X (?_ : _ = ix2 (n0 := 1) 0 (j 1))) (hx (j 1)))
  funext a
  match a with | 0 => exact Fin.ext (Nat.lt_one_iff.mp (j 0).isLt) | 1 => rfl

theorem res10 : r.2.mem ((c : Thread nD τ).loc main_v3_3) = G3 M := by
  funext j
  obtain ⟨X, hX, e⟩ := RDat.ArrAt.emb_eq_of_wholeAt ((h c).1 10) (t₀ := t35) (by decide +kernel)
  have hx : A11 M 36 X := (datv m c).toRRel_leaves rfl hX
  refine (e j).trans (Eq.trans (congrArg X (?_ : _ = ix2 (n0 := 1) 0 (j 1))) (hx (j 1)))
  funext a
  match a with | 0 => exact Fin.ext (Nat.lt_one_iff.mp (j 0).isLt) | 1 => rfl

theorem res11 : r.2.mem ((c : Thread nD τ).loc main_v3_4) = G4 M := by
  funext j
  obtain ⟨X, hX, e⟩ := RDat.ArrAt.emb_eq_of_wholeAt ((h c).1 11) (t₀ := t35) (by decide +kernel)
  have hx : A12 M 36 X := (datv m c).toRRel_leaves rfl hX
  refine (e j).trans (Eq.trans (congrArg X (?_ : _ = ix2 (j 0) (j 1))) (hx (j 0) (j 1) (j 0).isLt))
  funext a
  match a with | 0 => rfl | 1 => rfl

theorem res12 : r.2.mem ((c : Thread nD τ).loc main_v3_5) = G5 M := by
  funext j
  obtain ⟨X, hX, e⟩ := RDat.ArrAt.emb_eq_of_wholeAt ((h c).1 12) (t₀ := t35) (by decide +kernel)
  have hx : A13 M 36 X := (datv m c).toRRel_leaves rfl hX
  refine (e j).trans (Eq.trans (congrArg X (?_ : _ = ix2 (j 0) (j 1))) (hx (j 0) (j 1) (j 0).isLt))
  funext a
  match a with | 0 => rfl | 1 => rfl

theorem res7 : r.2.mem ((c : Thread nD τ).loc main_v3_0) = G0 M := by
  funext j
  obtain ⟨after, hL, e⟩ := Pipeline.RDat.FramePost.exists_exact h c
  have hj : (j 0).val < 36 := (j 0).isLt
  let t : Fin cfg0.N := ⟨(j 0).val, lt_of_lt_of_eq hj N_0.symm⟩
  have hx : A8 M t.val (after 7 t) := (datv m c).toRRel_leaves rfl (hL 7 t (flush7 t))
  have e7 := e 7
  have hb := Dat.read_blk_arrAt_eq_flushed (((datv m c).toRRel forgets0 (Rl M)).withAfter after) 7 disjoint7 cfg0.N t t.isLt (flush7 t)
  have hy := congrFun hb (ix3 (n0 := 1) 0 (j 1) (j 2))
  rw [← e7] at hy
  have hE : ((cfg0.win 7).blk t).view.emb (ix3 (n0 := 1) 0 (j 1) (j 2)) = j := by
    blk_ext! [index7 t]
    rfl
  have hz : r.2.mem ((c : Thread nD τ).loc main_v3_0) (((cfg0.win 7).blk t).view.emb (ix3 (n0 := 1) 0 (j 1) (j 2))) = after 7 t (ix3 (n0 := 1) 0 (j 1) (j 2)) := hy
  rw [hE] at hz
  exact hz.trans (hx (j 1) (j 2))

end Cert.KernelIdeal.Own
-- ==== Proof.Value.Finite.lean ====
/-
   The precondition: the arguments it names hold reals.
-/
module

public import proofs.«01_k».proof.Defs
public import proofs.«01_k».proof.Proof.Value.Post
public import Idealize.ShloMosaic.Lib.ReduceAll

@[expose] public section

set_option maxRecDepth 65536
set_option maxHeartbeats 1000000

noncomputable section

namespace Cert.Value

open Idealize.ShloMosaic Idealize.ShloMosaic.TcCoe

theorem finiteFacts : Cert.Pre_finite_args.Facts where
  bcast_S_S36x1024x640 := by decide
  reducesTo_S36x1024x640_S_d0_1_2 := by decide
  h_S_ := by decide
  bcast_S_S640 := by decide
  reducesTo_S640_S_d0 := by decide
  bcast_S_S36x640 := by decide
  reducesTo_S36x640_S_d0_1 := by decide
  reducesTo_S_S_d := by decide

theorem ofBits_inf : Ideal.ofBits .f32 0x7F800000#32 = ⊤ := by
  simp [Ideal.ofBits, Ideal.ieee]
theorem ofBits_inf16 : Ideal.ofBits .bf16 0x7F80#16 = ⊤ := by
  simp [Ideal.ofBits, Ideal.ieee]

/-- A value whose magnitude is below infinity is a real. -/
theorem real_of_cmp (v : EReal) (h : Ideal.cmp .olt (max v (-v)) ⊤ = 1#1) : v = ((v.toReal : ℝ) : EReal) := by
  have hd : max v (-v) < ⊤ := by
    by_contra hn
    rw [show Ideal.cmp .olt (max v (-v)) ⊤ = BitVec.ofBool (decide (max v (-v) < ⊤)) from rfl, decide_eq_false hn] at h
    exact absurd h (by decide)
  refine (EReal.coe_toReal ?_ ?_).symm
  · rintro rfl; simp at hd
  · rintro rfl; simp at hd

/-- A number below `n`, as an index. -/
def fi (n : ℕ) [NeZero n] (k : ℕ) : Fin n := ⟨k % n, Nat.mod_lt _ (Nat.pos_of_neZero n)⟩
theorem fi_val {n : ℕ} [NeZero n] (k : Fin n) : fi n k.val = k := Fin.ext (Nat.mod_eq_of_lt k.isLt)

section
variable [Cert.Pre_finite_args.Facts]

theorem finite_args {x0 : FVec Ideal Cert.Pre_finite_args.S36x1024x640 .bf16} {x1 x2 : FVec Ideal Cert.Pre_finite_args.S640 .f32}
    {x3 x4 : FVec Ideal Cert.Pre_finite_args.S36x640 .f32} {x5 : FVec Ideal Cert.Pre_finite_args.S36x1024x640 .fp8e5m2} {x6 : FVec Ideal Cert.Pre_finite_args.S_ .f32}
    (h : Cert.Pre_finite_args.fn (F := Ideal) x0 x1 x2 x3 x4 x5 x6 = fun _ => 1#1) :
    (∀ i, x0 i = (((x0 i).toReal : ℝ) : EReal)) ∧ (∀ i, x1 i = (((x1 i).toReal : ℝ) : EReal))
    ∧ (∀ i, x3 i = (((x3 i).toReal : ℝ) : EReal)) ∧ (∀ i, x6 i = (((x6 i).toReal : ℝ) : EReal)) := by
  have h0 := congrFun h ix0
  unfold Cert.Pre_finite_args.fn Cert.Pre_finite_args.fn_part1 at h0
  obtain ⟨h0, h6⟩ := IntOp.andi_eq_one.1 h0
  obtain ⟨h0, h3⟩ := IntOp.andi_eq_one.1 h0
  obtain ⟨h0, h1⟩ := IntOp.andi_eq_one.1 h0
  refine ⟨fun i => ?_, fun i => ?_, fun i => ?_, fun i => ?_⟩
  · have e := Host.reduce_andi_all _ _ _ _ _ h0 i
    exact real_of_cmp _ (by rw [← ofBits_inf16]; exact e)
  · have e := Host.reduce_andi_all _ _ _ _ _ h1 i
    exact real_of_cmp _ (by rw [← ofBits_inf]; exact e)
  · have e := Host.reduce_andi_all _ _ _ _ _ h3 i
    exact real_of_cmp _ (by rw [← ofBits_inf]; exact e)
  · have e := Host.reduce_andi_all _ _ _ _ _ h6 i
    exact real_of_cmp _ (by rw [← ofBits_inf]; exact e)

end

open Cert.KernelIdeal (nD τ sig main_arg0 main_arg1 main_arg2 main_arg3 main_arg4 main_arg5 main_arg6)

/-- The batch elements' data, from a core's argument arrays. -/
def data (m : (ℓ : Loc nD τ sig) → Buf (Elt Ideal) ℓ) (c : Dev nD) (b : ℕ) : Pt where
  X s d := EReal.toReal (m ((c : Thread nD τ).loc main_arg0) (ix3 (fi 36 b) (fi 1024 s) (fi 640 d)))
  Y s d := clampY (m ((c : Thread nD τ).loc main_arg5) (ix3 (fi 36 b) (fi 1024 s) (fi 640 d)))
  γ d := EReal.toReal (m ((c : Thread nD τ).loc main_arg1) (ix1 (fi 640 d)))
  β d := m ((c : Thread nD τ).loc main_arg2) (ix1 (fi 640 d))
  es d := EReal.toReal (m ((c : Thread nD τ).loc main_arg3) (ix2 (fi 36 b) (fi 640 d)))
  esh d := m ((c : Thread nD τ).loc main_arg4) (ix2 (fi 36 b) (fi 640 d))
  q := EReal.toReal (m ((c : Thread nD τ).loc main_arg6) ix0)

theorem reads_of_finite [Cert.Pre_finite_args.Facts] (m : (ℓ : Loc nD τ sig) → Buf (Elt Ideal) ℓ) (hP : Cert.Pre_KernelIdeal_finite_args m) (c : Dev nD) :
    Cert.KernelIdeal.Own.Reads m c (data m c) := by
  obtain ⟨h0, h1, h3, h6⟩ := finite_args (hP c)
  refine ⟨fun b s d => ?_, fun b s d => ?_, fun b d => ?_, fun b d => ?_, fun b d => ?_, fun b d => ?_, fun b => h6 _⟩
  · simp only [data, fi_val]; exact h0 _
  · simp only [data, fi_val]
  · simp only [data, fi_val]; exact h1 _
  · simp only [data, fi_val]
  · simp only [data, fi_val]; exact h3 _
  · simp only [data, fi_val]

end Cert.Value
-- ==== Proof.Value.Final.lean ====
/-
   The kernel's ideal reading and the reference end with the same arrays.
-/
module

public import proofs.«01_k».proof.Defs
public import proofs.«01_k».proof.Proof.Value.Finite
public import proofs.«01_k».proof.Proof.Gen.ReferenceIdeal.Value

@[expose] public section

set_option maxRecDepth 65536
set_option maxHeartbeats 1000000

noncomputable section

namespace Cert.Value

open Idealize.ShloMosaic Idealize.ShloMosaic.TcCoe

theorem algebraic [Cert.Pre_finite_args.Facts] : Cert.algebraic_KernelIdeal_ReferenceIdeal_pre_finite_args := by
  intro m g m' g' hP hm
  have hR : ∀ c, Cert.KernelIdeal.Own.Reads m c (data m (0 : Fin 1)) := fun c => by
    obtain rfl : c = (0 : Fin 1) := Subsingleton.elim (α := Fin 1) c 0
    exact reads_of_finite m hP _
  have hR' : ∀ c, Cert.ReferenceIdeal.Own.Reads m' c (data m (0 : Fin 1)) := fun c => by
    obtain ⟨e0, e1, e2, e3, e4, e5, e6⟩ := hm c
    obtain ⟨x, y, γ, β, es, esh, q⟩ := hR c
    exact ⟨fun b s d => (congrFun e0 _).trans (x b s d), fun b s d => (congrArg clampY (congrFun e5 _)).trans (y b s d),
      fun b d => (congrFun e1 _).trans (γ b d), fun b d => (congrFun e2 _).trans (β b d),
      fun b d => (congrFun e3 _).trans (es b d), fun b d => (congrFun e4 _).trans (esh b d), fun b => (congrFun e6 _).trans (q b)⟩
  generalize data m (0 : Fin 1) = M at hR hR'
  refine ⟨fun _ => G0 M, fun _ => G1 M, fun _ => G2 M, fun _ => G3 M, fun _ => G4 M, fun _ => G5 M, ?_, ?_⟩
  · exact (θ_run _ _ _).mono (fun r h c => ⟨Cert.KernelIdeal.Own.res7 h c, Cert.KernelIdeal.Own.res8 h c, Cert.KernelIdeal.Own.res9 h c,
      Cert.KernelIdeal.Own.res10 h c, Cert.KernelIdeal.Own.res11 h c, Cert.KernelIdeal.Own.res12 h c,
      Cert.KernelIdeal.Own.unchanged_of m (fun _ _ => rfl) h c⟩) (Cert.KernelIdeal.Own.run_value M m g hR)
  · refine (θ_run _ _ _).mono (fun r h c => ?_) (Cert.ReferenceIdeal.Value.run_blocks m' g')
    obtain ⟨h7, h8, h9, h10, h11, h12, ha⟩ := h c
    exact ⟨h7.trans (Cert.ReferenceIdeal.Own.arr7 (hR' c)), h8.trans (Cert.ReferenceIdeal.Own.arr8 (hR' c)),
      h9.trans (Cert.ReferenceIdeal.Own.arr9 (hR' c)), h10.trans (Cert.ReferenceIdeal.Own.arr10 (hR' c)),
      h11.trans (Cert.ReferenceIdeal.Own.arr11 (hR' c)), h12.trans (Cert.ReferenceIdeal.Own.arr12 (hR' c)), ha⟩

end Cert.Value
-- ==== Proof.lean ====
/- The proof of the claims of this directory. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Kernel.Frame
public import proofs.«01_k».proof.Proof.KernelIdeal.Frame
public import proofs.«01_k».proof.Proof.Value.Final

@[expose] public section

noncomputable section

namespace Cert.Proof

open Idealize.ShloMosaic Idealize.SL.Sem

/-- The first call, its ideal reading and the reference end without fault and keep their arguments; over the
    extended reals, where x, gamma, emb_scale and dy_scale are finite, the call and the reference end with the same six arrays. -/
theorem claim : Cert.Claim :=
  ⟨Cert.Kernel.Gen.facts, Cert.KernelIdeal.Gen.facts, Cert.ReferenceIdeal.Gen.facts, Cert.Value.finiteFacts,
    fun m ρ _ => Cert.Kernel.Own.frame m ρ,
    fun m ρ _ => Cert.KernelIdeal.Own.frame m ρ,
    fun m ρ _ => Cert.KernelIdeal.Own.frame m ρ,
    fun m ρ _ => Cert.ReferenceIdeal.Gen.frame m ρ,
    fun m ρ _ => Cert.ReferenceIdeal.Gen.frame m ρ,
    trivial,
    @Cert.Value.algebraic Cert.Value.finiteFacts⟩

end Cert.Proof

end
